-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v4) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88_0) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_v88_1) = v2 c
          ∧ r.2.mem ((c.tc : Thread Cert.ReferenceIdeal.nD Cert.ReferenceIdeal.τ).loc Cert.ReferenceIdeal.main_v84) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S31x2048x2560 : Shape := ⟨3, ![31, 2048, 2560]⟩
abbrev S31x2048x1280 : Shape := ⟨3, ![31, 2048, 1280]⟩
abbrev S4x128x256 : Shape := ⟨3, ![4, 128, 256]⟩
abbrev S63488x2560 : Shape := ⟨2, ![63488, 2560]⟩
abbrev S63488x1280 : Shape := ⟨2, ![63488, 1280]⟩
abbrev S20x63488 : Shape := ⟨2, ![20, 63488]⟩
abbrev S2560x63488 : Shape := ⟨2, ![2560, 63488]⟩
abbrev S496x2560 : Shape := ⟨2, ![496, 2560]⟩
abbrev S1024x2560 : Shape := ⟨2, ![1024, 2560]⟩
abbrev S1024x1280 : Shape := ⟨2, ![1024, 1280]⟩
abbrev S20x1024 : Shape := ⟨2, ![20, 1024]⟩
abbrev S2560x1024 : Shape := ⟨2, ![2560, 1024]⟩
abbrev S8x2560 : Shape := ⟨2, ![8, 2560]⟩
abbrev S256x256 : Shape := ⟨2, ![256, 256]⟩
abbrev S8x8x128 : Shape := ⟨3, ![8, 8, 128]⟩
abbrev S128x128 : Shape := ⟨2, ![128, 128]⟩
abbrev S4x8x2560 : Shape := ⟨3, ![4, 8, 2560]⟩
abbrev S16x128 : Shape := ⟨2, ![16, 128]⟩
abbrev S8x128 : Shape := ⟨2, ![8, 128]⟩
abbrev S1x8x128 : Shape := ⟨3, ![1, 8, 128]⟩
abbrev S8x1x128 : Shape := ⟨3, ![8, 1, 128]⟩
abbrev S1x128 : Shape := ⟨2, ![1, 128]⟩
abbrev S128 : Shape := ⟨1, ![128]⟩
abbrev S1x1x128 : Shape := ⟨3, ![1, 1, 128]⟩
abbrev S128x8 : Shape := ⟨2, ![128, 8]⟩
abbrev S1x128x256 : Shape := ⟨3, ![1, 128, 256]⟩
abbrev S128x256 : Shape := ⟨2, ![128, 256]⟩
abbrev S32x256 : Shape := ⟨2, ![32, 256]⟩
abbrev S1x2x2560 : Shape := ⟨3, ![1, 2, 2560]⟩
abbrev S2x2560 : Shape := ⟨2, ![2, 2560]⟩
abbrev S63488x20 : Shape := ⟨2, ![63488, 20]⟩
abbrev S2560x496 : Shape := ⟨2, ![2560, 496]⟩

abbrev nBuf : Space → Nat
  | .hbm => 11
  | .vmem => 18
  | .smem => 0
  | _ => 0

abbrev bufTy : (tb : Table) → Fin (tcTables nBuf tb) → BufTy
  | .hbm, ⟨0, _⟩ => ⟨S31x2048x2560, .bf16⟩
  | .hbm, ⟨1, _⟩ => ⟨S31x2048x1280, .bf16⟩
  | .hbm, ⟨2, _⟩ => ⟨S4x128x256, .bf16⟩
  | .hbm, ⟨3, _⟩ => ⟨S63488x2560, .bf16⟩
  | .hbm, ⟨4, _⟩ => ⟨S63488x1280, .bf16⟩
  | .hbm, ⟨5, _⟩ => ⟨S63488x2560, .fp8e4m3⟩
  | .hbm, ⟨6, _⟩ => ⟨S20x63488, .f32⟩
  | .hbm, ⟨7, _⟩ => ⟨S2560x63488, .fp8e4m3⟩
  | .hbm, ⟨8, _⟩ => ⟨S496x2560, .f32⟩
  | .hbm, ⟨9, _⟩ => ⟨S63488x20, .f32⟩
  | .hbm, ⟨10, _⟩ => ⟨S2560x496, .f32⟩
  | .local _ .vmem, ⟨0, _⟩ => ⟨S4x128x256, .bf16⟩
  | .local _ .vmem, ⟨1, _⟩ => ⟨S1024x2560, .bf16⟩
  | .local _ .vmem, ⟨2, _⟩ => ⟨S1024x2560, .bf16⟩
  | .local _ .vmem, ⟨3, _⟩ => ⟨S1024x1280, .bf16⟩
  | .local _ .vmem, ⟨4, _⟩ => ⟨S1024x1280, .bf16⟩
  | .local _ .vmem, ⟨5, _⟩ => ⟨S1024x2560, .fp8e4m3⟩
  | .local _ .vmem, ⟨6, _⟩ => ⟨S1024x2560, .fp8e4m3⟩
  | .local _ .vmem, ⟨7, _⟩ => ⟨S20x1024, .f32⟩
  | .local _ .vmem, ⟨8, _⟩ => ⟨S20x1024, .f32⟩
  | .local _ .vmem, ⟨9, _⟩ => ⟨S2560x1024, .fp8e4m3⟩
  | .local _ .vmem, ⟨10, _⟩ => ⟨S2560x1024, .fp8e4m3⟩
  | .local _ .vmem, ⟨11, _⟩ => ⟨S8x2560, .f32⟩
  | .local _ .vmem, ⟨12, _⟩ => ⟨S8x2560, .f32⟩
  | .local _ .vmem, ⟨13, _⟩ => ⟨S256x256, .f32⟩
  | .local _ .vmem, ⟨14, _⟩ => ⟨S256x256, .f32⟩
  | .local _ .vmem, ⟨15, _⟩ => ⟨S8x8x128, .f32⟩
  | .local _ .vmem, ⟨16, _⟩ => ⟨S128x128, .bf16⟩
  | .local _ .vmem, ⟨17, _⟩ => ⟨S4x8x2560, .f32⟩
  | _, _ => ⟨S31x2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![62], ![false]⟩

@[reducible] def k0_t1_loop : Scf.Loop 32 :=
  let c0_i32_1 : BitVec 32 := 0#32
  let c4_i32 : BitVec 32 := 4#32
  let v3 : BitVec 32 := Scalar.addi c0_i32_1 c4_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32 : BitVec 32 := 256#32
  let v16 : BitVec 32 := Scalar.muli arg13 c256_i32
  v16
def k0_off1 (k0_t1 : Fin k0_t1_loop.trips) (c0_i32_17 : BitVec 32) : Fin 2 → Nat :=
  let c0_i32_1 : BitVec 32 := 0#32
  let c1_i32 : BitVec 32 := 1#32
  let arg13 : BitVec 32 := Scf.iv c0_i32_1 c1_i32 k0_t1
  let c256_i32 : BitVec 32 := 256#32
  let v16 : BitVec 32 := Scalar.muli arg13 c256_i32
  let v17 : BitVec 32 := v16
  let v18 : BitVec 32 := Scalar.addi v17 c0_i32_17
  let v19 : Index := Scalar.indexCast v18
  let c0_18 : Index := 0#32
  ![v19.toNat, 0]
def k0_off2 (k0_t1 : Fin k0_t1_loop.trips) (c0_i32_17 : BitVec 32) : Fin 2 → Nat :=
  let c0_i32_1 : BitVec 32 := 0#32
  let c1_i32 : BitVec 32 := 1#32
  let arg13 : BitVec 32 := Scf.iv c0_i32_1 c1_i32 k0_t1
  let c256_i32 : BitVec 32 := 256#32
  let v16 : BitVec 32 := Scalar.muli arg13 c256_i32
  let v17 : BitVec 32 := v16
  let v18 : BitVec 32 := Scalar.addi v17 c0_i32_17
  let v23 : Index := Scalar.indexCast v18
  let c128 : Index := 128#32
  ![v23.toNat, 128]
def k0_off3 (k0_t1 : Fin k0_t1_loop.trips) (c0_i32_17 : BitVec 32) : Fin 2 → Nat :=
  let c0_i32_1 : BitVec 32 := 0#32
  let c1_i32 : BitVec 32 := 1#32
  let arg13 : BitVec 32 := Scf.iv c0_i32_1 c1_i32 k0_t1
  let c256_i32 : BitVec 32 := 256#32
  let v16 : BitVec 32 := Scalar.muli arg13 c256_i32
  let v17 : BitVec 32 := v16
  let v18 : BitVec 32 := Scalar.addi v17 c0_i32_17
  let v27 : Index := Scalar.indexCast v18
  let c0_19 : Index := 0#32
  ![v27.toNat, 0]
def k0_off4 (k0_t1 : Fin k0_t1_loop.trips) (c0_i32_283 : BitVec 32) : Fin 2 → Nat :=
  let c0_284 : Index := 0#32
  let c0_i32_1 : BitVec 32 := 0#32
  let c1_i32 : BitVec 32 := 1#32
  let arg13 : BitVec 32 := Scf.iv c0_i32_1 c1_i32 k0_t1
  let c256_i32 : BitVec 32 := 256#32
  let v16 : BitVec 32 := Scalar.muli arg13 c256_i32
  let v17 : BitVec 32 := v16
  let v1133 : BitVec 32 := Scalar.addi v17 c0_i32_283
  let v1134 : Index := Scalar.indexCast v1133
  ![0, v1134.toNat]
def k0_off5 (k0_t1 : Fin k0_t1_loop.trips) : Fin 3 → Nat :=
  let c0_i32_1 : BitVec 32 := 0#32
  let c1_i32 : BitVec 32 := 1#32
  let arg13 : BitVec 32 := Scf.iv c0_i32_1 c1_i32 k0_t1
  let v1140 : Index := Scalar.indexCast arg13
  let c0_285 : Index := 0#32
  let c0_286 : Index := 0#32
  ![v1140.toNat, 0, 0]
def k0_off6 (k0_t1 : Fin k0_t1_loop.trips) : Fin 3 → Nat :=
  let c0_i32_1 : BitVec 32 := 0#32
  let c1_i32 : BitVec 32 := 1#32
  let arg13 : BitVec 32 := Scf.iv c0_i32_1 c1_i32 k0_t1
  let v1153 : Index := Scalar.indexCast arg13
  let c1_289 : Index := 1#32
  let c0_290 : Index := 0#32
  ![v1153.toNat, 1, 0]
def k0_off7 (k0_t1 : Fin k0_t1_loop.trips) (c0_i32_291 : BitVec 32) : Fin 2 → Nat :=
  let c1_292 : Index := 1#32
  let c0_i32_1 : BitVec 32 := 0#32
  let c1_i32 : BitVec 32 := 1#32
  let arg13 : BitVec 32 := Scf.iv c0_i32_1 c1_i32 k0_t1
  let c256_i32 : BitVec 32 := 256#32
  let v16 : BitVec 32 := Scalar.muli arg13 c256_i32
  let v17 : BitVec 32 := v16
  let v1159 : BitVec 32 := Scalar.addi v17 c0_i32_291
  let v1160 : Index := Scalar.indexCast v1159
  ![1, v1160.toNat]
def k0_off8 (k0_t1 : Fin k0_t1_loop.trips) : Fin 3 → Nat :=
  let c0_i32_1 : BitVec 32 := 0#32
  let c1_i32 : BitVec 32 := 1#32
  let arg13 : BitVec 32 := Scf.iv c0_i32_1 c1_i32 k0_t1
  let v1166 : Index := Scalar.indexCast arg13
  let c0_293 : Index := 0#32
  let c128_294 : Index := 128#32
  ![v1166.toNat, 0, 128]
def k0_off9 (k0_t1 : Fin k0_t1_loop.trips) : Fin 3 → Nat :=
  let c0_i32_1 : BitVec 32 := 0#32
  let c1_i32 : BitVec 32 := 1#32
  let arg13 : BitVec 32 := Scf.iv c0_i32_1 c1_i32 k0_t1
  let v1179 : Index := Scalar.indexCast arg13
  let c1_297 : Index := 1#32
  let c128_298 : Index := 128#32
  ![v1179.toNat, 1, 128]
def k0_off10 (k0_t1 : Fin k0_t1_loop.trips) (c0_i32_311 : BitVec 32) : Fin 2 → Nat :=
  let c0_i32_1 : BitVec 32 := 0#32
  let c1_i32 : BitVec 32 := 1#32
  let arg13 : BitVec 32 := Scf.iv c0_i32_1 c1_i32 k0_t1
  let c256_i32 : BitVec 32 := 256#32
  let v16 : BitVec 32 := Scalar.muli arg13 c256_i32
  let v17 : BitVec 32 := v16
  let v1200 : BitVec 32 := Scalar.addi v17 c0_i32_311
  let v1201 : Index := Scalar.indexCast v1200
  let c0_312 : Index := 0#32
  ![v1201.toNat, 0]
def k0_off11 (k0_t1 : Fin k0_t1_loop.trips) : Fin 2 → Nat :=
  let c0_367 : Index := 0#32
  let c0_i32_1 : BitVec 32 := 0#32
  let c1_i32 : BitVec 32 := 1#32
  let arg13 : BitVec 32 := Scf.iv c0_i32_1 c1_i32 k0_t1
  let c256_i32 : BitVec 32 := 256#32
  let v16 : BitVec 32 := Scalar.muli arg13 c256_i32
  let v17 : BitVec 32 := v16
  let v1294 : Index := Scalar.indexCast v17
  ![0, v1294.toNat]
def k0_off12 (k0_t1 : Fin k0_t1_loop.trips) : Fin 2 → Nat :=
  let c32_372 : Index := 32#32
  let c0_i32_1 : BitVec 32 := 0#32
  let c1_i32 : BitVec 32 := 1#32
  let arg13 : BitVec 32 := Scf.iv c0_i32_1 c1_i32 k0_t1
  let c256_i32 : BitVec 32 := 256#32
  let v16 : BitVec 32 := Scalar.muli arg13 c256_i32
  let v17 : BitVec 32 := v16
  let v1304 : Index := Scalar.indexCast v17
  ![32, v1304.toNat]
def k0_off13 (k0_t1 : Fin k0_t1_loop.trips) : Fin 2 → Nat :=
  let c64_377 : Index := 64#32
  let c0_i32_1 : BitVec 32 := 0#32
  let c1_i32 : BitVec 32 := 1#32
  let arg13 : BitVec 32 := Scf.iv c0_i32_1 c1_i32 k0_t1
  let c256_i32 : BitVec 32 := 256#32
  let v16 : BitVec 32 := Scalar.muli arg13 c256_i32
  let v17 : BitVec 32 := v16
  let v1314 : Index := Scalar.indexCast v17
  ![64, v1314.toNat]
def k0_off14 (k0_t1 : Fin k0_t1_loop.trips) : Fin 2 → Nat :=
  let c96_382 : Index := 96#32
  let c0_i32_1 : BitVec 32 := 0#32
  let c1_i32 : BitVec 32 := 1#32
  let arg13 : BitVec 32 := Scf.iv c0_i32_1 c1_i32 k0_t1
  let c256_i32 : BitVec 32 := 256#32
  let v16 : BitVec 32 := Scalar.muli arg13 c256_i32
  let v17 : BitVec 32 := v16
  let v1324 : Index := Scalar.indexCast v17
  ![96, v1324.toNat]
def k0_off15 (k0_t1 : Fin k0_t1_loop.trips) : Fin 2 → Nat :=
  let c128_391 : Index := 128#32
  let c0_i32_1 : BitVec 32 := 0#32
  let c1_i32 : BitVec 32 := 1#32
  let arg13 : BitVec 32 := Scf.iv c0_i32_1 c1_i32 k0_t1
  let c256_i32 : BitVec 32 := 256#32
  let v16 : BitVec 32 := Scalar.muli arg13 c256_i32
  let v17 : BitVec 32 := v16
  let v1337 : Index := Scalar.indexCast v17
  ![128, v1337.toNat]
def k0_off16 (k0_t1 : Fin k0_t1_loop.trips) : Fin 2 → Nat :=
  let c160_396 : Index := 160#32
  let c0_i32_1 : BitVec 32 := 0#32
  let c1_i32 : BitVec 32 := 1#32
  let arg13 : BitVec 32 := Scf.iv c0_i32_1 c1_i32 k0_t1
  let c256_i32 : BitVec 32 := 256#32
  let v16 : BitVec 32 := Scalar.muli arg13 c256_i32
  let v17 : BitVec 32 := v16
  let v1347 : Index := Scalar.indexCast v17
  ![160, v1347.toNat]
def k0_off17 (k0_t1 : Fin k0_t1_loop.trips) : Fin 2 → Nat :=
  let c192_401 : Index := 192#32
  let c0_i32_1 : BitVec 32 := 0#32
  let c1_i32 : BitVec 32 := 1#32
  let arg13 : BitVec 32 := Scf.iv c0_i32_1 c1_i32 k0_t1
  let c256_i32 : BitVec 32 := 256#32
  let v16 : BitVec 32 := Scalar.muli arg13 c256_i32
  let v17 : BitVec 32 := v16
  let v1357 : Index := Scalar.indexCast v17
  ![192, v1357.toNat]
def k0_off18 (k0_t1 : Fin k0_t1_loop.trips) : Fin 2 → Nat :=
  let c224_406 : Index := 224#32
  let c0_i32_1 : BitVec 32 := 0#32
  let c1_i32 : BitVec 32 := 1#32
  let arg13 : BitVec 32 := Scf.iv c0_i32_1 c1_i32 k0_t1
  let c256_i32 : BitVec 32 := 256#32
  let v16 : BitVec 32 := Scalar.muli arg13 c256_i32
  let v17 : BitVec 32 := v16
  let v1367 : Index := Scalar.indexCast v17
  ![224, v1367.toNat]
def k0_mult2 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_407 : BitVec 32 := 256#32
  let v1369 : BitVec 32 := Scalar.muli arg13 c256_i32_407
  v1369
def k0_off19 (k0_t1 : Fin k0_t1_loop.trips) (c0_i32_408 : BitVec 32) : Fin 2 → Nat :=
  let c0_i32_1 : BitVec 32 := 0#32
  let c1_i32 : BitVec 32 := 1#32
  let arg13 : BitVec 32 := Scf.iv c0_i32_1 c1_i32 k0_t1
  let c256_i32_407 : BitVec 32 := 256#32
  let v1369 : BitVec 32 := Scalar.muli arg13 c256_i32_407
  let v1370 : BitVec 32 := v1369
  let v1371 : BitVec 32 := Scalar.addi v1370 c0_i32_408
  let v1372 : Index := Scalar.indexCast v1371
  let c256 : Index := 256#32
  ![v1372.toNat, 256]
def k0_off20 (k0_t1 : Fin k0_t1_loop.trips) (c0_i32_408 : BitVec 32) : Fin 2 → Nat :=
  let c0_i32_1 : BitVec 32 := 0#32
  let c1_i32 : BitVec 32 := 1#32
  let arg13 : BitVec 32 := Scf.iv c0_i32_1 c1_i32 k0_t1
  let c256_i32_407 : BitVec 32 := 256#32
  let v1369 : BitVec 32 := Scalar.muli arg13 c256_i32_407
  let v1370 : BitVec 32 := v1369
  let v1371 : BitVec 32 := Scalar.addi v1370 c0_i32_408
  let v1376 : Index := Scalar.indexCast v1371
  let c384 : Index := 384#32
  ![v1376.toNat, 384]
def k0_off21 (k0_t1 : Fin k0_t1_loop.trips) (c0_i32_408 : BitVec 32) : Fin 2 → Nat :=
  let c0_i32_1 : BitVec 32 := 0#32
  let c1_i32 : BitVec 32 := 1#32
  let arg13 : BitVec 32 := Scf.iv c0_i32_1 c1_i32 k0_t1
  let c256_i32_407 : BitVec 32 := 256#32
  let v1369 : BitVec 32 := Scalar.muli arg13 c256_i32_407
  let v1370 : BitVec 32 := v1369
  let v1371 : BitVec 32 := Scalar.addi v1370 c0_i32_408
  let v1380 : Index := Scalar.indexCast v1371
  let c128_409 : Index := 128#32
  ![v1380.toNat, 128]
def k0_off22 (k0_t1 : Fin k0_t1_loop.trips) (c0_i32_712 : BitVec 32) : Fin 2 → Nat :=
  let c2_713 : Index := 2#32
  let c0_i32_1 : BitVec 32 := 0#32
  let c1_i32 : BitVec 32 := 1#32
  let arg13 : BitVec 32 := Scf.iv c0_i32_1 c1_i32 k0_t1
  let c256_i32_407 : BitVec 32 := 256#32
  let v1369 : BitVec 32 := Scalar.muli arg13 c256_i32_407
  let v1370 : BitVec 32 := v1369
  let v2486 : BitVec 32 := Scalar.addi v1370 c0_i32_712
  let v2487 : Index := Scalar.indexCast v2486
  ![2, v2487.toNat]
def k0_off23 (k0_t1 : Fin k0_t1_loop.trips) : Fin 3 → Nat :=
  let c0_i32_1 : BitVec 32 := 0#32
  let c1_i32 : BitVec 32 := 1#32
  let arg13 : BitVec 32 := Scf.iv c0_i32_1 c1_i32 k0_t1
  let v2493 : Index := Scalar.indexCast arg13
  let c0_714 : Index := 0#32
  let c256_715 : Index := 256#32
  ![v2493.toNat, 0, 256]
def k0_off24 (k0_t1 : Fin k0_t1_loop.trips) : Fin 3 → Nat :=
  let c0_i32_1 : BitVec 32 := 0#32
  let c1_i32 : BitVec 32 := 1#32
  let arg13 : BitVec 32 := Scf.iv c0_i32_1 c1_i32 k0_t1
  let v2506 : Index := Scalar.indexCast arg13
  let c1_718 : Index := 1#32
  let c256_719 : Index := 256#32
  ![v2506.toNat, 1, 256]
def k0_off25 (k0_t1 : Fin k0_t1_loop.trips) (c0_i32_720 : BitVec 32) : Fin 2 → Nat :=
  let c3_721 : Index := 3#32
  let c0_i32_1 : BitVec 32 := 0#32
  let c1_i32 : BitVec 32 := 1#32
  let arg13 : BitVec 32 := Scf.iv c0_i32_1 c1_i32 k0_t1
  let c256_i32_407 : BitVec 32 := 256#32
  let v1369 : BitVec 32 := Scalar.muli arg13 c256_i32_407
  let v1370 : BitVec 32 := v1369
  let v2512 : BitVec 32 := Scalar.addi v1370 c0_i32_720
  let v2513 : Index := Scalar.indexCast v2512
  ![3, v2513.toNat]
def k0_off26 (k0_t1 : Fin k0_t1_loop.trips) : Fin 3 → Nat :=
  let c0_i32_1 : BitVec 32 := 0#32
  let c1_i32 : BitVec 32 := 1#32
  let arg13 : BitVec 32 := Scf.iv c0_i32_1 c1_i32 k0_t1
  let v2519 : Index := Scalar.indexCast arg13
  let c0_722 : Index := 0#32
  let c384_723 : Index := 384#32
  ![v2519.toNat, 0, 384]
def k0_off27 (k0_t1 : Fin k0_t1_loop.trips) : Fin 3 → Nat :=
  let c0_i32_1 : BitVec 32 := 0#32
  let c1_i32 : BitVec 32 := 1#32
  let arg13 : BitVec 32 := Scf.iv c0_i32_1 c1_i32 k0_t1
  let v2532 : Index := Scalar.indexCast arg13
  let c1_726 : Index := 1#32
  let c384_727 : Index := 384#32
  ![v2532.toNat, 1, 384]
def k0_off28 (k0_t1 : Fin k0_t1_loop.trips) (c0_i32_740 : BitVec 32) : Fin 2 → Nat :=
  let c0_i32_1 : BitVec 32 := 0#32
  let c1_i32 : BitVec 32 := 1#32
  let arg13 : BitVec 32 := Scf.iv c0_i32_1 c1_i32 k0_t1
  let c256_i32_407 : BitVec 32 := 256#32
  let v1369 : BitVec 32 := Scalar.muli arg13 c256_i32_407
  let v1370 : BitVec 32 := v1369
  let v2553 : BitVec 32 := Scalar.addi v1370 c0_i32_740
  let v2554 : Index := Scalar.indexCast v2553
  let c256_741 : Index := 256#32
  ![v2554.toNat, 256]
def k0_off29 (k0_t1 : Fin k0_t1_loop.trips) : Fin 2 → Nat :=
  let c256_796 : Index := 256#32
  let c0_i32_1 : BitVec 32 := 0#32
  let c1_i32 : BitVec 32 := 1#32
  let arg13 : BitVec 32 := Scf.iv c0_i32_1 c1_i32 k0_t1
  let c256_i32_407 : BitVec 32 := 256#32
  let v1369 : BitVec 32 := Scalar.muli arg13 c256_i32_407
  let v1370 : BitVec 32 := v1369
  let v2647 : Index := Scalar.indexCast v1370
  ![256, v2647.toNat]
def k0_off30 (k0_t1 : Fin k0_t1_loop.trips) : Fin 2 → Nat :=
  let c288 : Index := 288#32
  let c0_i32_1 : BitVec 32 := 0#32
  let c1_i32 : BitVec 32 := 1#32
  let arg13 : BitVec 32 := Scf.iv c0_i32_1 c1_i32 k0_t1
  let c256_i32_407 : BitVec 32 := 256#32
  let v1369 : BitVec 32 := Scalar.muli arg13 c256_i32_407
  let v1370 : BitVec 32 := v1369
  let v2657 : Index := Scalar.indexCast v1370
  ![288, v2657.toNat]
def k0_off31 (k0_t1 : Fin k0_t1_loop.trips) : Fin 2 → Nat :=
  let c320 : Index := 320#32
  let c0_i32_1 : BitVec 32 := 0#32
  let c1_i32 : BitVec 32 := 1#32
  let arg13 : BitVec 32 := Scf.iv c0_i32_1 c1_i32 k0_t1
  let c256_i32_407 : BitVec 32 := 256#32
  let v1369 : BitVec 32 := Scalar.muli arg13 c256_i32_407
  let v1370 : BitVec 32 := v1369
  let v2667 : Index := Scalar.indexCast v1370
  ![320, v2667.toNat]
def k0_off32 (k0_t1 : Fin k0_t1_loop.trips) : Fin 2 → Nat :=
  let c352 : Index := 352#32
  let c0_i32_1 : BitVec 32 := 0#32
  let c1_i32 : BitVec 32 := 1#32
  let arg13 : BitVec 32 := Scf.iv c0_i32_1 c1_i32 k0_t1
  let c256_i32_407 : BitVec 32 := 256#32
  let v1369 : BitVec 32 := Scalar.muli arg13 c256_i32_407
  let v1370 : BitVec 32 := v1369
  let v2677 : Index := Scalar.indexCast v1370
  ![352, v2677.toNat]
def k0_off33 (k0_t1 : Fin k0_t1_loop.trips) : Fin 2 → Nat :=
  let c384_817 : Index := 384#32
  let c0_i32_1 : BitVec 32 := 0#32
  let c1_i32 : BitVec 32 := 1#32
  let arg13 : BitVec 32 := Scf.iv c0_i32_1 c1_i32 k0_t1
  let c256_i32_407 : BitVec 32 := 256#32
  let v1369 : BitVec 32 := Scalar.muli arg13 c256_i32_407
  let v1370 : BitVec 32 := v1369
  let v2690 : Index := Scalar.indexCast v1370
  ![384, v2690.toNat]
def k0_off34 (k0_t1 : Fin k0_t1_loop.trips) : Fin 2 → Nat :=
  let c416 : Index := 416#32
  let c0_i32_1 : BitVec 32 := 0#32
  let c1_i32 : BitVec 32 := 1#32
  let arg13 : BitVec 32 := Scf.iv c0_i32_1 c1_i32 k0_t1
  let c256_i32_407 : BitVec 32 := 256#32
  let v1369 : BitVec 32 := Scalar.muli arg13 c256_i32_407
  let v1370 : BitVec 32 := v1369
  let v2700 : Index := Scalar.indexCast v1370
  ![416, v2700.toNat]
def k0_off35 (k0_t1 : Fin k0_t1_loop.trips) : Fin 2 → Nat :=
  let c448 : Index := 448#32
  let c0_i32_1 : BitVec 32 := 0#32
  let c1_i32 : BitVec 32 := 1#32
  let arg13 : BitVec 32 := Scf.iv c0_i32_1 c1_i32 k0_t1
  let c256_i32_407 : BitVec 32 := 256#32
  let v1369 : BitVec 32 := Scalar.muli arg13 c256_i32_407
  let v1370 : BitVec 32 := v1369
  let v2710 : Index := Scalar.indexCast v1370
  ![448, v2710.toNat]
def k0_off36 (k0_t1 : Fin k0_t1_loop.trips) : Fin 2 → Nat :=
  let c480 : Index := 480#32
  let c0_i32_1 : BitVec 32 := 0#32
  let c1_i32 : BitVec 32 := 1#32
  let arg13 : BitVec 32 := Scf.iv c0_i32_1 c1_i32 k0_t1
  let c256_i32_407 : BitVec 32 := 256#32
  let v1369 : BitVec 32 := Scalar.muli arg13 c256_i32_407
  let v1370 : BitVec 32 := v1369
  let v2720 : Index := Scalar.indexCast v1370
  ![480, v2720.toNat]
def k0_mult3 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_830 : BitVec 32 := 256#32
  let v2722 : BitVec 32 := Scalar.muli arg13 c256_i32_830
  v2722
def k0_off37 (k0_t1 : Fin k0_t1_loop.trips) (c0_i32_831 : BitVec 32) : Fin 2 → Nat :=
  let c0_i32_1 : BitVec 32 := 0#32
  let c1_i32 : BitVec 32 := 1#32
  let arg13 : BitVec 32 := Scf.iv c0_i32_1 c1_i32 k0_t1
  let c256_i32_830 : BitVec 32 := 256#32
  let v2722 : BitVec 32 := Scalar.muli arg13 c256_i32_830
  let v2723 : BitVec 32 := v2722
  let v2724 : BitVec 32 := Scalar.addi v2723 c0_i32_831
  let v2725 : Index := Scalar.indexCast v2724
  let c512 : Index := 512#32
  ![v2725.toNat, 512]
def k0_off38 (k0_t1 : Fin k0_t1_loop.trips) (c0_i32_831 : BitVec 32) : Fin 2 → Nat :=
  let c0_i32_1 : BitVec 32 := 0#32
  let c1_i32 : BitVec 32 := 1#32
  let arg13 : BitVec 32 := Scf.iv c0_i32_1 c1_i32 k0_t1
  let c256_i32_830 : BitVec 32 := 256#32
  let v2722 : BitVec 32 := Scalar.muli arg13 c256_i32_830
  let v2723 : BitVec 32 := v2722
  let v2724 : BitVec 32 := Scalar.addi v2723 c0_i32_831
  let v2729 : Index := Scalar.indexCast v2724
  let c640 : Index := 640#32
  ![v2729.toNat, 640]
def k0_off39 (k0_t1 : Fin k0_t1_loop.trips) (c0_i32_831 : BitVec 32) : Fin 2 → Nat :=
  let c0_i32_1 : BitVec 32 := 0#32
  let c1_i32 : BitVec 32 := 1#32
  let arg13 : BitVec 32 := Scf.iv c0_i32_1 c1_i32 k0_t1
  let c256_i32_830 : BitVec 32 := 256#32
  let v2722 : BitVec 32 := Scalar.muli arg13 c256_i32_830
  let v2723 : BitVec 32 := v2722
  let v2724 : BitVec 32 := Scalar.addi v2723 c0_i32_831
  let v2733 : Index := Scalar.indexCast v2724
  let c256_832 : Index := 256#32
  ![v2733.toNat, 256]
def k0_off40 (k0_t1 : Fin k0_t1_loop.trips) (c0_i32_1135 : BitVec 32) : Fin 2 → Nat :=
  let c4_1136 : Index := 4#32
  let c0_i32_1 : BitVec 32 := 0#32
  let c1_i32 : BitVec 32 := 1#32
  let arg13 : BitVec 32 := Scf.iv c0_i32_1 c1_i32 k0_t1
  let c256_i32_830 : BitVec 32 := 256#32
  let v2722 : BitVec 32 := Scalar.muli arg13 c256_i32_830
  let v2723 : BitVec 32 := v2722
  let v3839 : BitVec 32 := Scalar.addi v2723 c0_i32_1135
  let v3840 : Index := Scalar.indexCast v3839
  ![4, v3840.toNat]
def k0_off41 (k0_t1 : Fin k0_t1_loop.trips) : Fin 3 → Nat :=
  let c0_i32_1 : BitVec 32 := 0#32
  let c1_i32 : BitVec 32 := 1#32
  let arg13 : BitVec 32 := Scf.iv c0_i32_1 c1_i32 k0_t1
  let v3846 : Index := Scalar.indexCast arg13
  let c0_1137 : Index := 0#32
  let c512_1138 : Index := 512#32
  ![v3846.toNat, 0, 512]
def k0_off42 (k0_t1 : Fin k0_t1_loop.trips) : Fin 3 → Nat :=
  let c0_i32_1 : BitVec 32 := 0#32
  let c1_i32 : BitVec 32 := 1#32
  let arg13 : BitVec 32 := Scf.iv c0_i32_1 c1_i32 k0_t1
  let v3859 : Index := Scalar.indexCast arg13
  let c1_1141 : Index := 1#32
  let c512_1142 : Index := 512#32
  ![v3859.toNat, 1, 512]
def k0_off43 (k0_t1 : Fin k0_t1_loop.trips) (c0_i32_1143 : BitVec 32) : Fin 2 → Nat :=
  let c5_1144 : Index := 5#32
  let c0_i32_1 : BitVec 32 := 0#32
  let c1_i32 : BitVec 32 := 1#32
  let arg13 : BitVec 32 := Scf.iv c0_i32_1 c1_i32 k0_t1
  let c256_i32_830 : BitVec 32 := 256#32
  let v2722 : BitVec 32 := Scalar.muli arg13 c256_i32_830
  let v2723 : BitVec 32 := v2722
  let v3865 : BitVec 32 := Scalar.addi v2723 c0_i32_1143
  let v3866 : Index := Scalar.indexCast v3865
  ![5, v3866.toNat]
def k0_off44 (k0_t1 : Fin k0_t1_loop.trips) : Fin 3 → Nat :=
  let c0_i32_1 : BitVec 32 := 0#32
  let c1_i32 : BitVec 32 := 1#32
  let arg13 : BitVec 32 := Scf.iv c0_i32_1 c1_i32 k0_t1
  let v3872 : Index := Scalar.indexCast arg13
  let c0_1145 : Index := 0#32
  let c640_1146 : Index := 640#32
  ![v3872.toNat, 0, 640]
def k0_off45 (k0_t1 : Fin k0_t1_loop.trips) : Fin 3 → Nat :=
  let c0_i32_1 : BitVec 32 := 0#32
  let c1_i32 : BitVec 32 := 1#32
  let arg13 : BitVec 32 := Scf.iv c0_i32_1 c1_i32 k0_t1
  let v3885 : Index := Scalar.indexCast arg13
  let c1_1149 : Index := 1#32
  let c640_1150 : Index := 640#32
  ![v3885.toNat, 1, 640]
def k0_off46 (k0_t1 : Fin k0_t1_loop.trips) (c0_i32_1163 : BitVec 32) : Fin 2 → Nat :=
  let c0_i32_1 : BitVec 32 := 0#32
  let c1_i32 : BitVec 32 := 1#32
  let arg13 : BitVec 32 := Scf.iv c0_i32_1 c1_i32 k0_t1
  let c256_i32_830 : BitVec 32 := 256#32
  let v2722 : BitVec 32 := Scalar.muli arg13 c256_i32_830
  let v2723 : BitVec 32 := v2722
  let v3906 : BitVec 32 := Scalar.addi v2723 c0_i32_1163
  let v3907 : Index := Scalar.indexCast v3906
  let c512_1164 : Index := 512#32
  ![v3907.toNat, 512]
def k0_off47 (k0_t1 : Fin k0_t1_loop.trips) : Fin 2 → Nat :=
  let c512_1219 : Index := 512#32
  let c0_i32_1 : BitVec 32 := 0#32
  let c1_i32 : BitVec 32 := 1#32
  let arg13 : BitVec 32 := Scf.iv c0_i32_1 c1_i32 k0_t1
  let c256_i32_830 : BitVec 32 := 256#32
  let v2722 : BitVec 32 := Scalar.muli arg13 c256_i32_830
  let v2723 : BitVec 32 := v2722
  let v4000 : Index := Scalar.indexCast v2723
  ![512, v4000.toNat]
def k0_off48 (k0_t1 : Fin k0_t1_loop.trips) : Fin 2 → Nat :=
  let c544 : Index := 544#32
  let c0_i32_1 : BitVec 32 := 0#32
  let c1_i32 : BitVec 32 := 1#32
  let arg13 : BitVec 32 := Scf.iv c0_i32_1 c1_i32 k0_t1
  let c256_i32_830 : BitVec 32 := 256#32
  let v2722 : BitVec 32 := Scalar.muli arg13 c256_i32_830
  let v2723 : BitVec 32 := v2722
  let v4010 : Index := Scalar.indexCast v2723
  ![544, v4010.toNat]
def k0_off49 (k0_t1 : Fin k0_t1_loop.trips) : Fin 2 → Nat :=
  let c576 : Index := 576#32
  let c0_i32_1 : BitVec 32 := 0#32
  let c1_i32 : BitVec 32 := 1#32
  let arg13 : BitVec 32 := Scf.iv c0_i32_1 c1_i32 k0_t1
  let c256_i32_830 : BitVec 32 := 256#32
  let v2722 : BitVec 32 := Scalar.muli arg13 c256_i32_830
  let v2723 : BitVec 32 := v2722
  let v4020 : Index := Scalar.indexCast v2723
  ![576, v4020.toNat]
def k0_off50 (k0_t1 : Fin k0_t1_loop.trips) : Fin 2 → Nat :=
  let c608 : Index := 608#32
  let c0_i32_1 : BitVec 32 := 0#32
  let c1_i32 : BitVec 32 := 1#32
  let arg13 : BitVec 32 := Scf.iv c0_i32_1 c1_i32 k0_t1
  let c256_i32_830 : BitVec 32 := 256#32
  let v2722 : BitVec 32 := Scalar.muli arg13 c256_i32_830
  let v2723 : BitVec 32 := v2722
  let v4030 : Index := Scalar.indexCast v2723
  ![608, v4030.toNat]
def k0_off51 (k0_t1 : Fin k0_t1_loop.trips) : Fin 2 → Nat :=
  let c640_1240 : Index := 640#32
  let c0_i32_1 : BitVec 32 := 0#32
  let c1_i32 : BitVec 32 := 1#32
  let arg13 : BitVec 32 := Scf.iv c0_i32_1 c1_i32 k0_t1
  let c256_i32_830 : BitVec 32 := 256#32
  let v2722 : BitVec 32 := Scalar.muli arg13 c256_i32_830
  let v2723 : BitVec 32 := v2722
  let v4043 : Index := Scalar.indexCast v2723
  ![640, v4043.toNat]
def k0_off52 (k0_t1 : Fin k0_t1_loop.trips) : Fin 2 → Nat :=
  let c672 : Index := 672#32
  let c0_i32_1 : BitVec 32 := 0#32
  let c1_i32 : BitVec 32 := 1#32
  let arg13 : BitVec 32 := Scf.iv c0_i32_1 c1_i32 k0_t1
  let c256_i32_830 : BitVec 32 := 256#32
  let v2722 : BitVec 32 := Scalar.muli arg13 c256_i32_830
  let v2723 : BitVec 32 := v2722
  let v4053 : Index := Scalar.indexCast v2723
  ![672, v4053.toNat]
def k0_off53 (k0_t1 : Fin k0_t1_loop.trips) : Fin 2 → Nat :=
  let c704 : Index := 704#32
  let c0_i32_1 : BitVec 32 := 0#32
  let c1_i32 : BitVec 32 := 1#32
  let arg13 : BitVec 32 := Scf.iv c0_i32_1 c1_i32 k0_t1
  let c256_i32_830 : BitVec 32 := 256#32
  let v2722 : BitVec 32 := Scalar.muli arg13 c256_i32_830
  let v2723 : BitVec 32 := v2722
  let v4063 : Index := Scalar.indexCast v2723
  ![704, v4063.toNat]
def k0_off54 (k0_t1 : Fin k0_t1_loop.trips) : Fin 2 → Nat :=
  let c736 : Index := 736#32
  let c0_i32_1 : BitVec 32 := 0#32
  let c1_i32 : BitVec 32 := 1#32
  let arg13 : BitVec 32 := Scf.iv c0_i32_1 c1_i32 k0_t1
  let c256_i32_830 : BitVec 32 := 256#32
  let v2722 : BitVec 32 := Scalar.muli arg13 c256_i32_830
  let v2723 : BitVec 32 := v2722
  let v4073 : Index := Scalar.indexCast v2723
  ![736, v4073.toNat]
def k0_mult4 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_1253 : BitVec 32 := 256#32
  let v4075 : BitVec 32 := Scalar.muli arg13 c256_i32_1253
  v4075
def k0_off55 (k0_t1 : Fin k0_t1_loop.trips) (c0_i32_1254 : BitVec 32) : Fin 2 → Nat :=
  let c0_i32_1 : BitVec 32 := 0#32
  let c1_i32 : BitVec 32 := 1#32
  let arg13 : BitVec 32 := Scf.iv c0_i32_1 c1_i32 k0_t1
  let c256_i32_1253 : BitVec 32 := 256#32
  let v4075 : BitVec 32 := Scalar.muli arg13 c256_i32_1253
  let v4076 : BitVec 32 := v4075
  let v4077 : BitVec 32 := Scalar.addi v4076 c0_i32_1254
  let v4078 : Index := Scalar.indexCast v4077
  let c768 : Index := 768#32
  ![v4078.toNat, 768]
def k0_off56 (k0_t1 : Fin k0_t1_loop.trips) (c0_i32_1254 : BitVec 32) : Fin 2 → Nat :=
  let c0_i32_1 : BitVec 32 := 0#32
  let c1_i32 : BitVec 32 := 1#32
  let arg13 : BitVec 32 := Scf.iv c0_i32_1 c1_i32 k0_t1
  let c256_i32_1253 : BitVec 32 := 256#32
  let v4075 : BitVec 32 := Scalar.muli arg13 c256_i32_1253
  let v4076 : BitVec 32 := v4075
  let v4077 : BitVec 32 := Scalar.addi v4076 c0_i32_1254
  let v4082 : Index := Scalar.indexCast v4077
  let c896 : Index := 896#32
  ![v4082.toNat, 896]
def k0_off57 (k0_t1 : Fin k0_t1_loop.trips) (c0_i32_1254 : BitVec 32) : Fin 2 → Nat :=
  let c0_i32_1 : BitVec 32 := 0#32
  let c1_i32 : BitVec 32 := 1#32
  let arg13 : BitVec 32 := Scf.iv c0_i32_1 c1_i32 k0_t1
  let c256_i32_1253 : BitVec 32 := 256#32
  let v4075 : BitVec 32 := Scalar.muli arg13 c256_i32_1253
  let v4076 : BitVec 32 := v4075
  let v4077 : BitVec 32 := Scalar.addi v4076 c0_i32_1254
  let v4086 : Index := Scalar.indexCast v4077
  let c384_1255 : Index := 384#32
  ![v4086.toNat, 384]
def k0_off58 (k0_t1 : Fin k0_t1_loop.trips) (c0_i32_1558 : BitVec 32) : Fin 2 → Nat :=
  let c6_1559 : Index := 6#32
  let c0_i32_1 : BitVec 32 := 0#32
  let c1_i32 : BitVec 32 := 1#32
  let arg13 : BitVec 32 := Scf.iv c0_i32_1 c1_i32 k0_t1
  let c256_i32_1253 : BitVec 32 := 256#32
  let v4075 : BitVec 32 := Scalar.muli arg13 c256_i32_1253
  let v4076 : BitVec 32 := v4075
  let v5192 : BitVec 32 := Scalar.addi v4076 c0_i32_1558
  let v5193 : Index := Scalar.indexCast v5192
  ![6, v5193.toNat]
def k0_off59 (k0_t1 : Fin k0_t1_loop.trips) : Fin 3 → Nat :=
  let c0_i32_1 : BitVec 32 := 0#32
  let c1_i32 : BitVec 32 := 1#32
  let arg13 : BitVec 32 := Scf.iv c0_i32_1 c1_i32 k0_t1
  let v5199 : Index := Scalar.indexCast arg13
  let c0_1560 : Index := 0#32
  let c768_1561 : Index := 768#32
  ![v5199.toNat, 0, 768]
def k0_off60 (k0_t1 : Fin k0_t1_loop.trips) : Fin 3 → Nat :=
  let c0_i32_1 : BitVec 32 := 0#32
  let c1_i32 : BitVec 32 := 1#32
  let arg13 : BitVec 32 := Scf.iv c0_i32_1 c1_i32 k0_t1
  let v5212 : Index := Scalar.indexCast arg13
  let c1_1564 : Index := 1#32
  let c768_1565 : Index := 768#32
  ![v5212.toNat, 1, 768]
def k0_off61 (k0_t1 : Fin k0_t1_loop.trips) (c0_i32_1566 : BitVec 32) : Fin 2 → Nat :=
  let c7_1567 : Index := 7#32
  let c0_i32_1 : BitVec 32 := 0#32
  let c1_i32 : BitVec 32 := 1#32
  let arg13 : BitVec 32 := Scf.iv c0_i32_1 c1_i32 k0_t1
  let c256_i32_1253 : BitVec 32 := 256#32
  let v4075 : BitVec 32 := Scalar.muli arg13 c256_i32_1253
  let v4076 : BitVec 32 := v4075
  let v5218 : BitVec 32 := Scalar.addi v4076 c0_i32_1566
  let v5219 : Index := Scalar.indexCast v5218
  ![7, v5219.toNat]
def k0_off62 (k0_t1 : Fin k0_t1_loop.trips) : Fin 3 → Nat :=
  let c0_i32_1 : BitVec 32 := 0#32
  let c1_i32 : BitVec 32 := 1#32
  let arg13 : BitVec 32 := Scf.iv c0_i32_1 c1_i32 k0_t1
  let v5225 : Index := Scalar.indexCast arg13
  let c0_1568 : Index := 0#32
  let c896_1569 : Index := 896#32
  ![v5225.toNat, 0, 896]
def k0_off63 (k0_t1 : Fin k0_t1_loop.trips) : Fin 3 → Nat :=
  let c0_i32_1 : BitVec 32 := 0#32
  let c1_i32 : BitVec 32 := 1#32
  let arg13 : BitVec 32 := Scf.iv c0_i32_1 c1_i32 k0_t1
  let v5238 : Index := Scalar.indexCast arg13
  let c1_1572 : Index := 1#32
  let c896_1573 : Index := 896#32
  ![v5238.toNat, 1, 896]
def k0_off64 (k0_t1 : Fin k0_t1_loop.trips) (c0_i32_1586 : BitVec 32) : Fin 2 → Nat :=
  let c0_i32_1 : BitVec 32 := 0#32
  let c1_i32 : BitVec 32 := 1#32
  let arg13 : BitVec 32 := Scf.iv c0_i32_1 c1_i32 k0_t1
  let c256_i32_1253 : BitVec 32 := 256#32
  let v4075 : BitVec 32 := Scalar.muli arg13 c256_i32_1253
  let v4076 : BitVec 32 := v4075
  let v5259 : BitVec 32 := Scalar.addi v4076 c0_i32_1586
  let v5260 : Index := Scalar.indexCast v5259
  let c768_1587 : Index := 768#32
  ![v5260.toNat, 768]
def k0_off65 (k0_t1 : Fin k0_t1_loop.trips) : Fin 2 → Nat :=
  let c768_1642 : Index := 768#32
  let c0_i32_1 : BitVec 32 := 0#32
  let c1_i32 : BitVec 32 := 1#32
  let arg13 : BitVec 32 := Scf.iv c0_i32_1 c1_i32 k0_t1
  let c256_i32_1253 : BitVec 32 := 256#32
  let v4075 : BitVec 32 := Scalar.muli arg13 c256_i32_1253
  let v4076 : BitVec 32 := v4075
  let v5353 : Index := Scalar.indexCast v4076
  ![768, v5353.toNat]
def k0_off66 (k0_t1 : Fin k0_t1_loop.trips) : Fin 2 → Nat :=
  let c800 : Index := 800#32
  let c0_i32_1 : BitVec 32 := 0#32
  let c1_i32 : BitVec 32 := 1#32
  let arg13 : BitVec 32 := Scf.iv c0_i32_1 c1_i32 k0_t1
  let c256_i32_1253 : BitVec 32 := 256#32
  let v4075 : BitVec 32 := Scalar.muli arg13 c256_i32_1253
  let v4076 : BitVec 32 := v4075
  let v5363 : Index := Scalar.indexCast v4076
  ![800, v5363.toNat]
def k0_off67 (k0_t1 : Fin k0_t1_loop.trips) : Fin 2 → Nat :=
  let c832 : Index := 832#32
  let c0_i32_1 : BitVec 32 := 0#32
  let c1_i32 : BitVec 32 := 1#32
  let arg13 : BitVec 32 := Scf.iv c0_i32_1 c1_i32 k0_t1
  let c256_i32_1253 : BitVec 32 := 256#32
  let v4075 : BitVec 32 := Scalar.muli arg13 c256_i32_1253
  let v4076 : BitVec 32 := v4075
  let v5373 : Index := Scalar.indexCast v4076
  ![832, v5373.toNat]
def k0_off68 (k0_t1 : Fin k0_t1_loop.trips) : Fin 2 → Nat :=
  let c864 : Index := 864#32
  let c0_i32_1 : BitVec 32 := 0#32
  let c1_i32 : BitVec 32 := 1#32
  let arg13 : BitVec 32 := Scf.iv c0_i32_1 c1_i32 k0_t1
  let c256_i32_1253 : BitVec 32 := 256#32
  let v4075 : BitVec 32 := Scalar.muli arg13 c256_i32_1253
  let v4076 : BitVec 32 := v4075
  let v5383 : Index := Scalar.indexCast v4076
  ![864, v5383.toNat]
def k0_off69 (k0_t1 : Fin k0_t1_loop.trips) : Fin 2 → Nat :=
  let c896_1663 : Index := 896#32
  let c0_i32_1 : BitVec 32 := 0#32
  let c1_i32 : BitVec 32 := 1#32
  let arg13 : BitVec 32 := Scf.iv c0_i32_1 c1_i32 k0_t1
  let c256_i32_1253 : BitVec 32 := 256#32
  let v4075 : BitVec 32 := Scalar.muli arg13 c256_i32_1253
  let v4076 : BitVec 32 := v4075
  let v5396 : Index := Scalar.indexCast v4076
  ![896, v5396.toNat]
def k0_off70 (k0_t1 : Fin k0_t1_loop.trips) : Fin 2 → Nat :=
  let c928 : Index := 928#32
  let c0_i32_1 : BitVec 32 := 0#32
  let c1_i32 : BitVec 32 := 1#32
  let arg13 : BitVec 32 := Scf.iv c0_i32_1 c1_i32 k0_t1
  let c256_i32_1253 : BitVec 32 := 256#32
  let v4075 : BitVec 32 := Scalar.muli arg13 c256_i32_1253
  let v4076 : BitVec 32 := v4075
  let v5406 : Index := Scalar.indexCast v4076
  ![928, v5406.toNat]
def k0_off71 (k0_t1 : Fin k0_t1_loop.trips) : Fin 2 → Nat :=
  let c960 : Index := 960#32
  let c0_i32_1 : BitVec 32 := 0#32
  let c1_i32 : BitVec 32 := 1#32
  let arg13 : BitVec 32 := Scf.iv c0_i32_1 c1_i32 k0_t1
  let c256_i32_1253 : BitVec 32 := 256#32
  let v4075 : BitVec 32 := Scalar.muli arg13 c256_i32_1253
  let v4076 : BitVec 32 := v4075
  let v5416 : Index := Scalar.indexCast v4076
  ![960, v5416.toNat]
def k0_off72 (k0_t1 : Fin k0_t1_loop.trips) : Fin 2 → Nat :=
  let c992 : Index := 992#32
  let c0_i32_1 : BitVec 32 := 0#32
  let c1_i32 : BitVec 32 := 1#32
  let arg13 : BitVec 32 := Scf.iv c0_i32_1 c1_i32 k0_t1
  let c256_i32_1253 : BitVec 32 := 256#32
  let v4075 : BitVec 32 := Scalar.muli arg13 c256_i32_1253
  let v4076 : BitVec 32 := v4075
  let v5426 : Index := Scalar.indexCast v4076
  ![992, v5426.toNat]
def k0_mult5 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_1676 : BitVec 32 := 256#32
  let v5428 : BitVec 32 := Scalar.muli arg13 c256_i32_1676
  v5428
def k0_off73 (k0_t1 : Fin k0_t1_loop.trips) (c0_i32_1677 : BitVec 32) : Fin 2 → Nat :=
  let c0_i32_1 : BitVec 32 := 0#32
  let c1_i32 : BitVec 32 := 1#32
  let arg13 : BitVec 32 := Scf.iv c0_i32_1 c1_i32 k0_t1
  let c256_i32_1676 : BitVec 32 := 256#32
  let v5428 : BitVec 32 := Scalar.muli arg13 c256_i32_1676
  let v5429 : BitVec 32 := v5428
  let v5430 : BitVec 32 := Scalar.addi v5429 c0_i32_1677
  let v5431 : Index := Scalar.indexCast v5430
  let c1024 : Index := 1024#32
  ![v5431.toNat, 1024]
def k0_off74 (k0_t1 : Fin k0_t1_loop.trips) (c0_i32_1677 : BitVec 32) : Fin 2 → Nat :=
  let c0_i32_1 : BitVec 32 := 0#32
  let c1_i32 : BitVec 32 := 1#32
  let arg13 : BitVec 32 := Scf.iv c0_i32_1 c1_i32 k0_t1
  let c256_i32_1676 : BitVec 32 := 256#32
  let v5428 : BitVec 32 := Scalar.muli arg13 c256_i32_1676
  let v5429 : BitVec 32 := v5428
  let v5430 : BitVec 32 := Scalar.addi v5429 c0_i32_1677
  let v5435 : Index := Scalar.indexCast v5430
  let c1152 : Index := 1152#32
  ![v5435.toNat, 1152]
def k0_off75 (k0_t1 : Fin k0_t1_loop.trips) (c0_i32_1677 : BitVec 32) : Fin 2 → Nat :=
  let c0_i32_1 : BitVec 32 := 0#32
  let c1_i32 : BitVec 32 := 1#32
  let arg13 : BitVec 32 := Scf.iv c0_i32_1 c1_i32 k0_t1
  let c256_i32_1676 : BitVec 32 := 256#32
  let v5428 : BitVec 32 := Scalar.muli arg13 c256_i32_1676
  let v5429 : BitVec 32 := v5428
  let v5430 : BitVec 32 := Scalar.addi v5429 c0_i32_1677
  let v5439 : Index := Scalar.indexCast v5430
  let c512_1678 : Index := 512#32
  ![v5439.toNat, 512]
def k0_off76 (k0_t1 : Fin k0_t1_loop.trips) (c0_i32_1981 : BitVec 32) : Fin 2 → Nat :=
  let c8 : Index := 8#32
  let c0_i32_1 : BitVec 32 := 0#32
  let c1_i32 : BitVec 32 := 1#32
  let arg13 : BitVec 32 := Scf.iv c0_i32_1 c1_i32 k0_t1
  let c256_i32_1676 : BitVec 32 := 256#32
  let v5428 : BitVec 32 := Scalar.muli arg13 c256_i32_1676
  let v5429 : BitVec 32 := v5428
  let v6545 : BitVec 32 := Scalar.addi v5429 c0_i32_1981
  let v6546 : Index := Scalar.indexCast v6545
  ![8, v6546.toNat]
def k0_off77 (k0_t1 : Fin k0_t1_loop.trips) : Fin 3 → Nat :=
  let c0_i32_1 : BitVec 32 := 0#32
  let c1_i32 : BitVec 32 := 1#32
  let arg13 : BitVec 32 := Scf.iv c0_i32_1 c1_i32 k0_t1
  let v6552 : Index := Scalar.indexCast arg13
  let c0_1982 : Index := 0#32
  let c1024_1983 : Index := 1024#32
  ![v6552.toNat, 0, 1024]
def k0_off78 (k0_t1 : Fin k0_t1_loop.trips) : Fin 3 → Nat :=
  let c0_i32_1 : BitVec 32 := 0#32
  let c1_i32 : BitVec 32 := 1#32
  let arg13 : BitVec 32 := Scf.iv c0_i32_1 c1_i32 k0_t1
  let v6565 : Index := Scalar.indexCast arg13
  let c1_1986 : Index := 1#32
  let c1024_1987 : Index := 1024#32
  ![v6565.toNat, 1, 1024]
def k0_off79 (k0_t1 : Fin k0_t1_loop.trips) (c0_i32_1988 : BitVec 32) : Fin 2 → Nat :=
  let c9 : Index := 9#32
  let c0_i32_1 : BitVec 32 := 0#32
  let c1_i32 : BitVec 32 := 1#32
  let arg13 : BitVec 32 := Scf.iv c0_i32_1 c1_i32 k0_t1
  let c256_i32_1676 : BitVec 32 := 256#32
  let v5428 : BitVec 32 := Scalar.muli arg13 c256_i32_1676
  let v5429 : BitVec 32 := v5428
  let v6571 : BitVec 32 := Scalar.addi v5429 c0_i32_1988
  let v6572 : Index := Scalar.indexCast v6571
  ![9, v6572.toNat]
def k0_off80 (k0_t1 : Fin k0_t1_loop.trips) : Fin 3 → Nat :=
  let c0_i32_1 : BitVec 32 := 0#32
  let c1_i32 : BitVec 32 := 1#32
  let arg13 : BitVec 32 := Scf.iv c0_i32_1 c1_i32 k0_t1
  let v6578 : Index := Scalar.indexCast arg13
  let c0_1989 : Index := 0#32
  let c1152_1990 : Index := 1152#32
  ![v6578.toNat, 0, 1152]
def k0_off81 (k0_t1 : Fin k0_t1_loop.trips) : Fin 3 → Nat :=
  let c0_i32_1 : BitVec 32 := 0#32
  let c1_i32 : BitVec 32 := 1#32
  let arg13 : BitVec 32 := Scf.iv c0_i32_1 c1_i32 k0_t1
  let v6591 : Index := Scalar.indexCast arg13
  let c1_1993 : Index := 1#32
  let c1152_1994 : Index := 1152#32
  ![v6591.toNat, 1, 1152]
def k0_off82 (k0_t1 : Fin k0_t1_loop.trips) (c0_i32_2007 : BitVec 32) : Fin 2 → Nat :=
  let c0_i32_1 : BitVec 32 := 0#32
  let c1_i32 : BitVec 32 := 1#32
  let arg13 : BitVec 32 := Scf.iv c0_i32_1 c1_i32 k0_t1
  let c256_i32_1676 : BitVec 32 := 256#32
  let v5428 : BitVec 32 := Scalar.muli arg13 c256_i32_1676
  let v5429 : BitVec 32 := v5428
  let v6612 : BitVec 32 := Scalar.addi v5429 c0_i32_2007
  let v6613 : Index := Scalar.indexCast v6612
  let c1024_2008 : Index := 1024#32
  ![v6613.toNat, 1024]
def k0_off83 (k0_t1 : Fin k0_t1_loop.trips) : Fin 2 → Nat :=
  let c1024_2063 : Index := 1024#32
  let c0_i32_1 : BitVec 32 := 0#32
  let c1_i32 : BitVec 32 := 1#32
  let arg13 : BitVec 32 := Scf.iv c0_i32_1 c1_i32 k0_t1
  let c256_i32_1676 : BitVec 32 := 256#32
  let v5428 : BitVec 32 := Scalar.muli arg13 c256_i32_1676
  let v5429 : BitVec 32 := v5428
  let v6706 : Index := Scalar.indexCast v5429
  ![1024, v6706.toNat]
def k0_off84 (k0_t1 : Fin k0_t1_loop.trips) : Fin 2 → Nat :=
  let c1056 : Index := 1056#32
  let c0_i32_1 : BitVec 32 := 0#32
  let c1_i32 : BitVec 32 := 1#32
  let arg13 : BitVec 32 := Scf.iv c0_i32_1 c1_i32 k0_t1
  let c256_i32_1676 : BitVec 32 := 256#32
  let v5428 : BitVec 32 := Scalar.muli arg13 c256_i32_1676
  let v5429 : BitVec 32 := v5428
  let v6716 : Index := Scalar.indexCast v5429
  ![1056, v6716.toNat]
def k0_off85 (k0_t1 : Fin k0_t1_loop.trips) : Fin 2 → Nat :=
  let c1088 : Index := 1088#32
  let c0_i32_1 : BitVec 32 := 0#32
  let c1_i32 : BitVec 32 := 1#32
  let arg13 : BitVec 32 := Scf.iv c0_i32_1 c1_i32 k0_t1
  let c256_i32_1676 : BitVec 32 := 256#32
  let v5428 : BitVec 32 := Scalar.muli arg13 c256_i32_1676
  let v5429 : BitVec 32 := v5428
  let v6726 : Index := Scalar.indexCast v5429
  ![1088, v6726.toNat]
def k0_off86 (k0_t1 : Fin k0_t1_loop.trips) : Fin 2 → Nat :=
  let c1120 : Index := 1120#32
  let c0_i32_1 : BitVec 32 := 0#32
  let c1_i32 : BitVec 32 := 1#32
  let arg13 : BitVec 32 := Scf.iv c0_i32_1 c1_i32 k0_t1
  let c256_i32_1676 : BitVec 32 := 256#32
  let v5428 : BitVec 32 := Scalar.muli arg13 c256_i32_1676
  let v5429 : BitVec 32 := v5428
  let v6736 : Index := Scalar.indexCast v5429
  ![1120, v6736.toNat]
def k0_off87 (k0_t1 : Fin k0_t1_loop.trips) : Fin 2 → Nat :=
  let c1152_2084 : Index := 1152#32
  let c0_i32_1 : BitVec 32 := 0#32
  let c1_i32 : BitVec 32 := 1#32
  let arg13 : BitVec 32 := Scf.iv c0_i32_1 c1_i32 k0_t1
  let c256_i32_1676 : BitVec 32 := 256#32
  let v5428 : BitVec 32 := Scalar.muli arg13 c256_i32_1676
  let v5429 : BitVec 32 := v5428
  let v6749 : Index := Scalar.indexCast v5429
  ![1152, v6749.toNat]
def k0_off88 (k0_t1 : Fin k0_t1_loop.trips) : Fin 2 → Nat :=
  let c1184 : Index := 1184#32
  let c0_i32_1 : BitVec 32 := 0#32
  let c1_i32 : BitVec 32 := 1#32
  let arg13 : BitVec 32 := Scf.iv c0_i32_1 c1_i32 k0_t1
  let c256_i32_1676 : BitVec 32 := 256#32
  let v5428 : BitVec 32 := Scalar.muli arg13 c256_i32_1676
  let v5429 : BitVec 32 := v5428
  let v6759 : Index := Scalar.indexCast v5429
  ![1184, v6759.toNat]
def k0_off89 (k0_t1 : Fin k0_t1_loop.trips) : Fin 2 → Nat :=
  let c1216 : Index := 1216#32
  let c0_i32_1 : BitVec 32 := 0#32
  let c1_i32 : BitVec 32 := 1#32
  let arg13 : BitVec 32 := Scf.iv c0_i32_1 c1_i32 k0_t1
  let c256_i32_1676 : BitVec 32 := 256#32
  let v5428 : BitVec 32 := Scalar.muli arg13 c256_i32_1676
  let v5429 : BitVec 32 := v5428
  let v6769 : Index := Scalar.indexCast v5429
  ![1216, v6769.toNat]
def k0_off90 (k0_t1 : Fin k0_t1_loop.trips) : Fin 2 → Nat :=
  let c1248 : Index := 1248#32
  let c0_i32_1 : BitVec 32 := 0#32
  let c1_i32 : BitVec 32 := 1#32
  let arg13 : BitVec 32 := Scf.iv c0_i32_1 c1_i32 k0_t1
  let c256_i32_1676 : BitVec 32 := 256#32
  let v5428 : BitVec 32 := Scalar.muli arg13 c256_i32_1676
  let v5429 : BitVec 32 := v5428
  let v6779 : Index := Scalar.indexCast v5429
  ![1248, v6779.toNat]
def k0_mult6 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_2097 : BitVec 32 := 256#32
  let v6781 : BitVec 32 := Scalar.muli arg13 c256_i32_2097
  v6781
def k0_off91 (k0_t1 : Fin k0_t1_loop.trips) (c0_i32_2098 : BitVec 32) : Fin 2 → Nat :=
  let c0_i32_1 : BitVec 32 := 0#32
  let c1_i32 : BitVec 32 := 1#32
  let arg13 : BitVec 32 := Scf.iv c0_i32_1 c1_i32 k0_t1
  let c256_i32_2097 : BitVec 32 := 256#32
  let v6781 : BitVec 32 := Scalar.muli arg13 c256_i32_2097
  let v6782 : BitVec 32 := v6781
  let v6783 : BitVec 32 := Scalar.addi v6782 c0_i32_2098
  let v6784 : Index := Scalar.indexCast v6783
  let c1280 : Index := 1280#32
  ![v6784.toNat, 1280]
def k0_off92 (k0_t1 : Fin k0_t1_loop.trips) (c0_i32_2098 : BitVec 32) : Fin 2 → Nat :=
  let c0_i32_1 : BitVec 32 := 0#32
  let c1_i32 : BitVec 32 := 1#32
  let arg13 : BitVec 32 := Scf.iv c0_i32_1 c1_i32 k0_t1
  let c256_i32_2097 : BitVec 32 := 256#32
  let v6781 : BitVec 32 := Scalar.muli arg13 c256_i32_2097
  let v6782 : BitVec 32 := v6781
  let v6783 : BitVec 32 := Scalar.addi v6782 c0_i32_2098
  let v6788 : Index := Scalar.indexCast v6783
  let c1408 : Index := 1408#32
  ![v6788.toNat, 1408]
def k0_off93 (k0_t1 : Fin k0_t1_loop.trips) (c0_i32_2098 : BitVec 32) : Fin 2 → Nat :=
  let c0_i32_1 : BitVec 32 := 0#32
  let c1_i32 : BitVec 32 := 1#32
  let arg13 : BitVec 32 := Scf.iv c0_i32_1 c1_i32 k0_t1
  let c256_i32_2097 : BitVec 32 := 256#32
  let v6781 : BitVec 32 := Scalar.muli arg13 c256_i32_2097
  let v6782 : BitVec 32 := v6781
  let v6783 : BitVec 32 := Scalar.addi v6782 c0_i32_2098
  let v6792 : Index := Scalar.indexCast v6783
  let c640_2099 : Index := 640#32
  ![v6792.toNat, 640]
def k0_off94 (k0_t1 : Fin k0_t1_loop.trips) (c0_i32_2402 : BitVec 32) : Fin 2 → Nat :=
  let c10 : Index := 10#32
  let c0_i32_1 : BitVec 32 := 0#32
  let c1_i32 : BitVec 32 := 1#32
  let arg13 : BitVec 32 := Scf.iv c0_i32_1 c1_i32 k0_t1
  let c256_i32_2097 : BitVec 32 := 256#32
  let v6781 : BitVec 32 := Scalar.muli arg13 c256_i32_2097
  let v6782 : BitVec 32 := v6781
  let v7898 : BitVec 32 := Scalar.addi v6782 c0_i32_2402
  let v7899 : Index := Scalar.indexCast v7898
  ![10, v7899.toNat]
def k0_off95 (k0_t1 : Fin k0_t1_loop.trips) : Fin 3 → Nat :=
  let c0_i32_1 : BitVec 32 := 0#32
  let c1_i32 : BitVec 32 := 1#32
  let arg13 : BitVec 32 := Scf.iv c0_i32_1 c1_i32 k0_t1
  let v7905 : Index := Scalar.indexCast arg13
  let c0_2403 : Index := 0#32
  let c1280_2404 : Index := 1280#32
  ![v7905.toNat, 0, 1280]
def k0_off96 (k0_t1 : Fin k0_t1_loop.trips) : Fin 3 → Nat :=
  let c0_i32_1 : BitVec 32 := 0#32
  let c1_i32 : BitVec 32 := 1#32
  let arg13 : BitVec 32 := Scf.iv c0_i32_1 c1_i32 k0_t1
  let v7918 : Index := Scalar.indexCast arg13
  let c1_2407 : Index := 1#32
  let c1280_2408 : Index := 1280#32
  ![v7918.toNat, 1, 1280]
def k0_off97 (k0_t1 : Fin k0_t1_loop.trips) (c0_i32_2409 : BitVec 32) : Fin 2 → Nat :=
  let c11 : Index := 11#32
  let c0_i32_1 : BitVec 32 := 0#32
  let c1_i32 : BitVec 32 := 1#32
  let arg13 : BitVec 32 := Scf.iv c0_i32_1 c1_i32 k0_t1
  let c256_i32_2097 : BitVec 32 := 256#32
  let v6781 : BitVec 32 := Scalar.muli arg13 c256_i32_2097
  let v6782 : BitVec 32 := v6781
  let v7924 : BitVec 32 := Scalar.addi v6782 c0_i32_2409
  let v7925 : Index := Scalar.indexCast v7924
  ![11, v7925.toNat]
def k0_off98 (k0_t1 : Fin k0_t1_loop.trips) : Fin 3 → Nat :=
  let c0_i32_1 : BitVec 32 := 0#32
  let c1_i32 : BitVec 32 := 1#32
  let arg13 : BitVec 32 := Scf.iv c0_i32_1 c1_i32 k0_t1
  let v7931 : Index := Scalar.indexCast arg13
  let c0_2410 : Index := 0#32
  let c1408_2411 : Index := 1408#32
  ![v7931.toNat, 0, 1408]
def k0_off99 (k0_t1 : Fin k0_t1_loop.trips) : Fin 3 → Nat :=
  let c0_i32_1 : BitVec 32 := 0#32
  let c1_i32 : BitVec 32 := 1#32
  let arg13 : BitVec 32 := Scf.iv c0_i32_1 c1_i32 k0_t1
  let v7944 : Index := Scalar.indexCast arg13
  let c1_2414 : Index := 1#32
  let c1408_2415 : Index := 1408#32
  ![v7944.toNat, 1, 1408]
def k0_off100 (k0_t1 : Fin k0_t1_loop.trips) (c0_i32_2428 : BitVec 32) : Fin 2 → Nat :=
  let c0_i32_1 : BitVec 32 := 0#32
  let c1_i32 : BitVec 32 := 1#32
  let arg13 : BitVec 32 := Scf.iv c0_i32_1 c1_i32 k0_t1
  let c256_i32_2097 : BitVec 32 := 256#32
  let v6781 : BitVec 32 := Scalar.muli arg13 c256_i32_2097
  let v6782 : BitVec 32 := v6781
  let v7965 : BitVec 32 := Scalar.addi v6782 c0_i32_2428
  let v7966 : Index := Scalar.indexCast v7965
  let c1280_2429 : Index := 1280#32
  ![v7966.toNat, 1280]
def k0_off101 (k0_t1 : Fin k0_t1_loop.trips) : Fin 2 → Nat :=
  let c1280_2484 : Index := 1280#32
  let c0_i32_1 : BitVec 32 := 0#32
  let c1_i32 : BitVec 32 := 1#32
  let arg13 : BitVec 32 := Scf.iv c0_i32_1 c1_i32 k0_t1
  let c256_i32_2097 : BitVec 32 := 256#32
  let v6781 : BitVec 32 := Scalar.muli arg13 c256_i32_2097
  let v6782 : BitVec 32 := v6781
  let v8059 : Index := Scalar.indexCast v6782
  ![1280, v8059.toNat]
def k0_off102 (k0_t1 : Fin k0_t1_loop.trips) : Fin 2 → Nat :=
  let c1312 : Index := 1312#32
  let c0_i32_1 : BitVec 32 := 0#32
  let c1_i32 : BitVec 32 := 1#32
  let arg13 : BitVec 32 := Scf.iv c0_i32_1 c1_i32 k0_t1
  let c256_i32_2097 : BitVec 32 := 256#32
  let v6781 : BitVec 32 := Scalar.muli arg13 c256_i32_2097
  let v6782 : BitVec 32 := v6781
  let v8069 : Index := Scalar.indexCast v6782
  ![1312, v8069.toNat]
def k0_off103 (k0_t1 : Fin k0_t1_loop.trips) : Fin 2 → Nat :=
  let c1344 : Index := 1344#32
  let c0_i32_1 : BitVec 32 := 0#32
  let c1_i32 : BitVec 32 := 1#32
  let arg13 : BitVec 32 := Scf.iv c0_i32_1 c1_i32 k0_t1
  let c256_i32_2097 : BitVec 32 := 256#32
  let v6781 : BitVec 32 := Scalar.muli arg13 c256_i32_2097
  let v6782 : BitVec 32 := v6781
  let v8079 : Index := Scalar.indexCast v6782
  ![1344, v8079.toNat]
def k0_off104 (k0_t1 : Fin k0_t1_loop.trips) : Fin 2 → Nat :=
  let c1376 : Index := 1376#32
  let c0_i32_1 : BitVec 32 := 0#32
  let c1_i32 : BitVec 32 := 1#32
  let arg13 : BitVec 32 := Scf.iv c0_i32_1 c1_i32 k0_t1
  let c256_i32_2097 : BitVec 32 := 256#32
  let v6781 : BitVec 32 := Scalar.muli arg13 c256_i32_2097
  let v6782 : BitVec 32 := v6781
  let v8089 : Index := Scalar.indexCast v6782
  ![1376, v8089.toNat]
def k0_off105 (k0_t1 : Fin k0_t1_loop.trips) : Fin 2 → Nat :=
  let c1408_2505 : Index := 1408#32
  let c0_i32_1 : BitVec 32 := 0#32
  let c1_i32 : BitVec 32 := 1#32
  let arg13 : BitVec 32 := Scf.iv c0_i32_1 c1_i32 k0_t1
  let c256_i32_2097 : BitVec 32 := 256#32
  let v6781 : BitVec 32 := Scalar.muli arg13 c256_i32_2097
  let v6782 : BitVec 32 := v6781
  let v8102 : Index := Scalar.indexCast v6782
  ![1408, v8102.toNat]
def k0_off106 (k0_t1 : Fin k0_t1_loop.trips) : Fin 2 → Nat :=
  let c1440 : Index := 1440#32
  let c0_i32_1 : BitVec 32 := 0#32
  let c1_i32 : BitVec 32 := 1#32
  let arg13 : BitVec 32 := Scf.iv c0_i32_1 c1_i32 k0_t1
  let c256_i32_2097 : BitVec 32 := 256#32
  let v6781 : BitVec 32 := Scalar.muli arg13 c256_i32_2097
  let v6782 : BitVec 32 := v6781
  let v8112 : Index := Scalar.indexCast v6782
  ![1440, v8112.toNat]
def k0_off107 (k0_t1 : Fin k0_t1_loop.trips) : Fin 2 → Nat :=
  let c1472 : Index := 1472#32
  let c0_i32_1 : BitVec 32 := 0#32
  let c1_i32 : BitVec 32 := 1#32
  let arg13 : BitVec 32 := Scf.iv c0_i32_1 c1_i32 k0_t1
  let c256_i32_2097 : BitVec 32 := 256#32
  let v6781 : BitVec 32 := Scalar.muli arg13 c256_i32_2097
  let v6782 : BitVec 32 := v6781
  let v8122 : Index := Scalar.indexCast v6782
  ![1472, v8122.toNat]
def k0_off108 (k0_t1 : Fin k0_t1_loop.trips) : Fin 2 → Nat :=
  let c1504 : Index := 1504#32
  let c0_i32_1 : BitVec 32 := 0#32
  let c1_i32 : BitVec 32 := 1#32
  let arg13 : BitVec 32 := Scf.iv c0_i32_1 c1_i32 k0_t1
  let c256_i32_2097 : BitVec 32 := 256#32
  let v6781 : BitVec 32 := Scalar.muli arg13 c256_i32_2097
  let v6782 : BitVec 32 := v6781
  let v8132 : Index := Scalar.indexCast v6782
  ![1504, v8132.toNat]
def k0_mult7 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_2518 : BitVec 32 := 256#32
  let v8134 : BitVec 32 := Scalar.muli arg13 c256_i32_2518
  v8134
def k0_off109 (k0_t1 : Fin k0_t1_loop.trips) (c0_i32_2519 : BitVec 32) : Fin 2 → Nat :=
  let c0_i32_1 : BitVec 32 := 0#32
  let c1_i32 : BitVec 32 := 1#32
  let arg13 : BitVec 32 := Scf.iv c0_i32_1 c1_i32 k0_t1
  let c256_i32_2518 : BitVec 32 := 256#32
  let v8134 : BitVec 32 := Scalar.muli arg13 c256_i32_2518
  let v8135 : BitVec 32 := v8134
  let v8136 : BitVec 32 := Scalar.addi v8135 c0_i32_2519
  let v8137 : Index := Scalar.indexCast v8136
  let c1536 : Index := 1536#32
  ![v8137.toNat, 1536]
def k0_off110 (k0_t1 : Fin k0_t1_loop.trips) (c0_i32_2519 : BitVec 32) : Fin 2 → Nat :=
  let c0_i32_1 : BitVec 32 := 0#32
  let c1_i32 : BitVec 32 := 1#32
  let arg13 : BitVec 32 := Scf.iv c0_i32_1 c1_i32 k0_t1
  let c256_i32_2518 : BitVec 32 := 256#32
  let v8134 : BitVec 32 := Scalar.muli arg13 c256_i32_2518
  let v8135 : BitVec 32 := v8134
  let v8136 : BitVec 32 := Scalar.addi v8135 c0_i32_2519
  let v8141 : Index := Scalar.indexCast v8136
  let c1664 : Index := 1664#32
  ![v8141.toNat, 1664]
def k0_off111 (k0_t1 : Fin k0_t1_loop.trips) (c0_i32_2519 : BitVec 32) : Fin 2 → Nat :=
  let c0_i32_1 : BitVec 32 := 0#32
  let c1_i32 : BitVec 32 := 1#32
  let arg13 : BitVec 32 := Scf.iv c0_i32_1 c1_i32 k0_t1
  let c256_i32_2518 : BitVec 32 := 256#32
  let v8134 : BitVec 32 := Scalar.muli arg13 c256_i32_2518
  let v8135 : BitVec 32 := v8134
  let v8136 : BitVec 32 := Scalar.addi v8135 c0_i32_2519
  let v8145 : Index := Scalar.indexCast v8136
  let c768_2520 : Index := 768#32
  ![v8145.toNat, 768]
def k0_off112 (k0_t1 : Fin k0_t1_loop.trips) (c0_i32_2823 : BitVec 32) : Fin 2 → Nat :=
  let c12 : Index := 12#32
  let c0_i32_1 : BitVec 32 := 0#32
  let c1_i32 : BitVec 32 := 1#32
  let arg13 : BitVec 32 := Scf.iv c0_i32_1 c1_i32 k0_t1
  let c256_i32_2518 : BitVec 32 := 256#32
  let v8134 : BitVec 32 := Scalar.muli arg13 c256_i32_2518
  let v8135 : BitVec 32 := v8134
  let v9251 : BitVec 32 := Scalar.addi v8135 c0_i32_2823
  let v9252 : Index := Scalar.indexCast v9251
  ![12, v9252.toNat]
def k0_off113 (k0_t1 : Fin k0_t1_loop.trips) : Fin 3 → Nat :=
  let c0_i32_1 : BitVec 32 := 0#32
  let c1_i32 : BitVec 32 := 1#32
  let arg13 : BitVec 32 := Scf.iv c0_i32_1 c1_i32 k0_t1
  let v9258 : Index := Scalar.indexCast arg13
  let c0_2824 : Index := 0#32
  let c1536_2825 : Index := 1536#32
  ![v9258.toNat, 0, 1536]
def k0_off114 (k0_t1 : Fin k0_t1_loop.trips) : Fin 3 → Nat :=
  let c0_i32_1 : BitVec 32 := 0#32
  let c1_i32 : BitVec 32 := 1#32
  let arg13 : BitVec 32 := Scf.iv c0_i32_1 c1_i32 k0_t1
  let v9271 : Index := Scalar.indexCast arg13
  let c1_2828 : Index := 1#32
  let c1536_2829 : Index := 1536#32
  ![v9271.toNat, 1, 1536]
def k0_off115 (k0_t1 : Fin k0_t1_loop.trips) (c0_i32_2830 : BitVec 32) : Fin 2 → Nat :=
  let c13 : Index := 13#32
  let c0_i32_1 : BitVec 32 := 0#32
  let c1_i32 : BitVec 32 := 1#32
  let arg13 : BitVec 32 := Scf.iv c0_i32_1 c1_i32 k0_t1
  let c256_i32_2518 : BitVec 32 := 256#32
  let v8134 : BitVec 32 := Scalar.muli arg13 c256_i32_2518
  let v8135 : BitVec 32 := v8134
  let v9277 : BitVec 32 := Scalar.addi v8135 c0_i32_2830
  let v9278 : Index := Scalar.indexCast v9277
  ![13, v9278.toNat]
def k0_off116 (k0_t1 : Fin k0_t1_loop.trips) : Fin 3 → Nat :=
  let c0_i32_1 : BitVec 32 := 0#32
  let c1_i32 : BitVec 32 := 1#32
  let arg13 : BitVec 32 := Scf.iv c0_i32_1 c1_i32 k0_t1
  let v9284 : Index := Scalar.indexCast arg13
  let c0_2831 : Index := 0#32
  let c1664_2832 : Index := 1664#32
  ![v9284.toNat, 0, 1664]
def k0_off117 (k0_t1 : Fin k0_t1_loop.trips) : Fin 3 → Nat :=
  let c0_i32_1 : BitVec 32 := 0#32
  let c1_i32 : BitVec 32 := 1#32
  let arg13 : BitVec 32 := Scf.iv c0_i32_1 c1_i32 k0_t1
  let v9297 : Index := Scalar.indexCast arg13
  let c1_2835 : Index := 1#32
  let c1664_2836 : Index := 1664#32
  ![v9297.toNat, 1, 1664]
def k0_off118 (k0_t1 : Fin k0_t1_loop.trips) (c0_i32_2849 : BitVec 32) : Fin 2 → Nat :=
  let c0_i32_1 : BitVec 32 := 0#32
  let c1_i32 : BitVec 32 := 1#32
  let arg13 : BitVec 32 := Scf.iv c0_i32_1 c1_i32 k0_t1
  let c256_i32_2518 : BitVec 32 := 256#32
  let v8134 : BitVec 32 := Scalar.muli arg13 c256_i32_2518
  let v8135 : BitVec 32 := v8134
  let v9318 : BitVec 32 := Scalar.addi v8135 c0_i32_2849
  let v9319 : Index := Scalar.indexCast v9318
  let c1536_2850 : Index := 1536#32
  ![v9319.toNat, 1536]
def k0_off119 (k0_t1 : Fin k0_t1_loop.trips) : Fin 2 → Nat :=
  let c1536_2905 : Index := 1536#32
  let c0_i32_1 : BitVec 32 := 0#32
  let c1_i32 : BitVec 32 := 1#32
  let arg13 : BitVec 32 := Scf.iv c0_i32_1 c1_i32 k0_t1
  let c256_i32_2518 : BitVec 32 := 256#32
  let v8134 : BitVec 32 := Scalar.muli arg13 c256_i32_2518
  let v8135 : BitVec 32 := v8134
  let v9412 : Index := Scalar.indexCast v8135
  ![1536, v9412.toNat]
def k0_off120 (k0_t1 : Fin k0_t1_loop.trips) : Fin 2 → Nat :=
  let c1568 : Index := 1568#32
  let c0_i32_1 : BitVec 32 := 0#32
  let c1_i32 : BitVec 32 := 1#32
  let arg13 : BitVec 32 := Scf.iv c0_i32_1 c1_i32 k0_t1
  let c256_i32_2518 : BitVec 32 := 256#32
  let v8134 : BitVec 32 := Scalar.muli arg13 c256_i32_2518
  let v8135 : BitVec 32 := v8134
  let v9422 : Index := Scalar.indexCast v8135
  ![1568, v9422.toNat]
def k0_off121 (k0_t1 : Fin k0_t1_loop.trips) : Fin 2 → Nat :=
  let c1600 : Index := 1600#32
  let c0_i32_1 : BitVec 32 := 0#32
  let c1_i32 : BitVec 32 := 1#32
  let arg13 : BitVec 32 := Scf.iv c0_i32_1 c1_i32 k0_t1
  let c256_i32_2518 : BitVec 32 := 256#32
  let v8134 : BitVec 32 := Scalar.muli arg13 c256_i32_2518
  let v8135 : BitVec 32 := v8134
  let v9432 : Index := Scalar.indexCast v8135
  ![1600, v9432.toNat]
def k0_off122 (k0_t1 : Fin k0_t1_loop.trips) : Fin 2 → Nat :=
  let c1632 : Index := 1632#32
  let c0_i32_1 : BitVec 32 := 0#32
  let c1_i32 : BitVec 32 := 1#32
  let arg13 : BitVec 32 := Scf.iv c0_i32_1 c1_i32 k0_t1
  let c256_i32_2518 : BitVec 32 := 256#32
  let v8134 : BitVec 32 := Scalar.muli arg13 c256_i32_2518
  let v8135 : BitVec 32 := v8134
  let v9442 : Index := Scalar.indexCast v8135
  ![1632, v9442.toNat]
def k0_off123 (k0_t1 : Fin k0_t1_loop.trips) : Fin 2 → Nat :=
  let c1664_2926 : Index := 1664#32
  let c0_i32_1 : BitVec 32 := 0#32
  let c1_i32 : BitVec 32 := 1#32
  let arg13 : BitVec 32 := Scf.iv c0_i32_1 c1_i32 k0_t1
  let c256_i32_2518 : BitVec 32 := 256#32
  let v8134 : BitVec 32 := Scalar.muli arg13 c256_i32_2518
  let v8135 : BitVec 32 := v8134
  let v9455 : Index := Scalar.indexCast v8135
  ![1664, v9455.toNat]
def k0_off124 (k0_t1 : Fin k0_t1_loop.trips) : Fin 2 → Nat :=
  let c1696 : Index := 1696#32
  let c0_i32_1 : BitVec 32 := 0#32
  let c1_i32 : BitVec 32 := 1#32
  let arg13 : BitVec 32 := Scf.iv c0_i32_1 c1_i32 k0_t1
  let c256_i32_2518 : BitVec 32 := 256#32
  let v8134 : BitVec 32 := Scalar.muli arg13 c256_i32_2518
  let v8135 : BitVec 32 := v8134
  let v9465 : Index := Scalar.indexCast v8135
  ![1696, v9465.toNat]
def k0_off125 (k0_t1 : Fin k0_t1_loop.trips) : Fin 2 → Nat :=
  let c1728 : Index := 1728#32
  let c0_i32_1 : BitVec 32 := 0#32
  let c1_i32 : BitVec 32 := 1#32
  let arg13 : BitVec 32 := Scf.iv c0_i32_1 c1_i32 k0_t1
  let c256_i32_2518 : BitVec 32 := 256#32
  let v8134 : BitVec 32 := Scalar.muli arg13 c256_i32_2518
  let v8135 : BitVec 32 := v8134
  let v9475 : Index := Scalar.indexCast v8135
  ![1728, v9475.toNat]
def k0_off126 (k0_t1 : Fin k0_t1_loop.trips) : Fin 2 → Nat :=
  let c1760 : Index := 1760#32
  let c0_i32_1 : BitVec 32 := 0#32
  let c1_i32 : BitVec 32 := 1#32
  let arg13 : BitVec 32 := Scf.iv c0_i32_1 c1_i32 k0_t1
  let c256_i32_2518 : BitVec 32 := 256#32
  let v8134 : BitVec 32 := Scalar.muli arg13 c256_i32_2518
  let v8135 : BitVec 32 := v8134
  let v9485 : Index := Scalar.indexCast v8135
  ![1760, v9485.toNat]
def k0_mult8 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_2939 : BitVec 32 := 256#32
  let v9487 : BitVec 32 := Scalar.muli arg13 c256_i32_2939
  v9487
def k0_off127 (k0_t1 : Fin k0_t1_loop.trips) (c0_i32_2940 : BitVec 32) : Fin 2 → Nat :=
  let c0_i32_1 : BitVec 32 := 0#32
  let c1_i32 : BitVec 32 := 1#32
  let arg13 : BitVec 32 := Scf.iv c0_i32_1 c1_i32 k0_t1
  let c256_i32_2939 : BitVec 32 := 256#32
  let v9487 : BitVec 32 := Scalar.muli arg13 c256_i32_2939
  let v9488 : BitVec 32 := v9487
  let v9489 : BitVec 32 := Scalar.addi v9488 c0_i32_2940
  let v9490 : Index := Scalar.indexCast v9489
  let c1792 : Index := 1792#32
  ![v9490.toNat, 1792]
def k0_off128 (k0_t1 : Fin k0_t1_loop.trips) (c0_i32_2940 : BitVec 32) : Fin 2 → Nat :=
  let c0_i32_1 : BitVec 32 := 0#32
  let c1_i32 : BitVec 32 := 1#32
  let arg13 : BitVec 32 := Scf.iv c0_i32_1 c1_i32 k0_t1
  let c256_i32_2939 : BitVec 32 := 256#32
  let v9487 : BitVec 32 := Scalar.muli arg13 c256_i32_2939
  let v9488 : BitVec 32 := v9487
  let v9489 : BitVec 32 := Scalar.addi v9488 c0_i32_2940
  let v9494 : Index := Scalar.indexCast v9489
  let c1920 : Index := 1920#32
  ![v9494.toNat, 1920]
def k0_off129 (k0_t1 : Fin k0_t1_loop.trips) (c0_i32_2940 : BitVec 32) : Fin 2 → Nat :=
  let c0_i32_1 : BitVec 32 := 0#32
  let c1_i32 : BitVec 32 := 1#32
  let arg13 : BitVec 32 := Scf.iv c0_i32_1 c1_i32 k0_t1
  let c256_i32_2939 : BitVec 32 := 256#32
  let v9487 : BitVec 32 := Scalar.muli arg13 c256_i32_2939
  let v9488 : BitVec 32 := v9487
  let v9489 : BitVec 32 := Scalar.addi v9488 c0_i32_2940
  let v9498 : Index := Scalar.indexCast v9489
  let c896_2941 : Index := 896#32
  ![v9498.toNat, 896]
def k0_off130 (k0_t1 : Fin k0_t1_loop.trips) (c0_i32_3244 : BitVec 32) : Fin 2 → Nat :=
  let c14 : Index := 14#32
  let c0_i32_1 : BitVec 32 := 0#32
  let c1_i32 : BitVec 32 := 1#32
  let arg13 : BitVec 32 := Scf.iv c0_i32_1 c1_i32 k0_t1
  let c256_i32_2939 : BitVec 32 := 256#32
  let v9487 : BitVec 32 := Scalar.muli arg13 c256_i32_2939
  let v9488 : BitVec 32 := v9487
  let v10604 : BitVec 32 := Scalar.addi v9488 c0_i32_3244
  let v10605 : Index := Scalar.indexCast v10604
  ![14, v10605.toNat]
def k0_off131 (k0_t1 : Fin k0_t1_loop.trips) : Fin 3 → Nat :=
  let c0_i32_1 : BitVec 32 := 0#32
  let c1_i32 : BitVec 32 := 1#32
  let arg13 : BitVec 32 := Scf.iv c0_i32_1 c1_i32 k0_t1
  let v10611 : Index := Scalar.indexCast arg13
  let c0_3245 : Index := 0#32
  let c1792_3246 : Index := 1792#32
  ![v10611.toNat, 0, 1792]
def k0_off132 (k0_t1 : Fin k0_t1_loop.trips) : Fin 3 → Nat :=
  let c0_i32_1 : BitVec 32 := 0#32
  let c1_i32 : BitVec 32 := 1#32
  let arg13 : BitVec 32 := Scf.iv c0_i32_1 c1_i32 k0_t1
  let v10624 : Index := Scalar.indexCast arg13
  let c1_3249 : Index := 1#32
  let c1792_3250 : Index := 1792#32
  ![v10624.toNat, 1, 1792]
def k0_off133 (k0_t1 : Fin k0_t1_loop.trips) (c0_i32_3251 : BitVec 32) : Fin 2 → Nat :=
  let c15 : Index := 15#32
  let c0_i32_1 : BitVec 32 := 0#32
  let c1_i32 : BitVec 32 := 1#32
  let arg13 : BitVec 32 := Scf.iv c0_i32_1 c1_i32 k0_t1
  let c256_i32_2939 : BitVec 32 := 256#32
  let v9487 : BitVec 32 := Scalar.muli arg13 c256_i32_2939
  let v9488 : BitVec 32 := v9487
  let v10630 : BitVec 32 := Scalar.addi v9488 c0_i32_3251
  let v10631 : Index := Scalar.indexCast v10630
  ![15, v10631.toNat]
def k0_off134 (k0_t1 : Fin k0_t1_loop.trips) : Fin 3 → Nat :=
  let c0_i32_1 : BitVec 32 := 0#32
  let c1_i32 : BitVec 32 := 1#32
  let arg13 : BitVec 32 := Scf.iv c0_i32_1 c1_i32 k0_t1
  let v10637 : Index := Scalar.indexCast arg13
  let c0_3252 : Index := 0#32
  let c1920_3253 : Index := 1920#32
  ![v10637.toNat, 0, 1920]
def k0_off135 (k0_t1 : Fin k0_t1_loop.trips) : Fin 3 → Nat :=
  let c0_i32_1 : BitVec 32 := 0#32
  let c1_i32 : BitVec 32 := 1#32
  let arg13 : BitVec 32 := Scf.iv c0_i32_1 c1_i32 k0_t1
  let v10650 : Index := Scalar.indexCast arg13
  let c1_3256 : Index := 1#32
  let c1920_3257 : Index := 1920#32
  ![v10650.toNat, 1, 1920]
def k0_off136 (k0_t1 : Fin k0_t1_loop.trips) (c0_i32_3270 : BitVec 32) : Fin 2 → Nat :=
  let c0_i32_1 : BitVec 32 := 0#32
  let c1_i32 : BitVec 32 := 1#32
  let arg13 : BitVec 32 := Scf.iv c0_i32_1 c1_i32 k0_t1
  let c256_i32_2939 : BitVec 32 := 256#32
  let v9487 : BitVec 32 := Scalar.muli arg13 c256_i32_2939
  let v9488 : BitVec 32 := v9487
  let v10671 : BitVec 32 := Scalar.addi v9488 c0_i32_3270
  let v10672 : Index := Scalar.indexCast v10671
  let c1792_3271 : Index := 1792#32
  ![v10672.toNat, 1792]
def k0_off137 (k0_t1 : Fin k0_t1_loop.trips) : Fin 2 → Nat :=
  let c1792_3326 : Index := 1792#32
  let c0_i32_1 : BitVec 32 := 0#32
  let c1_i32 : BitVec 32 := 1#32
  let arg13 : BitVec 32 := Scf.iv c0_i32_1 c1_i32 k0_t1
  let c256_i32_2939 : BitVec 32 := 256#32
  let v9487 : BitVec 32 := Scalar.muli arg13 c256_i32_2939
  let v9488 : BitVec 32 := v9487
  let v10765 : Index := Scalar.indexCast v9488
  ![1792, v10765.toNat]
def k0_off138 (k0_t1 : Fin k0_t1_loop.trips) : Fin 2 → Nat :=
  let c1824 : Index := 1824#32
  let c0_i32_1 : BitVec 32 := 0#32
  let c1_i32 : BitVec 32 := 1#32
  let arg13 : BitVec 32 := Scf.iv c0_i32_1 c1_i32 k0_t1
  let c256_i32_2939 : BitVec 32 := 256#32
  let v9487 : BitVec 32 := Scalar.muli arg13 c256_i32_2939
  let v9488 : BitVec 32 := v9487
  let v10775 : Index := Scalar.indexCast v9488
  ![1824, v10775.toNat]
def k0_off139 (k0_t1 : Fin k0_t1_loop.trips) : Fin 2 → Nat :=
  let c1856 : Index := 1856#32
  let c0_i32_1 : BitVec 32 := 0#32
  let c1_i32 : BitVec 32 := 1#32
  let arg13 : BitVec 32 := Scf.iv c0_i32_1 c1_i32 k0_t1
  let c256_i32_2939 : BitVec 32 := 256#32
  let v9487 : BitVec 32 := Scalar.muli arg13 c256_i32_2939
  let v9488 : BitVec 32 := v9487
  let v10785 : Index := Scalar.indexCast v9488
  ![1856, v10785.toNat]
def k0_off140 (k0_t1 : Fin k0_t1_loop.trips) : Fin 2 → Nat :=
  let c1888 : Index := 1888#32
  let c0_i32_1 : BitVec 32 := 0#32
  let c1_i32 : BitVec 32 := 1#32
  let arg13 : BitVec 32 := Scf.iv c0_i32_1 c1_i32 k0_t1
  let c256_i32_2939 : BitVec 32 := 256#32
  let v9487 : BitVec 32 := Scalar.muli arg13 c256_i32_2939
  let v9488 : BitVec 32 := v9487
  let v10795 : Index := Scalar.indexCast v9488
  ![1888, v10795.toNat]
def k0_off141 (k0_t1 : Fin k0_t1_loop.trips) : Fin 2 → Nat :=
  let c1920_3347 : Index := 1920#32
  let c0_i32_1 : BitVec 32 := 0#32
  let c1_i32 : BitVec 32 := 1#32
  let arg13 : BitVec 32 := Scf.iv c0_i32_1 c1_i32 k0_t1
  let c256_i32_2939 : BitVec 32 := 256#32
  let v9487 : BitVec 32 := Scalar.muli arg13 c256_i32_2939
  let v9488 : BitVec 32 := v9487
  let v10808 : Index := Scalar.indexCast v9488
  ![1920, v10808.toNat]
def k0_off142 (k0_t1 : Fin k0_t1_loop.trips) : Fin 2 → Nat :=
  let c1952 : Index := 1952#32
  let c0_i32_1 : BitVec 32 := 0#32
  let c1_i32 : BitVec 32 := 1#32
  let arg13 : BitVec 32 := Scf.iv c0_i32_1 c1_i32 k0_t1
  let c256_i32_2939 : BitVec 32 := 256#32
  let v9487 : BitVec 32 := Scalar.muli arg13 c256_i32_2939
  let v9488 : BitVec 32 := v9487
  let v10818 : Index := Scalar.indexCast v9488
  ![1952, v10818.toNat]
def k0_off143 (k0_t1 : Fin k0_t1_loop.trips) : Fin 2 → Nat :=
  let c1984 : Index := 1984#32
  let c0_i32_1 : BitVec 32 := 0#32
  let c1_i32 : BitVec 32 := 1#32
  let arg13 : BitVec 32 := Scf.iv c0_i32_1 c1_i32 k0_t1
  let c256_i32_2939 : BitVec 32 := 256#32
  let v9487 : BitVec 32 := Scalar.muli arg13 c256_i32_2939
  let v9488 : BitVec 32 := v9487
  let v10828 : Index := Scalar.indexCast v9488
  ![1984, v10828.toNat]
def k0_off144 (k0_t1 : Fin k0_t1_loop.trips) : Fin 2 → Nat :=
  let c2016 : Index := 2016#32
  let c0_i32_1 : BitVec 32 := 0#32
  let c1_i32 : BitVec 32 := 1#32
  let arg13 : BitVec 32 := Scf.iv c0_i32_1 c1_i32 k0_t1
  let c256_i32_2939 : BitVec 32 := 256#32
  let v9487 : BitVec 32 := Scalar.muli arg13 c256_i32_2939
  let v9488 : BitVec 32 := v9487
  let v10838 : Index := Scalar.indexCast v9488
  ![2016, v10838.toNat]
def k0_mult9 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_3360 : BitVec 32 := 256#32
  let v10840 : BitVec 32 := Scalar.muli arg13 c256_i32_3360
  v10840
def k0_off145 (k0_t1 : Fin k0_t1_loop.trips) (c0_i32_3361 : BitVec 32) : Fin 2 → Nat :=
  let c0_i32_1 : BitVec 32 := 0#32
  let c1_i32 : BitVec 32 := 1#32
  let arg13 : BitVec 32 := Scf.iv c0_i32_1 c1_i32 k0_t1
  let c256_i32_3360 : BitVec 32 := 256#32
  let v10840 : BitVec 32 := Scalar.muli arg13 c256_i32_3360
  let v10841 : BitVec 32 := v10840
  let v10842 : BitVec 32 := Scalar.addi v10841 c0_i32_3361
  let v10843 : Index := Scalar.indexCast v10842
  let c2048 : Index := 2048#32
  ![v10843.toNat, 2048]
def k0_off146 (k0_t1 : Fin k0_t1_loop.trips) (c0_i32_3361 : BitVec 32) : Fin 2 → Nat :=
  let c0_i32_1 : BitVec 32 := 0#32
  let c1_i32 : BitVec 32 := 1#32
  let arg13 : BitVec 32 := Scf.iv c0_i32_1 c1_i32 k0_t1
  let c256_i32_3360 : BitVec 32 := 256#32
  let v10840 : BitVec 32 := Scalar.muli arg13 c256_i32_3360
  let v10841 : BitVec 32 := v10840
  let v10842 : BitVec 32 := Scalar.addi v10841 c0_i32_3361
  let v10847 : Index := Scalar.indexCast v10842
  let c2176 : Index := 2176#32
  ![v10847.toNat, 2176]
def k0_off147 (k0_t1 : Fin k0_t1_loop.trips) (c0_i32_3361 : BitVec 32) : Fin 2 → Nat :=
  let c0_i32_1 : BitVec 32 := 0#32
  let c1_i32 : BitVec 32 := 1#32
  let arg13 : BitVec 32 := Scf.iv c0_i32_1 c1_i32 k0_t1
  let c256_i32_3360 : BitVec 32 := 256#32
  let v10840 : BitVec 32 := Scalar.muli arg13 c256_i32_3360
  let v10841 : BitVec 32 := v10840
  let v10842 : BitVec 32 := Scalar.addi v10841 c0_i32_3361
  let v10851 : Index := Scalar.indexCast v10842
  let c1024_3362 : Index := 1024#32
  ![v10851.toNat, 1024]
def k0_off148 (k0_t1 : Fin k0_t1_loop.trips) (c0_i32_3665 : BitVec 32) : Fin 2 → Nat :=
  let c16_3666 : Index := 16#32
  let c0_i32_1 : BitVec 32 := 0#32
  let c1_i32 : BitVec 32 := 1#32
  let arg13 : BitVec 32 := Scf.iv c0_i32_1 c1_i32 k0_t1
  let c256_i32_3360 : BitVec 32 := 256#32
  let v10840 : BitVec 32 := Scalar.muli arg13 c256_i32_3360
  let v10841 : BitVec 32 := v10840
  let v11957 : BitVec 32 := Scalar.addi v10841 c0_i32_3665
  let v11958 : Index := Scalar.indexCast v11957
  ![16, v11958.toNat]
def k0_off149 (k0_t1 : Fin k0_t1_loop.trips) : Fin 3 → Nat :=
  let c0_i32_1 : BitVec 32 := 0#32
  let c1_i32 : BitVec 32 := 1#32
  let arg13 : BitVec 32 := Scf.iv c0_i32_1 c1_i32 k0_t1
  let v11964 : Index := Scalar.indexCast arg13
  let c0_3667 : Index := 0#32
  let c2048_3668 : Index := 2048#32
  ![v11964.toNat, 0, 2048]
def k0_off150 (k0_t1 : Fin k0_t1_loop.trips) : Fin 3 → Nat :=
  let c0_i32_1 : BitVec 32 := 0#32
  let c1_i32 : BitVec 32 := 1#32
  let arg13 : BitVec 32 := Scf.iv c0_i32_1 c1_i32 k0_t1
  let v11977 : Index := Scalar.indexCast arg13
  let c1_3671 : Index := 1#32
  let c2048_3672 : Index := 2048#32
  ![v11977.toNat, 1, 2048]
def k0_off151 (k0_t1 : Fin k0_t1_loop.trips) (c0_i32_3673 : BitVec 32) : Fin 2 → Nat :=
  let c17 : Index := 17#32
  let c0_i32_1 : BitVec 32 := 0#32
  let c1_i32 : BitVec 32 := 1#32
  let arg13 : BitVec 32 := Scf.iv c0_i32_1 c1_i32 k0_t1
  let c256_i32_3360 : BitVec 32 := 256#32
  let v10840 : BitVec 32 := Scalar.muli arg13 c256_i32_3360
  let v10841 : BitVec 32 := v10840
  let v11983 : BitVec 32 := Scalar.addi v10841 c0_i32_3673
  let v11984 : Index := Scalar.indexCast v11983
  ![17, v11984.toNat]
def k0_off152 (k0_t1 : Fin k0_t1_loop.trips) : Fin 3 → Nat :=
  let c0_i32_1 : BitVec 32 := 0#32
  let c1_i32 : BitVec 32 := 1#32
  let arg13 : BitVec 32 := Scf.iv c0_i32_1 c1_i32 k0_t1
  let v11990 : Index := Scalar.indexCast arg13
  let c0_3674 : Index := 0#32
  let c2176_3675 : Index := 2176#32
  ![v11990.toNat, 0, 2176]
def k0_off153 (k0_t1 : Fin k0_t1_loop.trips) : Fin 3 → Nat :=
  let c0_i32_1 : BitVec 32 := 0#32
  let c1_i32 : BitVec 32 := 1#32
  let arg13 : BitVec 32 := Scf.iv c0_i32_1 c1_i32 k0_t1
  let v12003 : Index := Scalar.indexCast arg13
  let c1_3678 : Index := 1#32
  let c2176_3679 : Index := 2176#32
  ![v12003.toNat, 1, 2176]
def k0_off154 (k0_t1 : Fin k0_t1_loop.trips) (c0_i32_3692 : BitVec 32) : Fin 2 → Nat :=
  let c0_i32_1 : BitVec 32 := 0#32
  let c1_i32 : BitVec 32 := 1#32
  let arg13 : BitVec 32 := Scf.iv c0_i32_1 c1_i32 k0_t1
  let c256_i32_3360 : BitVec 32 := 256#32
  let v10840 : BitVec 32 := Scalar.muli arg13 c256_i32_3360
  let v10841 : BitVec 32 := v10840
  let v12024 : BitVec 32 := Scalar.addi v10841 c0_i32_3692
  let v12025 : Index := Scalar.indexCast v12024
  let c2048_3693 : Index := 2048#32
  ![v12025.toNat, 2048]
def k0_off155 (k0_t1 : Fin k0_t1_loop.trips) : Fin 2 → Nat :=
  let c2048_3748 : Index := 2048#32
  let c0_i32_1 : BitVec 32 := 0#32
  let c1_i32 : BitVec 32 := 1#32
  let arg13 : BitVec 32 := Scf.iv c0_i32_1 c1_i32 k0_t1
  let c256_i32_3360 : BitVec 32 := 256#32
  let v10840 : BitVec 32 := Scalar.muli arg13 c256_i32_3360
  let v10841 : BitVec 32 := v10840
  let v12118 : Index := Scalar.indexCast v10841
  ![2048, v12118.toNat]
def k0_off156 (k0_t1 : Fin k0_t1_loop.trips) : Fin 2 → Nat :=
  let c2080 : Index := 2080#32
  let c0_i32_1 : BitVec 32 := 0#32
  let c1_i32 : BitVec 32 := 1#32
  let arg13 : BitVec 32 := Scf.iv c0_i32_1 c1_i32 k0_t1
  let c256_i32_3360 : BitVec 32 := 256#32
  let v10840 : BitVec 32 := Scalar.muli arg13 c256_i32_3360
  let v10841 : BitVec 32 := v10840
  let v12128 : Index := Scalar.indexCast v10841
  ![2080, v12128.toNat]
def k0_off157 (k0_t1 : Fin k0_t1_loop.trips) : Fin 2 → Nat :=
  let c2112 : Index := 2112#32
  let c0_i32_1 : BitVec 32 := 0#32
  let c1_i32 : BitVec 32 := 1#32
  let arg13 : BitVec 32 := Scf.iv c0_i32_1 c1_i32 k0_t1
  let c256_i32_3360 : BitVec 32 := 256#32
  let v10840 : BitVec 32 := Scalar.muli arg13 c256_i32_3360
  let v10841 : BitVec 32 := v10840
  let v12138 : Index := Scalar.indexCast v10841
  ![2112, v12138.toNat]
def k0_off158 (k0_t1 : Fin k0_t1_loop.trips) : Fin 2 → Nat :=
  let c2144 : Index := 2144#32
  let c0_i32_1 : BitVec 32 := 0#32
  let c1_i32 : BitVec 32 := 1#32
  let arg13 : BitVec 32 := Scf.iv c0_i32_1 c1_i32 k0_t1
  let c256_i32_3360 : BitVec 32 := 256#32
  let v10840 : BitVec 32 := Scalar.muli arg13 c256_i32_3360
  let v10841 : BitVec 32 := v10840
  let v12148 : Index := Scalar.indexCast v10841
  ![2144, v12148.toNat]
def k0_off159 (k0_t1 : Fin k0_t1_loop.trips) : Fin 2 → Nat :=
  let c2176_3769 : Index := 2176#32
  let c0_i32_1 : BitVec 32 := 0#32
  let c1_i32 : BitVec 32 := 1#32
  let arg13 : BitVec 32 := Scf.iv c0_i32_1 c1_i32 k0_t1
  let c256_i32_3360 : BitVec 32 := 256#32
  let v10840 : BitVec 32 := Scalar.muli arg13 c256_i32_3360
  let v10841 : BitVec 32 := v10840
  let v12161 : Index := Scalar.indexCast v10841
  ![2176, v12161.toNat]
def k0_off160 (k0_t1 : Fin k0_t1_loop.trips) : Fin 2 → Nat :=
  let c2208 : Index := 2208#32
  let c0_i32_1 : BitVec 32 := 0#32
  let c1_i32 : BitVec 32 := 1#32
  let arg13 : BitVec 32 := Scf.iv c0_i32_1 c1_i32 k0_t1
  let c256_i32_3360 : BitVec 32 := 256#32
  let v10840 : BitVec 32 := Scalar.muli arg13 c256_i32_3360
  let v10841 : BitVec 32 := v10840
  let v12171 : Index := Scalar.indexCast v10841
  ![2208, v12171.toNat]
def k0_off161 (k0_t1 : Fin k0_t1_loop.trips) : Fin 2 → Nat :=
  let c2240 : Index := 2240#32
  let c0_i32_1 : BitVec 32 := 0#32
  let c1_i32 : BitVec 32 := 1#32
  let arg13 : BitVec 32 := Scf.iv c0_i32_1 c1_i32 k0_t1
  let c256_i32_3360 : BitVec 32 := 256#32
  let v10840 : BitVec 32 := Scalar.muli arg13 c256_i32_3360
  let v10841 : BitVec 32 := v10840
  let v12181 : Index := Scalar.indexCast v10841
  ![2240, v12181.toNat]
def k0_off162 (k0_t1 : Fin k0_t1_loop.trips) : Fin 2 → Nat :=
  let c2272 : Index := 2272#32
  let c0_i32_1 : BitVec 32 := 0#32
  let c1_i32 : BitVec 32 := 1#32
  let arg13 : BitVec 32 := Scf.iv c0_i32_1 c1_i32 k0_t1
  let c256_i32_3360 : BitVec 32 := 256#32
  let v10840 : BitVec 32 := Scalar.muli arg13 c256_i32_3360
  let v10841 : BitVec 32 := v10840
  let v12191 : Index := Scalar.indexCast v10841
  ![2272, v12191.toNat]
def k0_mult10 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_3782 : BitVec 32 := 256#32
  let v12193 : BitVec 32 := Scalar.muli arg13 c256_i32_3782
  v12193
def k0_off163 (k0_t1 : Fin k0_t1_loop.trips) (c0_i32_3783 : BitVec 32) : Fin 2 → Nat :=
  let c0_i32_1 : BitVec 32 := 0#32
  let c1_i32 : BitVec 32 := 1#32
  let arg13 : BitVec 32 := Scf.iv c0_i32_1 c1_i32 k0_t1
  let c256_i32_3782 : BitVec 32 := 256#32
  let v12193 : BitVec 32 := Scalar.muli arg13 c256_i32_3782
  let v12194 : BitVec 32 := v12193
  let v12195 : BitVec 32 := Scalar.addi v12194 c0_i32_3783
  let v12196 : Index := Scalar.indexCast v12195
  let c2304 : Index := 2304#32
  ![v12196.toNat, 2304]
def k0_off164 (k0_t1 : Fin k0_t1_loop.trips) (c0_i32_3783 : BitVec 32) : Fin 2 → Nat :=
  let c0_i32_1 : BitVec 32 := 0#32
  let c1_i32 : BitVec 32 := 1#32
  let arg13 : BitVec 32 := Scf.iv c0_i32_1 c1_i32 k0_t1
  let c256_i32_3782 : BitVec 32 := 256#32
  let v12193 : BitVec 32 := Scalar.muli arg13 c256_i32_3782
  let v12194 : BitVec 32 := v12193
  let v12195 : BitVec 32 := Scalar.addi v12194 c0_i32_3783
  let v12200 : Index := Scalar.indexCast v12195
  let c2432 : Index := 2432#32
  ![v12200.toNat, 2432]
def k0_off165 (k0_t1 : Fin k0_t1_loop.trips) (c0_i32_3783 : BitVec 32) : Fin 2 → Nat :=
  let c0_i32_1 : BitVec 32 := 0#32
  let c1_i32 : BitVec 32 := 1#32
  let arg13 : BitVec 32 := Scf.iv c0_i32_1 c1_i32 k0_t1
  let c256_i32_3782 : BitVec 32 := 256#32
  let v12193 : BitVec 32 := Scalar.muli arg13 c256_i32_3782
  let v12194 : BitVec 32 := v12193
  let v12195 : BitVec 32 := Scalar.addi v12194 c0_i32_3783
  let v12204 : Index := Scalar.indexCast v12195
  let c1152_3784 : Index := 1152#32
  ![v12204.toNat, 1152]
def k0_off166 (k0_t1 : Fin k0_t1_loop.trips) (c0_i32_4087 : BitVec 32) : Fin 2 → Nat :=
  let c18 : Index := 18#32
  let c0_i32_1 : BitVec 32 := 0#32
  let c1_i32 : BitVec 32 := 1#32
  let arg13 : BitVec 32 := Scf.iv c0_i32_1 c1_i32 k0_t1
  let c256_i32_3782 : BitVec 32 := 256#32
  let v12193 : BitVec 32 := Scalar.muli arg13 c256_i32_3782
  let v12194 : BitVec 32 := v12193
  let v13310 : BitVec 32 := Scalar.addi v12194 c0_i32_4087
  let v13311 : Index := Scalar.indexCast v13310
  ![18, v13311.toNat]
def k0_off167 (k0_t1 : Fin k0_t1_loop.trips) : Fin 3 → Nat :=
  let c0_i32_1 : BitVec 32 := 0#32
  let c1_i32 : BitVec 32 := 1#32
  let arg13 : BitVec 32 := Scf.iv c0_i32_1 c1_i32 k0_t1
  let v13317 : Index := Scalar.indexCast arg13
  let c0_4088 : Index := 0#32
  let c2304_4089 : Index := 2304#32
  ![v13317.toNat, 0, 2304]
def k0_off168 (k0_t1 : Fin k0_t1_loop.trips) : Fin 3 → Nat :=
  let c0_i32_1 : BitVec 32 := 0#32
  let c1_i32 : BitVec 32 := 1#32
  let arg13 : BitVec 32 := Scf.iv c0_i32_1 c1_i32 k0_t1
  let v13330 : Index := Scalar.indexCast arg13
  let c1_4092 : Index := 1#32
  let c2304_4093 : Index := 2304#32
  ![v13330.toNat, 1, 2304]
def k0_off169 (k0_t1 : Fin k0_t1_loop.trips) (c0_i32_4094 : BitVec 32) : Fin 2 → Nat :=
  let c19 : Index := 19#32
  let c0_i32_1 : BitVec 32 := 0#32
  let c1_i32 : BitVec 32 := 1#32
  let arg13 : BitVec 32 := Scf.iv c0_i32_1 c1_i32 k0_t1
  let c256_i32_3782 : BitVec 32 := 256#32
  let v12193 : BitVec 32 := Scalar.muli arg13 c256_i32_3782
  let v12194 : BitVec 32 := v12193
  let v13336 : BitVec 32 := Scalar.addi v12194 c0_i32_4094
  let v13337 : Index := Scalar.indexCast v13336
  ![19, v13337.toNat]
def k0_off170 (k0_t1 : Fin k0_t1_loop.trips) : Fin 3 → Nat :=
  let c0_i32_1 : BitVec 32 := 0#32
  let c1_i32 : BitVec 32 := 1#32
  let arg13 : BitVec 32 := Scf.iv c0_i32_1 c1_i32 k0_t1
  let v13343 : Index := Scalar.indexCast arg13
  let c0_4095 : Index := 0#32
  let c2432_4096 : Index := 2432#32
  ![v13343.toNat, 0, 2432]
def k0_off171 (k0_t1 : Fin k0_t1_loop.trips) : Fin 3 → Nat :=
  let c0_i32_1 : BitVec 32 := 0#32
  let c1_i32 : BitVec 32 := 1#32
  let arg13 : BitVec 32 := Scf.iv c0_i32_1 c1_i32 k0_t1
  let v13356 : Index := Scalar.indexCast arg13
  let c1_4099 : Index := 1#32
  let c2432_4100 : Index := 2432#32
  ![v13356.toNat, 1, 2432]
def k0_off172 (k0_t1 : Fin k0_t1_loop.trips) (c0_i32_4113 : BitVec 32) : Fin 2 → Nat :=
  let c0_i32_1 : BitVec 32 := 0#32
  let c1_i32 : BitVec 32 := 1#32
  let arg13 : BitVec 32 := Scf.iv c0_i32_1 c1_i32 k0_t1
  let c256_i32_3782 : BitVec 32 := 256#32
  let v12193 : BitVec 32 := Scalar.muli arg13 c256_i32_3782
  let v12194 : BitVec 32 := v12193
  let v13377 : BitVec 32 := Scalar.addi v12194 c0_i32_4113
  let v13378 : Index := Scalar.indexCast v13377
  let c2304_4114 : Index := 2304#32
  ![v13378.toNat, 2304]
def k0_off173 (k0_t1 : Fin k0_t1_loop.trips) : Fin 2 → Nat :=
  let c2304_4169 : Index := 2304#32
  let c0_i32_1 : BitVec 32 := 0#32
  let c1_i32 : BitVec 32 := 1#32
  let arg13 : BitVec 32 := Scf.iv c0_i32_1 c1_i32 k0_t1
  let c256_i32_3782 : BitVec 32 := 256#32
  let v12193 : BitVec 32 := Scalar.muli arg13 c256_i32_3782
  let v12194 : BitVec 32 := v12193
  let v13471 : Index := Scalar.indexCast v12194
  ![2304, v13471.toNat]
def k0_off174 (k0_t1 : Fin k0_t1_loop.trips) : Fin 2 → Nat :=
  let c2336 : Index := 2336#32
  let c0_i32_1 : BitVec 32 := 0#32
  let c1_i32 : BitVec 32 := 1#32
  let arg13 : BitVec 32 := Scf.iv c0_i32_1 c1_i32 k0_t1
  let c256_i32_3782 : BitVec 32 := 256#32
  let v12193 : BitVec 32 := Scalar.muli arg13 c256_i32_3782
  let v12194 : BitVec 32 := v12193
  let v13481 : Index := Scalar.indexCast v12194
  ![2336, v13481.toNat]
def k0_off175 (k0_t1 : Fin k0_t1_loop.trips) : Fin 2 → Nat :=
  let c2368 : Index := 2368#32
  let c0_i32_1 : BitVec 32 := 0#32
  let c1_i32 : BitVec 32 := 1#32
  let arg13 : BitVec 32 := Scf.iv c0_i32_1 c1_i32 k0_t1
  let c256_i32_3782 : BitVec 32 := 256#32
  let v12193 : BitVec 32 := Scalar.muli arg13 c256_i32_3782
  let v12194 : BitVec 32 := v12193
  let v13491 : Index := Scalar.indexCast v12194
  ![2368, v13491.toNat]
def k0_off176 (k0_t1 : Fin k0_t1_loop.trips) : Fin 2 → Nat :=
  let c2400 : Index := 2400#32
  let c0_i32_1 : BitVec 32 := 0#32
  let c1_i32 : BitVec 32 := 1#32
  let arg13 : BitVec 32 := Scf.iv c0_i32_1 c1_i32 k0_t1
  let c256_i32_3782 : BitVec 32 := 256#32
  let v12193 : BitVec 32 := Scalar.muli arg13 c256_i32_3782
  let v12194 : BitVec 32 := v12193
  let v13501 : Index := Scalar.indexCast v12194
  ![2400, v13501.toNat]
def k0_off177 (k0_t1 : Fin k0_t1_loop.trips) : Fin 2 → Nat :=
  let c2432_4190 : Index := 2432#32
  let c0_i32_1 : BitVec 32 := 0#32
  let c1_i32 : BitVec 32 := 1#32
  let arg13 : BitVec 32 := Scf.iv c0_i32_1 c1_i32 k0_t1
  let c256_i32_3782 : BitVec 32 := 256#32
  let v12193 : BitVec 32 := Scalar.muli arg13 c256_i32_3782
  let v12194 : BitVec 32 := v12193
  let v13514 : Index := Scalar.indexCast v12194
  ![2432, v13514.toNat]
def k0_off178 (k0_t1 : Fin k0_t1_loop.trips) : Fin 2 → Nat :=
  let c2464 : Index := 2464#32
  let c0_i32_1 : BitVec 32 := 0#32
  let c1_i32 : BitVec 32 := 1#32
  let arg13 : BitVec 32 := Scf.iv c0_i32_1 c1_i32 k0_t1
  let c256_i32_3782 : BitVec 32 := 256#32
  let v12193 : BitVec 32 := Scalar.muli arg13 c256_i32_3782
  let v12194 : BitVec 32 := v12193
  let v13524 : Index := Scalar.indexCast v12194
  ![2464, v13524.toNat]
def k0_off179 (k0_t1 : Fin k0_t1_loop.trips) : Fin 2 → Nat :=
  let c2496 : Index := 2496#32
  let c0_i32_1 : BitVec 32 := 0#32
  let c1_i32 : BitVec 32 := 1#32
  let arg13 : BitVec 32 := Scf.iv c0_i32_1 c1_i32 k0_t1
  let c256_i32_3782 : BitVec 32 := 256#32
  let v12193 : BitVec 32 := Scalar.muli arg13 c256_i32_3782
  let v12194 : BitVec 32 := v12193
  let v13534 : Index := Scalar.indexCast v12194
  ![2496, v13534.toNat]
def k0_off180 (k0_t1 : Fin k0_t1_loop.trips) : Fin 2 → Nat :=
  let c2528 : Index := 2528#32
  let c0_i32_1 : BitVec 32 := 0#32
  let c1_i32 : BitVec 32 := 1#32
  let arg13 : BitVec 32 := Scf.iv c0_i32_1 c1_i32 k0_t1
  let c256_i32_3782 : BitVec 32 := 256#32
  let v12193 : BitVec 32 := Scalar.muli arg13 c256_i32_3782
  let v12194 : BitVec 32 := v12193
  let v13544 : Index := Scalar.indexCast v12194
  ![2528, v13544.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x2560 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S20x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2560x1024 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S31x2048x2560 : Shape := ⟨3, ![31, 2048, 2560]⟩
abbrev S31x2048x1280 : Shape := ⟨3, ![31, 2048, 1280]⟩
abbrev S253 : Shape := ⟨1, ![253]⟩
abbrev S63488x10x2x128 : Shape := ⟨4, ![63488, 10, 2, 128]⟩
abbrev S63488x10x1x128 : Shape := ⟨4, ![63488, 10, 1, 128]⟩
abbrev S63488x10x128 : Shape := ⟨3, ![63488, 10, 128]⟩
abbrev S_ : Shape := ⟨0, ![]⟩
abbrev S63488x2560 : Shape := ⟨2, ![63488, 2560]⟩
abbrev S63488x20x128 : Shape := ⟨3, ![63488, 20, 128]⟩
abbrev S63488x20 : Shape := ⟨2, ![63488, 20]⟩
abbrev S63488x20x1 : Shape := ⟨3, ![63488, 20, 1]⟩
abbrev S63488x20x1x1 : Shape := ⟨4, ![63488, 20, 1, 1]⟩
abbrev S1x1x1x253 : Shape := ⟨4, ![1, 1, 1, 253]⟩
abbrev S63488x20x1x253 : Shape := ⟨4, ![63488, 20, 1, 253]⟩
abbrev S496x128x2560 : Shape := ⟨3, ![496, 128, 2560]⟩
abbrev S496x2560 : Shape := ⟨2, ![496, 2560]⟩
abbrev S496x1x2560 : Shape := ⟨3, ![496, 1, 2560]⟩
abbrev S496x1x2560x1 : Shape := ⟨4, ![496, 1, 2560, 1]⟩
abbrev S496x1x2560x253 : Shape := ⟨4, ![496, 1, 2560, 253]⟩
abbrev S2560x496 : Shape := ⟨2, ![2560, 496]⟩
abbrev S2560x63488 : Shape := ⟨2, ![2560, 63488]⟩

abbrev nBuf : Space → Nat
  | .hbm => 139
  | .vmem => 4
  | .smem => 0
  | _ => 0

abbrev hbmTy0_0 (i : Nat) : BufTy := match i % 128 with
  | 0 => ⟨S31x2048x2560, .bf16⟩
  | 1 => ⟨S31x2048x1280, .bf16⟩
  | 2 => ⟨S253, .f32⟩
  | 3 => ⟨S63488x10x2x128, .bf16⟩
  | 4 => ⟨S63488x10x2x128, .f32⟩
  | 5 => ⟨S63488x10x1x128, .f32⟩
  | 6 => ⟨S63488x10x128, .f32⟩
  | 7 => ⟨S63488x10x1x128, .f32⟩
  | 8 => ⟨S63488x10x128, .f32⟩
  | 9 => ⟨S63488x10x128, .bf16⟩
  | 10 => ⟨S63488x10x128, .f32⟩
  | 11 => ⟨S63488x10x128, .f32⟩
  | 12 => ⟨S63488x10x128, .f32⟩
  | 13 => ⟨S_, .f32⟩
  | 14 => ⟨S63488x10x128, .f32⟩
  | 15 => ⟨S63488x10x128, .f32⟩
  | 16 => ⟨S_, .f32⟩
  | 17 => ⟨S63488x10x128, .f32⟩
  | 18 => ⟨S63488x10x128, .f32⟩
  | 19 => ⟨S63488x10x128, .f32⟩
  | 20 => ⟨S63488x10x128, .f32⟩
  | 21 => ⟨S_, .f32⟩
  | 22 => ⟨S63488x10x128, .f32⟩
  | 23 => ⟨S63488x10x128, .f32⟩
  | 24 => ⟨S63488x10x128, .f32⟩
  | 25 => ⟨S_, .f32⟩
  | 26 => ⟨S63488x10x128, .f32⟩
  | 27 => ⟨S63488x10x128, .f32⟩
  | 28 => ⟨S63488x10x128, .f32⟩
  | 29 => ⟨S63488x10x128, .f32⟩
  | 30 => ⟨S63488x10x128, .f32⟩
  | 31 => ⟨S63488x10x1x128, .f32⟩
  | 32 => ⟨S63488x10x1x128, .f32⟩
  | 33 => ⟨S63488x10x2x128, .f32⟩
  | 34 => ⟨S63488x2560, .f32⟩
  | 35 => ⟨S63488x20x128, .f32⟩
  | 36 => ⟨S63488x20x128, .f32⟩
  | 37 => ⟨S_, .f32⟩
  | 38 => ⟨S63488x20, .f32⟩
  | 39 => ⟨S63488x20x1, .f32⟩
  | 40 => ⟨S_, .f32⟩
  | 41 => ⟨S63488x20x1, .f32⟩
  | 42 => ⟨S63488x20x1, .f32⟩
  | 43 => ⟨S63488x20x1x1, .f32⟩
  | 44 => ⟨S1x1x1x253, .f32⟩
  | 45 => ⟨S63488x20x1x253, .f32⟩
  | 46 => ⟨S63488x20x1x253, .f32⟩
  | 47 => ⟨S63488x20x1x253, .i1⟩
  | 48 => ⟨S_, .f32⟩
  | 49 => ⟨S63488x20x1x253, .f32⟩
  | 50 => ⟨S63488x20x1x253, .f32⟩
  | 51 => ⟨S63488x20x1x253, .f32⟩
  | 52 => ⟨S_, .f32⟩
  | 53 => ⟨S63488x20x1, .f32⟩
  | 54 => ⟨S_, .f32⟩
  | 55 => ⟨S63488x20x1, .f32⟩
  | 56 => ⟨S63488x20x1, .i1⟩
  | 57 => ⟨S_, .f32⟩
  | 58 => ⟨S63488x20x1, .f32⟩
  | 59 => ⟨S63488x20x1, .i1⟩
  | 60 => ⟨S63488x20x1, .i1⟩
  | 61 => ⟨S_, .f32⟩
  | 62 => ⟨S63488x20x1, .f32⟩
  | 63 => ⟨S63488x20x1, .f32⟩
  | 64 => ⟨S_, .f32⟩
  | 65 => ⟨S63488x20x1, .f32⟩
  | 66 => ⟨S63488x20x1, .i1⟩
  | 67 => ⟨S_, .f32⟩
  | 68 => ⟨S63488x20x1, .f32⟩
  | 69 => ⟨S63488x20x1, .f32⟩
  | 70 => ⟨S_, .f32⟩
  | 71 => ⟨S63488x20x1, .f32⟩
  | 72 => ⟨S63488x20x1, .f32⟩
  | 73 => ⟨S63488x20x128, .f32⟩
  | 74 => ⟨S63488x20x128, .f32⟩
  | 75 => ⟨S_, .f32⟩
  | 76 => ⟨S_, .f32⟩
  | 77 => ⟨S_, .f32⟩
  | 78 => ⟨S63488x20x128, .f32⟩
  | 79 => ⟨S63488x20x128, .f32⟩
  | 80 => ⟨S_, .f32⟩
  | 81 => ⟨S63488x20x128, .f32⟩
  | 82 => ⟨S63488x20x128, .f32⟩
  | 83 => ⟨S496x128x2560, .f32⟩
  | 84 => ⟨S496x128x2560, .f32⟩
  | 85 => ⟨S_, .f32⟩
  | 86 => ⟨S496x2560, .f32⟩
  | 87 => ⟨S496x1x2560, .f32⟩
  | 88 => ⟨S_, .f32⟩
  | 89 => ⟨S496x1x2560, .f32⟩
  | 90 => ⟨S496x1x2560, .f32⟩
  | 91 => ⟨S496x1x2560x1, .f32⟩
  | 92 => ⟨S1x1x1x253, .f32⟩
  | 93 => ⟨S496x1x2560x253, .f32⟩
  | 94 => ⟨S496x1x2560x253, .f32⟩
  | 95 => ⟨S496x1x2560x253, .i1⟩
  | 96 => ⟨S_, .f32⟩
  | 97 => ⟨S496x1x2560x253, .f32⟩
  | 98 => ⟨S496x1x2560x253, .f32⟩
  | 99 => ⟨S496x1x2560x253, .f32⟩
  | 100 => ⟨S_, .f32⟩
  | 101 => ⟨S496x1x2560, .f32⟩
  | 102 => ⟨S_, .f32⟩
  | 103 => ⟨S496x1x2560, .f32⟩
  | 104 => ⟨S496x1x2560, .i1⟩
  | 105 => ⟨S_, .f32⟩
  | 106 => ⟨S496x1x2560, .f32⟩
  | 107 => ⟨S496x1x2560, .i1⟩
  | 108 => ⟨S496x1x2560, .i1⟩
  | 109 => ⟨S_, .f32⟩
  | 110 => ⟨S496x1x2560, .f32⟩
  | 111 => ⟨S496x1x2560, .f32⟩
  | 112 => ⟨S_, .f32⟩
  | 113 => ⟨S496x1x2560, .f32⟩
  | 114 => ⟨S496x1x2560, .i1⟩
  | 115 => ⟨S_, .f32⟩
  | 116 => ⟨S496x1x2560, .f32⟩
  | 117 => ⟨S496x1x2560, .f32⟩
  | 118 => ⟨S_, .f32⟩
  | 119 => ⟨S496x1x2560, .f32⟩
  | 120 => ⟨S496x1x2560, .f32⟩
  | 121 => ⟨S496x128x2560, .f32⟩
  | 122 => ⟨S496x128x2560, .f32⟩
  | 123 => ⟨S_, .f32⟩
  | 124 => ⟨S_, .f32⟩
  | 125 => ⟨S_, .f32⟩
  | 126 => ⟨S496x128x2560, .f32⟩
  | 127 => ⟨S496x128x2560, .f32⟩
  | _ => ⟨S31x2048x2560, .bf16⟩

abbrev hbmTy0_1 (i : Nat) : BufTy := match i % 128 with
  | 0 => ⟨S_, .f32⟩
  | 1 => ⟨S496x128x2560, .f32⟩
  | 2 => ⟨S496x128x2560, .f32⟩
  | 3 => ⟨S63488x20, .f32⟩
  | 4 => ⟨S496x2560, .f32⟩
  | 5 => ⟨S2560x496, .f32⟩
  | 6 => ⟨S63488x2560, .f32⟩
  | 7 => ⟨S63488x2560, .f32⟩
  | 8 => ⟨S2560x63488, .f32⟩
  | 9 => ⟨S63488x2560, .fp8e4m3⟩
  | 10 => ⟨S2560x63488, .fp8e4m3⟩
  | _ => ⟨S31x2048x2560, .bf16⟩

abbrev hbmTy (i : Nat) : BufTy := match i / 128 with
  | 0 => hbmTy0_0 i
  | 1 => hbmTy0_1 i
  | _ => ⟨S31x2048x2560, .bf16⟩

abbrev bufTy : (tb : Table) → Fin (tcTables nBuf tb) → BufTy
  | .hbm, ⟨i, _⟩ => hbmTy i
  | .local _ .vmem, ⟨0, _⟩ => ⟨S63488x2560, .f32⟩
  | .local _ .vmem, ⟨1, _⟩ => ⟨S2560x63488, .f32⟩
  | .local _ .vmem, ⟨2, _⟩ => ⟨S63488x2560, .fp8e4m3⟩
  | .local _ .vmem, ⟨3, _⟩ => ⟨S2560x63488, .fp8e4m3⟩
  | _, _ => ⟨S31x2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_4 : Ref sig .tc := ⟨.hbm, 37, rfl⟩
abbrev main_v30 : Ref sig .tc := ⟨.hbm, 38, rfl⟩
abbrev main_v31 : Ref sig .tc := ⟨.hbm, 39, rfl⟩
abbrev main_cst_5 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_6 : Ref sig .tc := ⟨.hbm, 48, rfl⟩
abbrev main_call0_v0 : Ref sig .tc := ⟨.hbm, 49, rfl⟩
abbrev main_call0_v1 : Ref sig .tc := ⟨.hbm, 50, rfl⟩
abbrev main_v39 : Ref sig .tc := ⟨.hbm, 51, rfl⟩
abbrev main_cst_7 : Ref sig .tc := ⟨.hbm, 52, rfl⟩
abbrev main_v40 : Ref sig .tc := ⟨.hbm, 53, rfl⟩
abbrev main_cst_8 : Ref sig .tc := ⟨.hbm, 54, rfl⟩
abbrev main_v41 : Ref sig .tc := ⟨.hbm, 55, rfl⟩
abbrev main_v42 : Ref sig .tc := ⟨.hbm, 56, rfl⟩
abbrev main_cst_9 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_10 : Ref sig .tc := ⟨.hbm, 61, rfl⟩
abbrev main_call1_v0 : Ref sig .tc := ⟨.hbm, 62, rfl⟩
abbrev main_v46 : Ref sig .tc := ⟨.hbm, 63, rfl⟩
abbrev main_cst_11 : Ref sig .tc := ⟨.hbm, 64, rfl⟩
abbrev main_v47 : Ref sig .tc := ⟨.hbm, 65, rfl⟩
abbrev main_v48 : Ref sig .tc := ⟨.hbm, 66, rfl⟩
abbrev main_cst_12 : Ref sig .tc := ⟨.hbm, 67, rfl⟩
abbrev main_v49 : Ref sig .tc := ⟨.hbm, 68, rfl⟩
abbrev main_v50 : Ref sig .tc := ⟨.hbm, 69, rfl⟩
abbrev main_cst_13 : Ref sig .tc := ⟨.hbm, 70, rfl⟩
abbrev main_call2_v0 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_14 : Ref sig .tc := ⟨.hbm, 75, rfl⟩
abbrev main_cst_15 : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_16 : Ref sig .tc := ⟨.hbm, 85, rfl⟩
abbrev main_v57 : Ref sig .tc := ⟨.hbm, 86, rfl⟩
abbrev main_v58 : Ref sig .tc := ⟨.hbm, 87, rfl⟩
abbrev main_cst_17 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_18 : Ref sig .tc := ⟨.hbm, 96, rfl⟩
abbrev main_call4_v0 : Ref sig .tc := ⟨.hbm, 97, rfl⟩
abbrev main_call4_v1 : Ref sig .tc := ⟨.hbm, 98, rfl⟩
abbrev main_v66 : Ref sig .tc := ⟨.hbm, 99, rfl⟩
abbrev main_cst_19 : Ref sig .tc := ⟨.hbm, 100, rfl⟩
abbrev main_v67 : Ref sig .tc := ⟨.hbm, 101, rfl⟩
abbrev main_cst_20 : Ref sig .tc := ⟨.hbm, 102, rfl⟩
abbrev main_v68 : Ref sig .tc := ⟨.hbm, 103, rfl⟩
abbrev main_v69 : Ref sig .tc := ⟨.hbm, 104, rfl⟩
abbrev main_cst_21 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_22 : Ref sig .tc := ⟨.hbm, 109, rfl⟩
abbrev main_call5_v0 : Ref sig .tc := ⟨.hbm, 110, rfl⟩
abbrev main_v73 : Ref sig .tc := ⟨.hbm, 111, rfl⟩
abbrev main_cst_23 : Ref sig .tc := ⟨.hbm, 112, rfl⟩
abbrev main_v74 : Ref sig .tc := ⟨.hbm, 113, rfl⟩
abbrev main_v75 : Ref sig .tc := ⟨.hbm, 114, rfl⟩
abbrev main_cst_24 : Ref sig .tc := ⟨.hbm, 115, rfl⟩
abbrev main_v76 : Ref sig .tc := ⟨.hbm, 116, rfl⟩
abbrev main_v77 : Ref sig .tc := ⟨.hbm, 117, rfl⟩
abbrev main_cst_25 : Ref sig .tc := ⟨.hbm, 118, rfl⟩
abbrev main_call6_v0 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_cst_26 : Ref sig .tc := ⟨.hbm, 123, rfl⟩
abbrev main_cst_27 : Ref sig .tc := ⟨.hbm, 124, rfl⟩
abbrev main_call7_v0 : Ref sig .tc := ⟨.hbm, 125, rfl⟩
abbrev main_call7_v1 : Ref sig .tc := ⟨.hbm, 126, rfl⟩
abbrev main_call7_v2 : Ref sig .tc := ⟨.hbm, 127, rfl⟩
abbrev main_call7_v3 : Ref sig .tc := ⟨.hbm, 128, rfl⟩
abbrev main_call7_v4 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88_0 : Ref sig .tc := ⟨.hbm, 137, rfl⟩
abbrev main_v88_1 : Ref sig .tc := ⟨.hbm, 138, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S63488x2560 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2560x63488 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S63488x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2560x63488 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Unit.lean ====
/- One unit of the kernel's loop body: a pair `j` of 128-column groups of one token block of 256 rows.
   The printed body is ten such units in a row (Proof/Cut.lean); here the unit is written once, over any
   float operations, any scratch and block buffers, and any pair. -/
module

public import Idealize.ShloMosaic.Lib.Pipeline
public import Idealize.ShloMosaic.Lib.Scf
public import Idealize.ShloMosaic.Lib.Sig
public import Idealize.ShloMosaic.PureOps

@[expose] public section

noncomputable section

namespace Dswiglu

open Idealize.ShloMosaic Idealize.SL.Sem

abbrev S4x128x256 : Shape := ⟨3, ![4, 128, 256]⟩
abbrev S1024x2560 : Shape := ⟨2, ![1024, 2560]⟩
abbrev S1024x1280 : Shape := ⟨2, ![1024, 1280]⟩
abbrev S20x1024 : Shape := ⟨2, ![20, 1024]⟩
abbrev S2560x1024 : Shape := ⟨2, ![2560, 1024]⟩
abbrev S8x2560 : Shape := ⟨2, ![8, 2560]⟩
abbrev S256x256 : Shape := ⟨2, ![256, 256]⟩
abbrev S8x8x128 : Shape := ⟨3, ![8, 8, 128]⟩
abbrev S128x128 : Shape := ⟨2, ![128, 128]⟩
abbrev S4x8x2560 : Shape := ⟨3, ![4, 8, 2560]⟩
abbrev S16x128 : Shape := ⟨2, ![16, 128]⟩
abbrev S8x128 : Shape := ⟨2, ![8, 128]⟩
abbrev S1x8x128 : Shape := ⟨3, ![1, 8, 128]⟩
abbrev S8x1x128 : Shape := ⟨3, ![8, 1, 128]⟩
abbrev S1x128 : Shape := ⟨2, ![1, 128]⟩
abbrev S128 : Shape := ⟨1, ![128]⟩
abbrev S1x1x128 : Shape := ⟨3, ![1, 1, 128]⟩
abbrev S128x8 : Shape := ⟨2, ![128, 8]⟩
abbrev S1x128x256 : Shape := ⟨3, ![1, 128, 256]⟩
abbrev S128x256 : Shape := ⟨2, ![128, 256]⟩
abbrev S32x256 : Shape := ⟨2, ![32, 256]⟩

variable {F : FTy → Type} [FloatOps F]

/-! ## The arithmetic -/

/-- The logistic function of the gate, as the kernel spells it. -/
def sg (g : FVec F S16x128 .f32) : FVec F S16x128 .f32 :=
  divf (broadcast S16x128 (Scalar.ofBits .f32 0x3F800000#32))
    (addf (broadcast S16x128 (Scalar.ofBits .f32 0x3F800000#32)) (exp (subf (broadcast S16x128 (Scalar.ofBits .f32 0x00000000#32)) g)))

/-- A block of 16 rows widened to f32. -/
def wide (v : Vec F S16x128 .bf16) : FVec F S16x128 .f32 :=
  extf .f32 (shapeCast S16x128 v (by decide)) (by decide)

/-- The gradient by the gate, from gate, other half and incoming gradient. -/
def gradA (g u d : FVec F S16x128 .f32) : FVec F S16x128 .f32 :=
  mulf (mulf (mulf d u) (sg g))
    (addf (broadcast S16x128 (Scalar.ofBits .f32 0x3F800000#32))
      (mulf g (subf (broadcast S16x128 (Scalar.ofBits .f32 0x3F800000#32)) (sg g))))

/-- The gradient by the other half. -/
def gradB (g d : FVec F S16x128 .f32) : FVec F S16x128 .f32 :=
  mulf (mulf d g) (sg g)

/-- The magnitudes of rows 0–7 of sixteen. -/
def lo (v : FVec F S16x128 .f32) : FVec F S8x128 .f32 := absf (extractStridedSlice S8x128 ![0, 0] v (by decide))

/-- The magnitudes of rows 8–15 of sixteen. -/
def hi (v : FVec F S16x128 .f32) : FVec F S8x128 .f32 := absf (extractStridedSlice S8x128 ![8, 0] v (by decide))

/-- The magnitudes of eight rows from `o` of a square block. -/
def rows8 (v : FVec F S128x128 .f32) (o : Nat) (h : S128x128.Slices ![o, 0] S8x128) : FVec F S8x128 .f32 :=
  absf (extractStridedSlice S8x128 ![o, 0] v h)

/-- The greatest magnitude of each column, down to eight rows. -/
def fold16 (v : FVec F S128x128 .f32) : FVec F S8x128 .f32 :=
  maximumf (maximumf (maximumf (maximumf (maximumf (maximumf (maximumf (maximumf (maximumf (maximumf (maximumf (maximumf
    (maximumf (maximumf (maximumf (rows8 v 0 (by decide)) (rows8 v 8 (by decide))) (rows8 v 16 (by decide)))
    (rows8 v 24 (by decide))) (rows8 v 32 (by decide))) (rows8 v 40 (by decide))) (rows8 v 48 (by decide)))
    (rows8 v 56 (by decide))) (rows8 v 64 (by decide))) (rows8 v 72 (by decide))) (rows8 v 80 (by decide)))
    (rows8 v 88 (by decide))) (rows8 v 96 (by decide))) (rows8 v 104 (by decide))) (rows8 v 112 (by decide)))
    (rows8 v 120 (by decide))

/-- One step of the bisection: `b` is the bit tried. -/
def bis (m : FVec F S8x128 .f32) (b : BitVec 32) (e : IVec S8x128 32) : IVec S8x128 32 :=
  select (cmpf .oge m (bitcastToFloat .f32 (shli (minsi (addi e (broadcast S8x128 b)) (broadcast S8x128 254#32))
    (broadcast S8x128 23#32)))) (addi e (broadcast S8x128 b)) e

/-- The exponent field of a magnitude, by eight steps of bisection. -/
def field (m : FVec F S8x128 .f32) : IVec S8x128 32 :=
  bis m 1#32 (bis m 2#32 (bis m 4#32 (bis m 8#32 (bis m 16#32 (bis m 32#32 (bis m 64#32
    (bis m 128#32 (broadcast S8x128 0#32))))))))

/-- The exponent of the scale. -/
def expo (a : FVec F S8x128 .f32) : IVec S8x128 32 :=
  select (ori (cmpi .eq (field (mulf a (broadcast S8x128 (Scalar.ofBits .f32 0x3B124925#32)))) (broadcast S8x128 0#32))
      (cmpi .eq (field (mulf a (broadcast S8x128 (Scalar.ofBits .f32 0x3B124925#32)))) (broadcast S8x128 255#32)))
    (broadcast S8x128 0#32)
    (subi (field (mulf a (broadcast S8x128 (Scalar.ofBits .f32 0x3B124925#32)))) (broadcast S8x128 126#32))

/-- The scales of eight rows of magnitudes. -/
def scaleOf (a : FVec F S8x128 .f32) : FVec F S8x128 .f32 :=
  bitcastToFloat .f32 (shli (addi (broadcast S8x128 127#32) (expo a)) (broadcast S8x128 23#32))

/-- Their reciprocals. -/
def invOf (a : FVec F S8x128 .f32) : FVec F S8x128 .f32 :=
  bitcastToFloat .f32 (shli (subi (broadcast S8x128 127#32) (expo a)) (broadcast S8x128 23#32))

/-- Row `o` of the scales as a vector. -/
def rowOf (v : FVec F S8x128 .f32) (o : Nat) (h : S8x128.Slices ![o, 0] S1x128) : FVec F S128 .f32 :=
  shapeCast S128 (extractStridedSlice S1x128 ![o, 0] v h) (by decide)

/-- The codes of 32 rows: values times reciprocal scales, clipped. -/
def code (v : Vec F S32x256 .f32) (p : FVec F S128x256 .f32) (r : Nat) (h : S128x256.Slices ![r, 0] S32x256) :
    FVec F S32x256 .fp8e4m3 :=
  truncf .fp8e4m3 (minimumf (broadcast S32x256 (Scalar.ofBits .f32 0x43E00000#32))
    (maximumf (broadcast S32x256 (Scalar.ofBits .f32 0xC3E00000#32)) (mulf v (extractStridedSlice S32x256 ![r, 0] p h)))) (by decide)

/-- The matrix product that spreads the reciprocals over a block. -/
def dims : DotDims S128x128 S128x256 S128x256 where
  lhsContracting := [1]
  rhsContracting := [0]
  lhsNonContracting := [0]
  rhsNonContracting := [1]
  lhsBatch := []
  rhsBatch := []
  wf := by decide

/-- The reciprocals spread over a block: the product with one plane of the selector. -/
def spread (lhs : Vec F S128x128 .bf16) (sel : Vec F S1x128x256 .bf16) : FVec F S128x256 .f32 :=
  matmul dims none lhs (shapeCast S128x256 sel (by decide) : FVec F S128x256 .bf16) (constant S128x256 .f32 0x00000000#32)

/-! ## Where the rows are -/

/-- The first row of the token block `w`. -/
def base (w : BitVec 32) : BitVec 32 := Scalar.muli w 256#32

/-- Row `q` of the token block, as the kernel computes it. -/
def rowOff (w q : BitVec 32) : Nat := (Scalar.indexCast (Scalar.addi (base w) q)).toNat

/-- The first row of the token block, without an addition. -/
def rowBase (w : BitVec 32) : Nat := (Scalar.indexCast (base w)).toNat

/-- The token block's number as an index. -/
def blk (w : BitVec 32) : Nat := (Scalar.indexCast w).toNat

theorem rowBase_eq {w : BitVec 32} (hw : w.toNat < 4) : rowBase w = 256 * w.toNat := by
  simp only [rowBase, base, Scalar.indexCast, Scalar.muli, IntOp.muli, BitVec.toNat_mul, BitVec.toNat_ofNat]
  omega

theorem rowOff_eq {w : BitVec 32} (hw : w.toNat < 4) {q : Nat} (hq : q < 1024) :
    rowOff w (BitVec.ofNat 32 q) = 256 * w.toNat + q := by
  simp only [rowOff, base, Scalar.indexCast, Scalar.muli, Scalar.addi, IntOp.muli, IntOp.addi, BitVec.toNat_add, BitVec.toNat_mul, BitVec.toNat_ofNat]
  omega

theorem blk_lt {w : BitVec 32} (hw : w.toNat < 4) : blk w < 4 := hw

/-! ## The program -/

variable {nD : Nat} {τ : Topo} {sig : RefSig} {Λ : Labels}

/-- The buffers of one grid point: the selector, the blocks of the two inputs and four results, and the scratch. -/
structure Bufs (sig : RefSig) where
  sel : Memref sig .tc .vmem S4x128x256 .bf16
  x : Memref sig .tc .vmem S1024x2560 .bf16
  dy : Memref sig .tc .vmem S1024x1280 .bf16
  codes : Memref sig .tc .vmem S1024x2560 .fp8e4m3
  scales : Memref sig .tc .vmem S20x1024 .f32
  codesT : Memref sig .tc .vmem S2560x1024 .fp8e4m3
  scalesT : Memref sig .tc .vmem S8x2560 .f32
  v : Memref sig .tc .vmem S256x256 .f32
  vT : Memref sig .tc .vmem S256x256 .f32
  part : Memref sig .tc .vmem S8x8x128 .f32
  lhs : Memref sig .tc .vmem S128x128 .bf16
  stage : Memref sig .tc .vmem S4x8x2560 .f32
  hcodes : codes.IsWhole
  hcodesT : codesT.IsWhole
  hlhs : lhs.IsWhole

section Ops

variable {s : Shape} (m : Memref sig .tc .vmem s .f32) (off size : Fin s.rank → Nat) (inb : ∀ a, off a + size a ≤ s.size a)

/-- Read a rectangle. -/
def rd {s : Shape} {e : EltTy} (m : Memref sig .tc .vmem s e) (off size : Fin s.rank → Nat)
    (inb : ∀ a, off a + size a ≤ s.size a) (h : 0 < (⟨s.rank, size⟩ : Shape).numel) :
    Prog (TpuEff nD τ sig (Elt F) Λ .tc) (Vec F ⟨s.rank, size⟩ e) :=
  Prog.lift (.load m (Rect.unit (s := s) off size inb).toLoadRect (View.loadsAt_vmem h))

/-- Write a rectangle of f32 words (after a read whose value is not used). -/
def wr (h : 0 < (⟨s.rank, size⟩ : Shape).numel) (w : Vec F ⟨s.rank, size⟩ .f32) :
    Prog (TpuEff nD τ sig (Elt F) Λ .tc) PUnit := do
  let _ ← rd m off size inb h
  Prog.lift (.store m (Rect.unit (s := s) off size inb) w Finset.univ (View.stores_vmem_bits_univ h rfl) (.inl rfl))

/-- Write a rectangle of fp8 words, rows whole in the packing. -/
def wr8 {s : Shape} (m : Memref sig .tc .vmem s .fp8e4m3) (hm : m.IsWhole) (off size : Fin s.rank → Nat)
    (inb : ∀ a, off a + size a ≤ s.size a) (h : 0 < (⟨s.rank, size⟩ : Shape).numel)
    (hp : (Rect.unit (s := s) off size inb).PackedRows (EltTy.packing .fp8e4m3)) (w : Vec F ⟨s.rank, size⟩ .fp8e4m3) :
    Prog (TpuEff nD τ sig (Elt F) Λ .tc) PUnit := do
  let _ ← rd m off size inb h
  Prog.lift (.store m (Rect.unit (s := s) off size inb) w Finset.univ
    (View.stores_vmem h (hm.storeExact_slice rfl _ hp) (fun _ => rfl)) (.inl rfl))

/-- Write a rectangle of bf16 words, rows whole in the packing. -/
def wr16 {s : Shape} (m : Memref sig .tc .vmem s .bf16) (hm : m.IsWhole) (off size : Fin s.rank → Nat)
    (inb : ∀ a, off a + size a ≤ s.size a) (h : 0 < (⟨s.rank, size⟩ : Shape).numel)
    (hp : (Rect.unit (s := s) off size inb).PackedRows (EltTy.packing .bf16)) (w : Vec F ⟨s.rank, size⟩ .bf16) :
    Prog (TpuEff nD τ sig (Elt F) Λ .tc) PUnit := do
  let _ ← rd m off size inb h
  Prog.lift (.store m (Rect.unit (s := s) off size inb) w Finset.univ
    (View.stores_vmem h (hm.storeExact_slice rfl _ hp) (fun _ => rfl)) (.inl rfl))

end Ops

/-- A rectangle with a row offset and a column offset lies in its array. -/
theorem inb2 {n m a b p q : Nat} (h : p + a ≤ n) (h' : q + b ≤ m) :
    ∀ i, (![p, q] : Fin 2 → Nat) i + (⟨2, ![a, b]⟩ : Shape).size i ≤ (⟨2, ![n, m]⟩ : Shape).size i := by
  intro i; fin_cases i
  · exact h
  · exact h'

/-- The same in three coordinates. -/
theorem inb3 {n m l a b c p q r : Nat} (h : p + a ≤ n) (h' : q + b ≤ m) (h'' : r + c ≤ l) :
    ∀ i, (![p, q, r] : Fin 3 → Nat) i + (⟨3, ![a, b, c]⟩ : Shape).size i ≤ (⟨3, ![n, m, l]⟩ : Shape).size i := by
  intro i; fin_cases i
  · exact h
  · exact h'
  · exact h''

variable (B : Bufs sig)

/-- One quarter of the block turned over into `vT`, with its column maxima in plane `2c + h`. -/
def turn (c h : Nat) (hc : c < 2) (hh : h < 2) : Prog (TpuEff nD τ sig (Elt F) Λ .tc) PUnit := do
  let a ← rd (F := F) B.v ![128 * h, 128 * c] S128x128.size (inb2 (by omega) (by omega)) (by decide)
  wr B.vT ![128 * c, 128 * h] S128x128.size (inb2 (by omega) (by omega)) (by decide)
    (shapeCast S128x128 (transpose S128x128 [1, 0] a (by decide)) (by decide))
  wr B.part ![2 * c + h, 0, 0] S1x8x128.size (inb3 (by omega) (by omega) (by omega)) (by decide)
    (shapeCast S1x8x128 (fold16 (transpose S128x128 [1, 0] a (by decide))) (by decide))

/-- Row `k` of every plane of the maxima. -/
def plane (k : Nat) (hk : k < 8) : Prog (TpuEff nD τ sig (Elt F) Λ .tc) (FVec F S8x128 .f32) := do
  let a ← rd (F := F) B.part ![0, k, 0] S8x1x128.size (inb3 (by omega) (by omega) (by omega)) (by decide)
  pure (shapeCast S8x128 a (by decide))

/-- The greatest magnitude of each of the eight planes' columns. -/
def amax : Prog (TpuEff nD τ sig (Elt F) Λ .tc) (FVec F S8x128 .f32) := do
  let a0 ← plane (F := F) B 0 (by omega)
  let a1 ← plane (F := F) B 1 (by omega)
  let a2 ← plane (F := F) B 2 (by omega)
  let a3 ← plane (F := F) B 3 (by omega)
  let a4 ← plane (F := F) B 4 (by omega)
  let a5 ← plane (F := F) B 5 (by omega)
  let a6 ← plane (F := F) B 6 (by omega)
  let a7 ← plane (F := F) B 7 (by omega)
  pure (maximumf (maximumf (maximumf (maximumf (maximumf (maximumf (maximumf a0 a1) a2) a3) a4) a5) a6) a7)

/-- Plane `s` of the selector. -/
def selPlane (s : Nat) (hs : s < 4) : Prog (TpuEff nD τ sig (Elt F) Λ .tc) (Vec F S1x128x256 .bf16) :=
  rd (F := F) B.sel ![s, 0, 0] S1x128x256.size (inb3 (by omega) (by omega) (by omega)) (by decide)

variable (w : BitVec 32) (hw : w.toNat < 4) (j : Nat) (hj : j < 10)

/-- Sixteen rows of the pair: read gate, other half and gradient, compute both gradients, keep them in `v`. -/
def chunk (q : Nat) (hq : q < 16) : Prog (TpuEff nD τ sig (Elt F) Λ .tc) (FVec F S16x128 .f32 × FVec F S16x128 .f32) := do
  let g ← rd (F := F) B.x ![rowOff w (BitVec.ofNat 32 (16 * q)), 256 * j] S16x128.size
    (inb2 (by rw [rowOff_eq hw (by omega)]; omega) (by omega)) (by decide)
  let u ← rd (F := F) B.x ![rowOff w (BitVec.ofNat 32 (16 * q)), 256 * j + 128] S16x128.size
    (inb2 (by rw [rowOff_eq hw (by omega)]; omega) (by omega)) (by decide)
  let d ← rd (F := F) B.dy ![rowOff w (BitVec.ofNat 32 (16 * q)), 128 * j] S16x128.size
    (inb2 (by rw [rowOff_eq hw (by omega)]; omega) (by omega)) (by decide)
  wr B.v ![16 * q, 0] S16x128.size (inb2 (by omega) (by omega)) (by decide)
    (shapeCast S16x128 (gradA (wide g) (wide u) (wide d)) (by decide))
  wr B.v ![16 * q, 128] S16x128.size (inb2 (by omega) (by omega)) (by decide)
    (shapeCast S16x128 (gradB (wide g) (wide d)) (by decide))
  pure (gradA (wide g) (wide u) (wide d), gradB (wide g) (wide d))

/-- Sixteen more rows, and the running maxima of the magnitudes. -/
def step (q : Nat) (hq : q < 16) (m : FVec F S8x128 .f32 × FVec F S8x128 .f32) :
    Prog (TpuEff nD τ sig (Elt F) Λ .tc) (FVec F S8x128 .f32 × FVec F S8x128 .f32) := do
  let r ← chunk B w hw j hj q hq
  pure (maximumf (maximumf m.1 (lo r.1)) (hi r.1), maximumf (maximumf m.2 (lo r.2)) (hi r.2))

/-- Half of the unit: 128 rows, and their column maxima kept in planes `4 + 2h` and `5 + 2h`. -/
def half (h : Nat) (hh : h < 2) : Prog (TpuEff nD τ sig (Elt F) Λ .tc) PUnit := do
  let r ← chunk B w hw j hj (8 * h) (by omega)
  let m ← step B w hw j hj (8 * h + 1) (by omega) (maximumf (lo r.1) (hi r.1), maximumf (lo r.2) (hi r.2))
  let m ← step B w hw j hj (8 * h + 2) (by omega) m
  let m ← step B w hw j hj (8 * h + 3) (by omega) m
  let m ← step B w hw j hj (8 * h + 4) (by omega) m
  let m ← step B w hw j hj (8 * h + 5) (by omega) m
  let m ← step B w hw j hj (8 * h + 6) (by omega) m
  let m ← step B w hw j hj (8 * h + 7) (by omega) m
  wr B.part ![4 + 2 * h, 0, 0] S1x8x128.size (inb3 (by omega) (by omega) (by omega)) (by decide) (shapeCast S1x8x128 m.1 (by decide))
  wr B.part ![5 + 2 * h, 0, 0] S1x8x128.size (inb3 (by omega) (by omega) (by omega)) (by decide) (shapeCast S1x8x128 m.2 (by decide))

/-- The scales of group `2j + k` over rows `128h` on, to the row scales and the column scales. -/
def scales (a : FVec F S8x128 .f32) (k h : Nat) (hk : k < 2) (hh : h < 2) (s : S8x128.Slices ![2 * k + h, 0] S1x128)
    (s' : S8x128.Slices ![4 + 2 * h + k, 0] S1x128) : Prog (TpuEff nD τ sig (Elt F) Λ .tc) PUnit := do
  wr B.scales ![2 * j + k, rowOff w (BitVec.ofNat 32 (128 * h))] S1x128.size
    (inb2 (by omega) (by rw [rowOff_eq hw (by omega)]; omega)) (by decide)
    (shapeCast S1x128 (rowOf (scaleOf a) (2 * k + h) s) (by decide))
  wr B.stage ![blk w, h, 256 * j + 128 * k] S1x1x128.size (inb3 (blk_lt hw) (by omega) (by omega)) (by decide)
    (shapeCast S1x1x128 (rowOf (scaleOf a) (4 + 2 * h + k) s') (by decide))

/-- A rectangle whose row offset and row count the packing divides is packed. -/
theorem packed2 {p n m a b r q : Nat} (inb : ∀ i, (![r, q] : Fin 2 → Nat) i + (⟨2, ![a, b]⟩ : Shape).size i ≤ (⟨2, ![n, m]⟩ : Shape).size i)
    (h : p ∣ r) (h' : p ∣ a) : (Rect.unit (s := ⟨2, ![n, m]⟩) ![r, q] (⟨2, ![a, b]⟩ : Shape).size inb).PackedRows p :=
  .inr ⟨le_refl 2, rfl, .inl ⟨h, h'⟩⟩

/-- 32 rows of row codes: rows `128h + r` on of the token block. -/
def put (p : FVec F S128x256 .f32) (h r : Nat) (hh : h < 2) (hr : r ≤ 96) (hr4 : 4 ∣ r) (s : S128x256.Slices ![r, 0] S32x256) :
    Prog (TpuEff nD τ sig (Elt F) Λ .tc) PUnit := do
  let a ← rd (F := F) B.v ![128 * h + r, 0] S32x256.size (inb2 (by omega) (by omega)) (by decide)
  wr8 B.codes B.hcodes ![rowOff w (BitVec.ofNat 32 (128 * h + r)), 256 * j] S32x256.size
    (inb2 (by rw [rowOff_eq hw (by omega)]; omega) (by omega)) (by decide)
    (packed2 _ (by rw [rowOff_eq hw (by omega)]; show 4 ∣ _; omega) (by decide)) (code a p r s)

/-- 32 rows of column codes: columns `128k + r` on of the pair, as rows of the transpose. -/
def putT (p : FVec F S128x256 .f32) (k r : Nat) (hk : k < 2) (hr : r ≤ 96) (hr4 : 4 ∣ r) (s : S128x256.Slices ![r, 0] S32x256) :
    Prog (TpuEff nD τ sig (Elt F) Λ .tc) PUnit := do
  let a ← rd (F := F) B.vT ![128 * k + r, 0] S32x256.size (inb2 (by omega) (by omega)) (by decide)
  wr8 B.codesT B.hcodesT ![256 * j + 128 * k + r, rowBase w] S32x256.size
    (inb2 (by omega) (by rw [rowBase_eq hw]; omega)) (by decide)
    (packed2 _ (by show 4 ∣ _; omega) (by decide)) (code a p r s)

/-- The row codes of rows `128h` on, through plane `h` of the selector. -/
def rowCodes (l : Vec F S128x128 .bf16) (h : Nat) (hh : h < 2) : Prog (TpuEff nD τ sig (Elt F) Λ .tc) PUnit := do
  let s ← selPlane (F := F) B h (by omega)
  put B w hw j hj (spread l s) h 0 hh (by omega) (by omega) (by decide)
  put B w hw j hj (spread l s) h 32 hh (by omega) (by omega) (by decide)
  put B w hw j hj (spread l s) h 64 hh (by omega) (by omega) (by decide)
  put B w hw j hj (spread l s) h 96 hh (by omega) (by omega) (by decide)

/-- The column codes of columns `128k` on, through plane `2 + k` of the selector. -/
def colCodes (l : Vec F S128x128 .bf16) (k : Nat) (hk : k < 2) : Prog (TpuEff nD τ sig (Elt F) Λ .tc) PUnit := do
  let s ← selPlane (F := F) B (2 + k) (by omega)
  putT B w hw j hj (spread l s) k 0 hk (by omega) (by omega) (by decide)
  putT B w hw j hj (spread l s) k 32 hk (by omega) (by omega) (by decide)
  putT B w hw j hj (spread l s) k 64 hk (by omega) (by omega) (by decide)
  putT B w hw j hj (spread l s) k 96 hk (by omega) (by omega) (by decide)

/-- The unit: the gradients of 256 rows and one pair, their scales, and both quantisations. -/
def unit (K : Prog (TpuEff nD τ sig (Elt F) Λ .tc) PUnit) : Prog (TpuEff nD τ sig (Elt F) Λ .tc) PUnit := do
  half (F := F) B w hw j hj 0 (by omega)
  half (F := F) B w hw j hj 1 (by omega)
  turn (F := F) B 0 0 (by omega) (by omega)
  turn (F := F) B 0 1 (by omega) (by omega)
  turn (F := F) B 1 0 (by omega) (by omega)
  turn (F := F) B 1 1 (by omega) (by omega)
  let a ← amax (F := F) B
  scales B w hw j hj a 0 0 (by omega) (by omega) (by decide) (by decide)
  scales B w hw j hj a 0 1 (by omega) (by omega) (by decide) (by decide)
  scales B w hw j hj a 1 0 (by omega) (by omega) (by decide) (by decide)
  scales B w hw j hj a 1 1 (by omega) (by omega) (by decide) (by decide)
  wr16 B.lhs B.hlhs ![0, 0] S128x8.size (inb2 (by omega) (by omega)) (by decide) (packed2 _ (by decide) (by decide))
    (shapeCast S128x8 (truncf .bf16 (transpose S128x8 [1, 0] (invOf a) (by decide)) (by decide) : FVec F S128x8 .bf16) (by decide))
  let l ← rd (F := F) B.lhs ![0, 0] S128x128.size (inb2 (by omega) (by omega)) (by decide)
  rowCodes B w hw j hj l 0 (by omega)
  rowCodes B w hw j hj l 1 (by omega)
  colCodes B w hw j hj l 0 (by omega)
  colCodes B w hw j hj l 1 (by omega)
  K

/-- The ten pairs in turn. -/
def units : Prog (TpuEff nD τ sig (Elt F) Λ .tc) PUnit :=
  unit B w hw 0 (by decide) (unit B w hw 1 (by decide) (unit B w hw 2 (by decide) (unit B w hw 3 (by decide)
    (unit B w hw 4 (by decide) (unit B w hw 5 (by decide) (unit B w hw 6 (by decide) (unit B w hw 7 (by decide)
      (unit B w hw 8 (by decide) (unit B w hw 9 (by decide) (.ret ⟨⟩))))))))))

end Dswiglu
-- ==== Proof.CutKernel.lean ====
/- The printed body of the kernel's loop is the unit of Proof/Unit.lean at the ten pairs in turn. -/
module

public import proofs.«01_k».proof.Proof.Gen.Kernel.Skeleton
public import proofs.«01_k».proof.Proof.Unit

@[expose] public section

noncomputable section

namespace Cert.Kernel

open Idealize.ShloMosaic Idealize.SL.Sem Cert.Kernel.Gen

variable {F : FTy → Type} [FloatOps F]

/-- A chain of units is extended by one: the program at hand is a unit, and what is left of it the rest. -/
theorem next {sig : RefSig} {nD : Nat} {τ : Topo} {Λ : Labels} {B : Dswiglu.Bufs sig} {w : BitVec 32} {hw : w.toNat < 4} {j : Nat} {hj : j < 10}
    {A K : Prog (TpuEff nD τ sig (Elt F) Λ .tc) PUnit} {β : Type} {e : TpuEff nD τ sig (Elt F) Λ .tc β}
    {k : β → Prog (TpuEff nD τ sig (Elt F) Λ .tc) PUnit}
    (h : A = Dswiglu.unit B w hw j hj (.op e k)) (h' : Prog.op e k = K) : A = Dswiglu.unit B w hw j hj K := by
  rw [h, h']

/-- The token block a trip works on is one of four. -/
theorem trip_lt (t : Fin k0_t1_loop.trips) : (Scf.iv 0#32 1#32 t).toNat < 4 := by
  revert t; decide +kernel

set_option maxRecDepth 100000 in
set_option maxHeartbeats 0 in
/-- The body of a trip: the ten pairs in turn, on the trip's token block. -/
theorem body_eq (i : grid0.Coords) (arg1 : Memref sig .tc .vmem S4x128x256 .bf16) (harg1 : arg1.IsWhole) (arg2 : Memref sig .tc .vmem S1024x2560 .bf16) (harg2 : arg2.IsWhole) (arg3 : Memref sig .tc .vmem S1024x1280 .bf16) (harg3 : arg3.IsWhole) (arg4 : Memref sig .tc .vmem S1024x2560 .fp8e4m3) (harg4 : arg4.IsWhole) (arg5 : Memref sig .tc .vmem S20x1024 .f32) (harg5 : arg5.IsWhole) (arg6 : Memref sig .tc .vmem S2560x1024 .fp8e4m3) (harg6 : arg6.IsWhole) (arg7 : Memref sig .tc .vmem S8x2560 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S8x8x128 .f32) (harg10 : arg10.IsWhole) (arg11 : Memref sig .tc .vmem S128x128 .bf16) (harg11 : arg11.IsWhole) (arg12 : Memref sig .tc .vmem S4x8x2560 .f32) (harg12 : arg12.IsWhole) (t : Fin k0_t1_loop.trips) :
    k0_t1_body (F := F) i arg1 harg1 arg2 harg2 arg3 harg3 arg4 harg4 arg5 harg5 arg6 harg6 arg7 harg7 arg8 harg8 arg9 harg9 arg10 harg10 arg11 harg11 arg12 harg12 t () =
      Dswiglu.units ⟨arg1, arg2, arg3, arg4, arg5, arg6, arg7, arg8, arg9, arg10, arg11, arg12, harg4, harg6, harg11⟩ (Scf.iv 0#32 1#32 t) (trip_lt t) := by
  unfold Dswiglu.units
  refine next rfl ?_
  refine next rfl ?_
  refine next rfl ?_
  refine next rfl ?_
  refine next rfl ?_
  refine next rfl ?_
  refine next rfl ?_
  refine next rfl ?_
  refine next rfl ?_
  rfl

end Cert.Kernel
-- ==== Proof.Own.lean ====
/- What a program piece over the buffers of one grid point does to their contents. The contents are functions of
   natural coordinates; `Runs P st a st'` says that `P`, started with the buffers at `st`, gives `a` and leaves them
   at `st'`. -/
module

public import proofs.«01_k».proof.Proof.Unit
public import Idealize.ShloMosaic.Lib.Pipeline.FrameBody
public import Idealize.ShloMosaic.Lib.Tactic
public import Idealize.ShloMosaic.Lib.WritesUnit
public import Idealize.ShloMosaic.Lib.PointwiseCore

@[expose] public section

noncomputable section

namespace Dswiglu

open Idealize.ShloMosaic Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A matrix as a function of its index, from a function of two numbers. -/
def vec2 {α : Type} {n m : Nat} (g : ℕ → ℕ → α) : (⟨2, ![n, m]⟩ : Shape).Idx → α := fun i => g (i 0).val (i 1).val

/-- The same in three coordinates. -/
def vec3 {α : Type} {n m l : Nat} (g : ℕ → ℕ → ℕ → α) : (⟨3, ![n, m, l]⟩ : Shape).Idx → α :=
  fun i => g (i 0).val (i 1).val (i 2).val

theorem vec2_congr {α : Type} {n m : Nat} {g g' : ℕ → ℕ → α} (h : ∀ r < n, ∀ c < m, g r c = g' r c) :
    (vec2 g : (⟨2, ![n, m]⟩ : Shape).Idx → α) = vec2 g' := funext fun i => h _ (i 0).isLt _ (i 1).isLt

theorem vec3_congr {α : Type} {n m l : Nat} {g g' : ℕ → ℕ → ℕ → α} (h : ∀ p < n, ∀ r < m, ∀ c < l, g p r c = g' p r c) :
    (vec3 g : (⟨3, ![n, m, l]⟩ : Shape).Idx → α) = vec3 g' := funext fun i => h _ (i 0).isLt _ (i 1).isLt _ (i 2).isLt

/-- The inputs of one grid point. -/
structure Ins (F : FTy → Type) where
  sel : ℕ → ℕ → ℕ → Elt F .bf16
  x : ℕ → ℕ → Elt F .bf16
  dy : ℕ → ℕ → Elt F .bf16

/-- The contents of the buffers a grid point writes. -/
structure St (F : FTy → Type) where
  codes : ℕ → ℕ → Elt F .fp8e4m3
  scales : ℕ → ℕ → Elt F .f32
  codesT : ℕ → ℕ → Elt F .fp8e4m3
  scalesT : ℕ → ℕ → Elt F .f32
  v : ℕ → ℕ → Elt F .f32
  vT : ℕ → ℕ → Elt F .f32
  part : ℕ → ℕ → ℕ → Elt F .f32
  lhs : ℕ → ℕ → Elt F .bf16
  stage : ℕ → ℕ → ℕ → Elt F .f32

section Own

variable {nD : Nat} {τ : Topo} {sig : RefSig} {Ix : Type} [DecidableEq Ix]
variable {Name : Type} [DecidableEq Name] {U : Type} [URA U] {Lvl : Type} {Λ : Labels}
local notation "𝕄" => MT nD τ sig Ix (Elt F) Name U Lvl

/-- A TensorCore buffer owned whole, at contents `X`. -/
abbrev own1 (c : Dev nD) {sp : Space} {sh : Shape} {e : EltTy} (m : Memref sig .tc sp sh e) (X : sh.Idx → Elt F e) : sProp 𝕄 :=
  owns (c.tc : Thread nD τ) m fullShare X

variable (B : Bufs sig) (c : Dev nD) (ins : Ins F)

/-- All buffers of the grid point, at the inputs `ins` and the contents `st`. -/
def own (st : St F) : sProp 𝕄 :=
  iprop(own1 c B.sel (vec3 ins.sel) ∗ own1 c B.x (vec2 ins.x) ∗ own1 c B.dy (vec2 ins.dy)
    ∗ own1 c B.codes (vec2 st.codes) ∗ own1 c B.scales (vec2 st.scales) ∗ own1 c B.codesT (vec2 st.codesT)
    ∗ own1 c B.scalesT (vec2 st.scalesT)
    ∗ own1 c B.v (vec2 st.v) ∗ own1 c B.vT (vec2 st.vT) ∗ own1 c B.part (vec3 st.part) ∗ own1 c B.lhs (vec2 st.lhs)
    ∗ own1 c B.stage (vec3 st.stage))

theorem take_sel (st : St F) : (own B c ins st : sProp 𝕄) ⊢ iprop(own1 c B.sel (vec3 ins.sel) ∗ (own1 c B.sel (vec3 ins.sel) -∗ own B c ins st)) := by
  unfold own
  iintro ⟨H0, H1, H2, H3, H4, H5, H6, H7, H8, H9, H10, H11⟩
  isplitl [H0]
  · iexact H0
  · iintro Hn
    isplitl [Hn]; · iexact Hn
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem take_x (st : St F) : (own B c ins st : sProp 𝕄) ⊢ iprop(own1 c B.x (vec2 ins.x) ∗ (own1 c B.x (vec2 ins.x) -∗ own B c ins st)) := by
  unfold own
  iintro ⟨H0, H1, H2, H3, H4, H5, H6, H7, H8, H9, H10, H11⟩
  isplitl [H1]
  · iexact H1
  · iintro Hn
    isplitl [H0]; · iexact H0
    isplitl [Hn]; · iexact Hn
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem take_dy (st : St F) : (own B c ins st : sProp 𝕄) ⊢ iprop(own1 c B.dy (vec2 ins.dy) ∗ (own1 c B.dy (vec2 ins.dy) -∗ own B c ins st)) := by
  unfold own
  iintro ⟨H0, H1, H2, H3, H4, H5, H6, H7, H8, H9, H10, H11⟩
  isplitl [H2]
  · iexact H2
  · iintro Hn
    isplitl [H0]; · iexact H0
    isplitl [H1]; · iexact H1
    isplitl [Hn]; · iexact Hn
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem take_codes (st : St F) : (own B c ins st : sProp 𝕄) ⊢ iprop(own1 c B.codes (vec2 st.codes) ∗ ∀ y, own1 c B.codes (vec2 y) -∗ own B c ins { st with codes := y }) := by
  unfold own
  iintro ⟨H0, H1, H2, H3, H4, H5, H6, H7, H8, H9, H10, H11⟩
  isplitl [H3]
  · iexact H3
  · iintro %y Hn
    isplitl [H0]; · iexact H0
    isplitl [H1]; · iexact H1
    isplitl [H2]; · iexact H2
    isplitl [Hn]; · iexact Hn
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem take_scales (st : St F) : (own B c ins st : sProp 𝕄) ⊢ iprop(own1 c B.scales (vec2 st.scales) ∗ ∀ y, own1 c B.scales (vec2 y) -∗ own B c ins { st with scales := y }) := by
  unfold own
  iintro ⟨H0, H1, H2, H3, H4, H5, H6, H7, H8, H9, H10, H11⟩
  isplitl [H4]
  · iexact H4
  · iintro %y Hn
    isplitl [H0]; · iexact H0
    isplitl [H1]; · iexact H1
    isplitl [H2]; · iexact H2
    isplitl [H3]; · iexact H3
    isplitl [Hn]; · iexact Hn
    isplitl [H5]; · iexact H5
    isplitl [H6]; · iexact H6
    isplitl [H7]; · iexact H7
    isplitl [H8]; · iexact H8
    isplitl [H9]; · iexact H9
    isplitl [H10]; · iexact H10
    iexact H11

theorem take_codesT (st : St F) : (own B c ins st : sProp 𝕄) ⊢ iprop(own1 c B.codesT (vec2 st.codesT) ∗ ∀ y, own1 c B.codesT (vec2 y) -∗ own B c ins { st with codesT := y }) := by
  unfold own
  iintro ⟨H0, H1, H2, H3, H4, H5, H6, H7, H8, H9, H10, H11⟩
  isplitl [H5]
  · iexact H5
  · iintro %y Hn
    isplitl [H0]; · iexact H0
    isplitl [H1]; · iexact H1
    isplitl [H2]; · iexact H2
    isplitl [H3]; · iexact H3
    isplitl [H4]; · iexact H4
    isplitl [Hn]; · iexact Hn
    isplitl [H6]; · iexact H6
    isplitl [H7]; · iexact H7
    isplitl [H8]; · iexact H8
    isplitl [H9]; · iexact H9
    isplitl [H10]; · iexact H10
    iexact H11

theorem take_scalesT (st : St F) : (own B c ins st : sProp 𝕄) ⊢ iprop(own1 c B.scalesT (vec2 st.scalesT) ∗ ∀ y, own1 c B.scalesT (vec2 y) -∗ own B c ins { st with scalesT := y }) := by
  unfold own
  iintro ⟨H0, H1, H2, H3, H4, H5, H6, H7, H8, H9, H10, H11⟩
  isplitl [H6]
  · iexact H6
  · iintro %y Hn
    isplitl [H0]; · iexact H0
    isplitl [H1]; · iexact H1
    isplitl [H2]; · iexact H2
    isplitl [H3]; · iexact H3
    isplitl [H4]; · iexact H4
    isplitl [H5]; · iexact H5
    isplitl [Hn]; · iexact Hn
    isplitl [H7]; · iexact H7
    isplitl [H8]; · iexact H8
    isplitl [H9]; · iexact H9
    isplitl [H10]; · iexact H10
    iexact H11

theorem take_v (st : St F) : (own B c ins st : sProp 𝕄) ⊢ iprop(own1 c B.v (vec2 st.v) ∗ ∀ y, own1 c B.v (vec2 y) -∗ own B c ins { st with v := y }) := by
  unfold own
  iintro ⟨H0, H1, H2, H3, H4, H5, H6, H7, H8, H9, H10, H11⟩
  isplitl [H7]
  · iexact H7
  · iintro %y Hn
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Hn]; · iexact Hn
    isplitl [H8]; · iexact H8
    isplitl [H9]; · iexact H9
    isplitl [H10]; · iexact H10
    iexact H11

theorem take_vT (st : St F) : (own B c ins st : sProp 𝕄) ⊢ iprop(own1 c B.vT (vec2 st.vT) ∗ ∀ y, own1 c B.vT (vec2 y) -∗ own B c ins { st with vT := y }) := by
  unfold own
  iintro ⟨H0, H1, H2, H3, H4, H5, H6, H7, H8, H9, H10, H11⟩
  isplitl [H8]
  · iexact H8
  · iintro %y Hn
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [Hn]; · iexact Hn
    isplitl [H9]; · iexact H9
    isplitl [H10]; · iexact H10
    iexact H11

theorem take_part (st : St F) : (own B c ins st : sProp 𝕄) ⊢ iprop(own1 c B.part (vec3 st.part) ∗ ∀ y, own1 c B.part (vec3 y) -∗ own B c ins { st with part := y }) := by
  unfold own
  iintro ⟨H0, H1, H2, H3, H4, H5, H6, H7, H8, H9, H10, H11⟩
  isplitl [H9]
  · iexact H9
  · iintro %y Hn
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [Hn]; · iexact Hn
    isplitl [H10]; · iexact H10
    iexact H11

theorem take_lhs (st : St F) : (own B c ins st : sProp 𝕄) ⊢ iprop(own1 c B.lhs (vec2 st.lhs) ∗ ∀ y, own1 c B.lhs (vec2 y) -∗ own B c ins { st with lhs := y }) := by
  unfold own
  iintro ⟨H0, H1, H2, H3, H4, H5, H6, H7, H8, H9, H10, H11⟩
  isplitl [H10]
  · iexact H10
  · iintro %y Hn
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [Hn]; · iexact Hn
    iexact H11

theorem take_stage (st : St F) : (own B c ins st : sProp 𝕄) ⊢ iprop(own1 c B.stage (vec3 st.stage) ∗ ∀ y, own1 c B.stage (vec3 y) -∗ own B c ins { st with stage := y }) := by
  unfold own
  iintro ⟨H0, H1, H2, H3, H4, H5, H6, H7, H8, H9, H10, H11⟩
  isplitl [H11]
  · iexact H11
  · iintro %y Hn
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact Hn

variable [Preorder Lvl] (defs : Defs nD τ sig (Elt F) Λ) (𝒱 : Variants) (E : Set Name)

/-- `P` started at `st` gives `a` and leaves `st'`. -/
def Runs {α : Type} (P : Prog (TpuEff nD τ sig (Elt F) Λ .tc) α) (st : St F) (a : α) (st' : St F) : Prop :=
  ∀ Q : α → sProp 𝕄, iprop(own B c ins st ∗ (own B c ins st' -∗ Q a)) ⊢ wp frame (wpE defs 𝒱 (c.tc : Thread nD τ) none) E P Q

theorem Runs.bind {α β : Type} {P : Prog (TpuEff nD τ sig (Elt F) Λ .tc) α} {k : α → Prog (TpuEff nD τ sig (Elt F) Λ .tc) β}
    {st st' st'' : St F} {a : α} {b : β} (h : Runs (Ix := Ix) (U := U) (Lvl := Lvl) B c ins defs 𝒱 E P st a st')
    (h' : Runs (Ix := Ix) (U := U) (Lvl := Lvl) B c ins defs 𝒱 E (k a) st' b st'') :
    Runs (Ix := Ix) (U := U) (Lvl := Lvl) B c ins defs 𝒱 E (P >>= k) st b st'' := fun Q => by
  rw [wp_bind]
  iintro ⟨H, HQ⟩
  iapply (h _)
  isplitl [H]; · iexact H
  iintro H
  iapply (h' Q)
  isplitl [H] <;> iassumption

theorem Runs.pure {α : Type} (st : St F) (a : α) :
    Runs (Ix := Ix) (U := U) (Lvl := Lvl) B c ins defs 𝒱 E (Pure.pure a) st a st := fun Q => by
  show _ ⊢ wp _ _ _ (.ret a) Q
  rw [wp_ret]
  iintro ⟨H, HQ⟩
  imodintro
  iapply HQ; iexact H

/-- A read gives the contents under its rectangle. -/
theorem Runs.rd {sh : Shape} {e : EltTy} {m : Memref sig .tc .vmem sh e} {X : sh.Idx → Elt F e} {st : St F}
    (hl : (own (Ix := Ix) (Name := Name) (U := U) (Lvl := Lvl) B c ins st : sProp 𝕄) ⊢ iprop(own1 c m X ∗ (own1 c m X -∗ own B c ins st)))
    (off size : Fin sh.rank → Nat) (inb : ∀ a, off a + size a ≤ sh.size a) (h : 0 < (⟨sh.rank, size⟩ : Shape).numel) :
    Runs (Name := Name) (Ix := Ix) (U := U) (Lvl := Lvl) B c ins defs 𝒱 E (Dswiglu.rd m off size inb h) st
      (View.ld X (Rect.unit (s := sh) off size inb)) st := fun Q => by
  unfold Dswiglu.rd
  iintro ⟨H, HQ⟩
  ihave H := hl $$ H
  icases H with ⟨H, Hb⟩
  unfold own1 owns
  icases H with ⟨%f, %hf, H⟩
  subst hf
  iapply (wp_load (defs := defs) 𝒱 (c.tc : Thread nD τ) none E (m := m) (r := (Rect.unit (s := sh) off size inb).toLoadRect) (S := m.view.set) (q := fullShare) (f := f) (k := .ret) (by
    exact Finset.map_subset_map.mpr (Finset.subset_univ _))) $$ H
  iintro H
  rw [wp_ret, View.readAt_eq_ld]
  imodintro
  iapply HQ
  iapply Hb
  iexists f
  isplitr
  · ipureintro; rfl
  iexact H

/-- A write (after a read that is not used) leaves the payload under its rectangle and the old contents elsewhere. -/
theorem Runs.wr {sh : Shape} {e : EltTy} {m : Memref sig .tc .vmem sh e} {T : Type} {vec : T → (sh.Idx → Elt F e)} {y₀ : T} {set : T → St F} {st : St F}
    (hl : (own (Ix := Ix) (Name := Name) (U := U) (Lvl := Lvl) B c ins st : sProp 𝕄) ⊢ iprop(own1 c m (vec y₀) ∗ ∀ y, own1 c m (vec y) -∗ own B c ins (set y)))
    (off size : Fin sh.rank → Nat) (inb : ∀ a, off a + size a ≤ sh.size a) (h : 0 < (⟨sh.rank, size⟩ : Shape).numel)
    (w : Vec F ⟨sh.rank, size⟩ e) (hx) (hm) (y : T)
    (hin : ∀ i, vec y ((Rect.unit (s := sh) off size inb).emb i) = w i)
    (hout : ∀ i, (¬ ∀ a, off a ≤ (i a).val ∧ (i a).val < off a + size a) → vec y i = vec y₀ i) :
    Runs (Name := Name) (Ix := Ix) (U := U) (Lvl := Lvl) B c ins defs 𝒱 E
      (Dswiglu.rd m off size inb h >>= fun _ => Prog.lift (.store m (Rect.unit (s := sh) off size inb) w Finset.univ hx hm)) st ⟨⟩ (set y) := fun Q => by
  unfold Dswiglu.rd
  show _ ⊢ wp _ _ _ (.op _ fun _ => .op _ .ret) Q
  iintro ⟨H, HQ⟩
  ihave H := hl $$ H
  icases H with ⟨H, Hb⟩
  unfold own1 owns
  icases H with ⟨%f, %hf, H⟩
  iapply (wp_load (defs := defs) 𝒱 (c.tc : Thread nD τ) none E (m := m) (r := (Rect.unit (s := sh) off size inb).toLoadRect) (S := m.view.set) (q := fullShare) (f := f) (by
    exact Finset.map_subset_map.mpr (Finset.subset_univ _))) $$ H
  iintro H
  iapply (wp_store (defs := defs) 𝒱 (c.tc : Thread nD τ) none E (m := m) (r := (Rect.unit (s := sh) off size inb)) (w := w) (Mk := Finset.univ) (hx := hx) (hm := hm) (k := .ret) (S := m.view.set) (f := f) (by
    intro i hi
    obtain ⟨x, -, rfl⟩ := Finset.mem_map.mp hi
    exact m.view.emb_mem_set _)) $$ H
  iintro H
  rw [wp_ret]
  imodintro
  iapply HQ
  iapply Hb
  iexists _
  isplitr [H]
  rotate_left
  · iexact H
  ipureintro
  funext i
  by_cases hi : ∀ a, off a ≤ (i a).val ∧ (i a).val < off a + size a
  · have he : (Rect.unit (s := sh) off size inb).emb (Rect.unitLocal (s := sh) (off := off) (size := size) i hi) = i :=
      funext fun a => Fin.ext (by
        show off a + 1 * (Rect.unitLocal (s := sh) (off := off) (size := size) i hi a).val = (i a).val
        have := hi a
        rw [Rect.unitLocal_val]; omega)
    rw [← he, hin]
    exact View.read_slice_write_emb (v := m.view) (Rect.unit (s := sh) off size inb) f w (Finset.mem_univ _)
  · rw [hout i hi, ← hf]
    exact View.read_slice_write_of_not_mem (v := m.view) (Rect.unit (s := sh) off size inb) f w _ (by rw [Rect.map_emb_univ, Rect.mem_set_unit]; exact hi)

end Own

end Dswiglu
-- ==== Proof.Rules.lean ====
/- The reads and writes of the unit by coordinates: what a rectangle of a matrix, or of a stack of matrices, reads, and
   what writing it leaves. -/
module

public import proofs.«01_k».proof.Proof.Own

@[expose] public section

noncomputable section

namespace Dswiglu

open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Reading a rectangle of a matrix. -/
theorem ld_vec2 {α : EltTy → Type} {e : EltTy} {n m a b p q : Nat} (g : ℕ → ℕ → α e)
    (inb : ∀ i, (![p, q] : Fin 2 → Nat) i + (⟨2, ![a, b]⟩ : Shape).size i ≤ (⟨2, ![n, m]⟩ : Shape).size i) :
    View.ld (S := ⟨2, ![n, m]⟩) (vec2 g) (Rect.unit (s := ⟨2, ![n, m]⟩) ![p, q] (⟨2, ![a, b]⟩ : Shape).size inb)
      = (vec2 (fun r c => g (p + r) (q + c)) : (⟨2, ![a, b]⟩ : Shape).Idx → α e) := by
  funext i
  show g (p + 1 * (i 0).val) (q + 1 * (i 1).val) = g (p + (i 0).val) (q + (i 1).val)
  rw [Nat.one_mul, Nat.one_mul]

/-- Reading a box of a stack of matrices. -/
theorem ld_vec3 {α : EltTy → Type} {e : EltTy} {n m l a b d p q o : Nat} (g : ℕ → ℕ → ℕ → α e)
    (inb : ∀ i, (![p, q, o] : Fin 3 → Nat) i + (⟨3, ![a, b, d]⟩ : Shape).size i ≤ (⟨3, ![n, m, l]⟩ : Shape).size i) :
    View.ld (S := ⟨3, ![n, m, l]⟩) (vec3 g) (Rect.unit (s := ⟨3, ![n, m, l]⟩) ![p, q, o] (⟨3, ![a, b, d]⟩ : Shape).size inb)
      = (vec3 (fun x r c => g (p + x) (q + r) (o + c)) : (⟨3, ![a, b, d]⟩ : Shape).Idx → α e) := by
  funext i
  show g (p + 1 * (i 0).val) (q + 1 * (i 1).val) (o + 1 * (i 2).val) = g (p + (i 0).val) (q + (i 1).val) (o + (i 2).val)
  rw [Nat.one_mul, Nat.one_mul, Nat.one_mul]

section

variable {nD : Nat} {τ : Topo} {sig : RefSig} {Ix : Type} [DecidableEq Ix]
variable {Name : Type} [DecidableEq Name] {U : Type} [URA U] {Lvl : Type} {Λ : Labels}
local notation "𝕄" => MT nD τ sig Ix (Elt F) Name U Lvl

variable {B : Bufs sig} {c : Dev nD} {ins : Ins F}
variable [Preorder Lvl] {defs : Defs nD τ sig (Elt F) Λ} {𝒱 : Variants} {E : Set Name}

theorem Runs.rd2 {n m a b p q : Nat} {e : EltTy} {M : Memref sig .tc .vmem ⟨2, ![n, m]⟩ e} {g : ℕ → ℕ → Elt F e} {st : St F}
    (hl : (own (Ix := Ix) (Name := Name) (U := U) (Lvl := Lvl) B c ins st : sProp 𝕄) ⊢ iprop(own1 c M (vec2 g) ∗ (own1 c M (vec2 g) -∗ own B c ins st)))
    (inb : ∀ i, (![p, q] : Fin 2 → Nat) i + (⟨2, ![a, b]⟩ : Shape).size i ≤ (⟨2, ![n, m]⟩ : Shape).size i) (h) :
    Runs (Name := Name) (Ix := Ix) (U := U) (Lvl := Lvl) B c ins defs 𝒱 E (Dswiglu.rd M ![p, q] (⟨2, ![a, b]⟩ : Shape).size inb h) st
      (vec2 (fun r c => g (p + r) (q + c)) : (⟨2, ![a, b]⟩ : Shape).Idx → Elt F e) st := by
  have := Runs.rd B c ins defs 𝒱 E hl ![p, q] (⟨2, ![a, b]⟩ : Shape).size inb h
  rwa [ld_vec2] at this

theorem Runs.rd3 {n m l a b d p q o : Nat} {e : EltTy} {M : Memref sig .tc .vmem ⟨3, ![n, m, l]⟩ e} {g : ℕ → ℕ → ℕ → Elt F e} {st : St F}
    (hl : (own (Ix := Ix) (Name := Name) (U := U) (Lvl := Lvl) B c ins st : sProp 𝕄) ⊢ iprop(own1 c M (vec3 g) ∗ (own1 c M (vec3 g) -∗ own B c ins st)))
    (inb : ∀ i, (![p, q, o] : Fin 3 → Nat) i + (⟨3, ![a, b, d]⟩ : Shape).size i ≤ (⟨3, ![n, m, l]⟩ : Shape).size i) (h) :
    Runs (Name := Name) (Ix := Ix) (U := U) (Lvl := Lvl) B c ins defs 𝒱 E (Dswiglu.rd M ![p, q, o] (⟨3, ![a, b, d]⟩ : Shape).size inb h) st
      (vec3 (fun x r c => g (p + x) (q + r) (o + c)) : (⟨3, ![a, b, d]⟩ : Shape).Idx → Elt F e) st := by
  have := Runs.rd B c ins defs 𝒱 E hl ![p, q, o] (⟨3, ![a, b, d]⟩ : Shape).size inb h
  rwa [ld_vec3] at this

/-- What a write of `w` to a rectangle of a matrix at `y₀` makes of it is `y`. -/
def Put2 {α : Type} (n m a b p q : Nat) (y₀ : ℕ → ℕ → α) (w : (⟨2, ![a, b]⟩ : Shape).Idx → α) (y : ℕ → ℕ → α) : Prop :=
  (∀ (r : Fin a) (s : Fin b), y (p + r) (q + s) = w (ix2 r s))
    ∧ ∀ r < n, ∀ s < m, ¬ (p ≤ r ∧ r < p + a ∧ q ≤ s ∧ s < q + b) → y r s = y₀ r s

/-- The same for a stack of matrices. -/
def Put3 {α : Type} (n m l a b d p q o : Nat) (y₀ : ℕ → ℕ → ℕ → α) (w : (⟨3, ![a, b, d]⟩ : Shape).Idx → α) (y : ℕ → ℕ → ℕ → α) : Prop :=
  (∀ (x : Fin a) (r : Fin b) (s : Fin d), y (p + x) (q + r) (o + s) = w (ix3 x r s))
    ∧ ∀ x < n, ∀ r < m, ∀ s < l, ¬ (p ≤ x ∧ x < p + a ∧ q ≤ r ∧ r < q + b ∧ o ≤ s ∧ s < o + d) → y x r s = y₀ x r s

theorem Put2.spec {α : Type} {n m a b p q : Nat} {y₀ y : ℕ → ℕ → α} {w : (⟨2, ![a, b]⟩ : Shape).Idx → α} (h : Put2 n m a b p q y₀ w y)
    (inb : ∀ i, (![p, q] : Fin 2 → Nat) i + (⟨2, ![a, b]⟩ : Shape).size i ≤ (⟨2, ![n, m]⟩ : Shape).size i) :
    (∀ i, (vec2 y : (⟨2, ![n, m]⟩ : Shape).Idx → α) ((Rect.unit (s := ⟨2, ![n, m]⟩) ![p, q] (⟨2, ![a, b]⟩ : Shape).size inb).emb i) = w i)
    ∧ ∀ i : (⟨2, ![n, m]⟩ : Shape).Idx, (¬ ∀ x, (![p, q] : Fin 2 → Nat) x ≤ (i x).val ∧ (i x).val < (![p, q] : Fin 2 → Nat) x + (⟨2, ![a, b]⟩ : Shape).size x) →
      vec2 y i = vec2 y₀ i := by
  constructor
  · intro i
    show y (p + 1 * (i 0).val) (q + 1 * (i 1).val) = w i
    rw [Nat.one_mul, Nat.one_mul, eq_ix2 i]
    exact h.1 (i 0) (i 1)
  · intro i hi
    refine h.2 _ (i 0).isLt _ (i 1).isLt fun hh => hi fun x => ?_
    fin_cases x
    · exact ⟨hh.1, hh.2.1⟩
    · exact hh.2.2

theorem Put3.spec {α : Type} {n m l a b d p q o : Nat} {y₀ y : ℕ → ℕ → ℕ → α} {w : (⟨3, ![a, b, d]⟩ : Shape).Idx → α}
    (h : Put3 n m l a b d p q o y₀ w y)
    (inb : ∀ i, (![p, q, o] : Fin 3 → Nat) i + (⟨3, ![a, b, d]⟩ : Shape).size i ≤ (⟨3, ![n, m, l]⟩ : Shape).size i) :
    (∀ i, (vec3 y : (⟨3, ![n, m, l]⟩ : Shape).Idx → α) ((Rect.unit (s := ⟨3, ![n, m, l]⟩) ![p, q, o] (⟨3, ![a, b, d]⟩ : Shape).size inb).emb i) = w i)
    ∧ ∀ i : (⟨3, ![n, m, l]⟩ : Shape).Idx, (¬ ∀ x, (![p, q, o] : Fin 3 → Nat) x ≤ (i x).val ∧ (i x).val < (![p, q, o] : Fin 3 → Nat) x + (⟨3, ![a, b, d]⟩ : Shape).size x) →
      vec3 y i = vec3 y₀ i := by
  constructor
  · intro i
    show y (p + 1 * (i 0).val) (q + 1 * (i 1).val) (o + 1 * (i 2).val) = w i
    rw [Nat.one_mul, Nat.one_mul, Nat.one_mul, eq_ix3 i]
    exact h.1 (i 0) (i 1) (i 2)
  · intro i hi
    refine h.2 _ (i 0).isLt _ (i 1).isLt _ (i 2).isLt fun hh => hi fun x => ?_
    fin_cases x
    · exact ⟨hh.1, hh.2.1⟩
    · exact ⟨hh.2.2.1, hh.2.2.2.1⟩
    · exact hh.2.2.2.2

theorem Runs.wr2 {n m a b p q : Nat} {M : Memref sig .tc .vmem ⟨2, ![n, m]⟩ .f32} {y₀ y : ℕ → ℕ → Elt F .f32} {set : (ℕ → ℕ → Elt F .f32) → St F} {st : St F}
    (hl : (own (Ix := Ix) (Name := Name) (U := U) (Lvl := Lvl) B c ins st : sProp 𝕄) ⊢ iprop(own1 c M (vec2 y₀) ∗ ∀ y, own1 c M (vec2 y) -∗ own B c ins (set y)))
    {inb : ∀ i, (![p, q] : Fin 2 → Nat) i + (⟨2, ![a, b]⟩ : Shape).size i ≤ (⟨2, ![n, m]⟩ : Shape).size i} {h}
    {w : Vec F ⟨2, ![a, b]⟩ .f32} (hp : Put2 n m a b p q y₀ w y) :
    Runs (Name := Name) (Ix := Ix) (U := U) (Lvl := Lvl) B c ins defs 𝒱 E (Dswiglu.wr M ![p, q] (⟨2, ![a, b]⟩ : Shape).size inb h w) st ⟨⟩ (set y) :=
  Runs.wr B c ins defs 𝒱 E hl ![p, q] (⟨2, ![a, b]⟩ : Shape).size inb h w _ _ y (hp.spec inb).1 (hp.spec inb).2

theorem Runs.wr3 {n m l a b d p q o : Nat} {M : Memref sig .tc .vmem ⟨3, ![n, m, l]⟩ .f32} {y₀ y : ℕ → ℕ → ℕ → Elt F .f32} {set : (ℕ → ℕ → ℕ → Elt F .f32) → St F} {st : St F}
    (hl : (own (Ix := Ix) (Name := Name) (U := U) (Lvl := Lvl) B c ins st : sProp 𝕄) ⊢ iprop(own1 c M (vec3 y₀) ∗ ∀ y, own1 c M (vec3 y) -∗ own B c ins (set y)))
    {inb : ∀ i, (![p, q, o] : Fin 3 → Nat) i + (⟨3, ![a, b, d]⟩ : Shape).size i ≤ (⟨3, ![n, m, l]⟩ : Shape).size i} {h}
    {w : Vec F ⟨3, ![a, b, d]⟩ .f32} (hp : Put3 n m l a b d p q o y₀ w y) :
    Runs (Name := Name) (Ix := Ix) (U := U) (Lvl := Lvl) B c ins defs 𝒱 E (Dswiglu.wr M ![p, q, o] (⟨3, ![a, b, d]⟩ : Shape).size inb h w) st ⟨⟩ (set y) :=
  Runs.wr B c ins defs 𝒱 E hl ![p, q, o] (⟨3, ![a, b, d]⟩ : Shape).size inb h w _ _ y (hp.spec inb).1 (hp.spec inb).2

theorem Runs.wr8 {n m a b p q : Nat} {M : Memref sig .tc .vmem ⟨2, ![n, m]⟩ .fp8e4m3} {hm : M.IsWhole} {y₀ y : ℕ → ℕ → Elt F .fp8e4m3} {set : (ℕ → ℕ → Elt F .fp8e4m3) → St F} {st : St F}
    (hl : (own (Ix := Ix) (Name := Name) (U := U) (Lvl := Lvl) B c ins st : sProp 𝕄) ⊢ iprop(own1 c M (vec2 y₀) ∗ ∀ y, own1 c M (vec2 y) -∗ own B c ins (set y)))
    {inb : ∀ i, (![p, q] : Fin 2 → Nat) i + (⟨2, ![a, b]⟩ : Shape).size i ≤ (⟨2, ![n, m]⟩ : Shape).size i} {h} {hk}
    {w : Vec F ⟨2, ![a, b]⟩ .fp8e4m3} (hp : Put2 n m a b p q y₀ w y) :
    Runs (Name := Name) (Ix := Ix) (U := U) (Lvl := Lvl) B c ins defs 𝒱 E (Dswiglu.wr8 M hm ![p, q] (⟨2, ![a, b]⟩ : Shape).size inb h hk w) st ⟨⟩ (set y) :=
  Runs.wr B c ins defs 𝒱 E hl ![p, q] (⟨2, ![a, b]⟩ : Shape).size inb h w _ _ y (hp.spec inb).1 (hp.spec inb).2

theorem Runs.wr16 {n m a b p q : Nat} {M : Memref sig .tc .vmem ⟨2, ![n, m]⟩ .bf16} {hm : M.IsWhole} {y₀ y : ℕ → ℕ → Elt F .bf16} {set : (ℕ → ℕ → Elt F .bf16) → St F} {st : St F}
    (hl : (own (Ix := Ix) (Name := Name) (U := U) (Lvl := Lvl) B c ins st : sProp 𝕄) ⊢ iprop(own1 c M (vec2 y₀) ∗ ∀ y, own1 c M (vec2 y) -∗ own B c ins (set y)))
    {inb : ∀ i, (![p, q] : Fin 2 → Nat) i + (⟨2, ![a, b]⟩ : Shape).size i ≤ (⟨2, ![n, m]⟩ : Shape).size i} {h} {hk}
    {w : Vec F ⟨2, ![a, b]⟩ .bf16} (hp : Put2 n m a b p q y₀ w y) :
    Runs (Name := Name) (Ix := Ix) (U := U) (Lvl := Lvl) B c ins defs 𝒱 E (Dswiglu.wr16 M hm ![p, q] (⟨2, ![a, b]⟩ : Shape).size inb h hk w) st ⟨⟩ (set y) :=
  Runs.wr B c ins defs 𝒱 E hl ![p, q] (⟨2, ![a, b]⟩ : Shape).size inb h w _ _ y (hp.spec inb).1 (hp.spec inb).2

end

end Dswiglu
-- ==== Proof.Model.lean ====
/- What one grid point computes, element by element: the gradient, the greatest magnitudes, the scales and the codes.
   All over any float operations, and by natural coordinates: row `R` of 1024, column `C` of 2560, group `g` of 20. -/
module

public import proofs.«01_k».proof.Proof.Rules

@[expose] public section

noncomputable section

namespace Dswiglu

open Idealize.ShloMosaic Idealize.SL.Sem

variable {F : FTy → Type} [FloatOps F]

/-- The gradient by the gate at one element. -/
def gaS (g u d : F .f32) : F .f32 := gradA (fun _ => g) (fun _ => u) (fun _ => d) (ix2 0 0)

/-- The gradient by the other half at one element. -/
def gbS (g d : F .f32) : F .f32 := gradB (fun _ => g) (fun _ => d) (ix2 0 0)

/-- One element widened. -/
def wd (x : Elt F .bf16) : F .f32 := FloatOps.extf (φ := .bf16) .f32 (by decide) x

/-- One step of the bisection for one number: `b` is the bit tried. -/
def bisS (m : F .f32) (b e : BitVec 32) : BitVec 32 :=
  Scalar.select (FloatOps.cmpf .oge m (FloatOps.ofBits .f32 (IntOp.shli .vector (IntOp.minsi (IntOp.addi e b) 254#32) 23#32))) (IntOp.addi e b) e

/-- The exponent field of a magnitude. -/
def fieldS (m : F .f32) : BitVec 32 :=
  bisS m 1#32 (bisS m 2#32 (bisS m 4#32 (bisS m 8#32 (bisS m 16#32 (bisS m 32#32 (bisS m 64#32 (bisS m 128#32 0#32)))))))

/-- The exponent of the scale, from the exponent field `f` of the scaled magnitude. -/
def expoF (f : BitVec 32) : BitVec 32 :=
  Scalar.select (IntOp.ori (IntOp.cmpi .eq f 0#32) (IntOp.cmpi .eq f 255#32)) 0#32 (IntOp.subi f 126#32)

/-- The exponent of the scale for a greatest magnitude. -/
def expoS (a : F .f32) : BitVec 32 := expoF (fieldS (FloatOps.mulf a (FloatOps.ofBits .f32 0x3B124925#32)))

/-- The scale for a greatest magnitude. -/
def sc (a : F .f32) : F .f32 := FloatOps.ofBits .f32 (IntOp.shli .vector (IntOp.addi 127#32 (expoS a)) 23#32)

/-- Its reciprocal. -/
def iv (a : F .f32) : F .f32 := FloatOps.ofBits .f32 (IntOp.shli .vector (IntOp.subi 127#32 (expoS a)) 23#32)

/-- The code of one value at a reciprocal scale. -/
def cd (v p : F .f32) : F .fp8e4m3 :=
  FloatOps.truncf .fp8e4m3 (by decide) (FloatOps.minimumf (FloatOps.ofBits .f32 0x43E00000#32)
    (FloatOps.maximumf (FloatOps.ofBits .f32 0xC3E00000#32) (FloatOps.mulf v p)))

/-- The greatest of `f 0 … f n`, taken from the left. -/
def mx (f : ℕ → F .f32) : ℕ → F .f32
  | 0 => f 0
  | n + 1 => FloatOps.maximumf (mx f n) (f (n + 1))

theorem mx_congr {f f' : ℕ → F .f32} {n : ℕ} (h : ∀ t ≤ n, f t = f' t) : mx f n = mx f' n := by
  induction n with
  | zero => exact h 0 le_rfl
  | succ n ih => rw [mx, mx, ih fun t ht => h t (by omega), h (n + 1) le_rfl]

variable (ins : Ins F)

/-- The gradient at row `R` and column `C`. -/
def G (R C : ℕ) : F .f32 :=
  if C % 256 < 128 then gaS (wd (ins.x R C)) (wd (ins.x R (C + 128))) (wd (ins.dy R (128 * (C / 256) + C % 256)))
  else gbS (wd (ins.x R (C - 128))) (wd (ins.dy R (128 * (C / 256) + (C % 256 - 128))))

/-- The greatest magnitude of row `R` in column group `g`. -/
def RM (R g : ℕ) : F .f32 := mx (fun s => mx (fun t => FloatOps.absf (G ins R (128 * g + (8 * t + s)))) 15) 7

/-- The greatest magnitude of column `C` in row group `g`. -/
def CM (g C : ℕ) : F .f32 := mx (fun s => mx (fun t => FloatOps.absf (G ins (128 * g + (8 * t + s)) C)) 15) 7

/-- The partial maxima of the unit `W`, `j`: plane `p`, sublane `s`, lane `l`. -/
def PT (W j p s l : ℕ) : F .f32 :=
  if p < 4 then mx (fun t => FloatOps.absf (G ins (256 * W + 128 * (p % 2) + l) (256 * j + 128 * (p / 2) + (8 * t + s)))) 15
  else mx (fun t => FloatOps.absf (G ins (256 * W + 128 * ((p - 4) / 2) + (8 * t + s)) (256 * j + 128 * (p % 2) + l))) 15

/-- The eight greatest magnitudes of lane `l`. -/
def AN (W j p l : ℕ) : F .f32 := mx (fun s => PT ins W j p s l) 7

/-- The reciprocal scales as the matrix unit's left operand: eight lanes, and zeros. -/
def LH (W j l p : ℕ) : Elt F .bf16 :=
  if p < 8 then FloatOps.truncf (φ := .f32) .bf16 (by decide) (iv (AN ins W j p l)) else FloatOps.ofBits .bf16 0x0000#16

/-- Plane `s` of the selector. -/
def selv (s : ℕ) : Vec F S1x128x256 .bf16 := vec3 fun x r c => ins.sel (s + x) r c

/-- The reciprocal scale at a row and a column of a block. -/
def SP (W j s r c : ℕ) : F .f32 :=
  spread (vec2 (LH ins W j)) (selv ins s) (ix2 (Fin.ofNat 128 r) (Fin.ofNat 256 c))

/-- The row code at row `R`, column `C`. -/
def OC (R C : ℕ) : F .fp8e4m3 := cd (G ins R C) (SP ins (R / 256) (C / 256) (R / 128 % 2) (R % 128) (C % 256))

/-- The column code of column `C`, row `R`. -/
def OT (C R : ℕ) : F .fp8e4m3 := cd (G ins R C) (SP ins (R / 256) (C / 256) (2 + C / 128 % 2) (C % 128) (R % 256))

theorem AN_row {W j k h l : ℕ} (hk : k < 2) (hh : h < 2) : AN ins W j (2 * k + h) l = RM ins (256 * W + 128 * h + l) (2 * j + k) := by
  unfold AN RM PT
  simp only [if_pos (show 2 * k + h < 4 by omega)]
  rw [show (2 * k + h) % 2 = h by omega, show (2 * k + h) / 2 = k by omega]
  simp only [show ∀ a, 256 * j + 128 * k + a = 128 * (2 * j + k) + a by intro a; omega]

theorem AN_col {W j k h l : ℕ} (hk : k < 2) (hh : h < 2) : AN ins W j (4 + 2 * h + k) l = CM ins (2 * W + h) (256 * j + 128 * k + l) := by
  unfold AN CM PT
  simp only [if_neg (show ¬ 4 + 2 * h + k < 4 by omega)]
  rw [show (4 + 2 * h + k) % 2 = k by omega, show (4 + 2 * h + k - 4) / 2 = h by omega]
  simp only [show ∀ a, 256 * W + 128 * h + a = 128 * (2 * W + h) + a by intro a; omega]

/-! ## The vectors, element by element -/

theorem gradA_vec (g u d : ℕ → ℕ → F .f32) : gradA (vec2 g) (vec2 u) (vec2 d) = vec2 fun r c => gaS (g r c) (u r c) (d r c) := rfl

theorem gradB_vec (g d : ℕ → ℕ → F .f32) : gradB (vec2 g) (vec2 d) = vec2 fun r c => gbS (g r c) (d r c) := rfl

theorem wide_vec (x : ℕ → ℕ → Elt F .bf16) : wide (vec2 x) = vec2 fun r c => wd (x r c) := by
  unfold wide; rw [shapeCast_id]; rfl

theorem bis_apply (m : FVec F S8x128 .f32) (b : BitVec 32) (e : IVec S8x128 32) (i) : bis m b e i = bisS (m i) b (e i) := rfl

theorem field_apply (m : FVec F S8x128 .f32) (i) : field m i = fieldS (m i) := by
  unfold field fieldS; simp only [bis_apply]; rfl

theorem expo_apply (a : FVec F S8x128 .f32) (i) : expo a i = expoS (a i) := by
  have h : field (mulf a (broadcast S8x128 (Scalar.ofBits .f32 0x3B124925#32))) i
      = fieldS (FloatOps.mulf (a i) (FloatOps.ofBits .f32 0x3B124925#32)) := field_apply _ i
  unfold expo expoS; rw [← h]
  generalize field (mulf a (broadcast S8x128 (Scalar.ofBits .f32 0x3B124925#32))) = f
  rfl

theorem scaleOf_vec (a : ℕ → ℕ → F .f32) : scaleOf (vec2 a) = vec2 fun r c => sc (a r c) := by
  funext i
  have h : expo (vec2 a) i = expoS (a (i 0).val (i 1).val) := expo_apply (vec2 a) i
  show _ = sc (a (i 0).val (i 1).val)
  unfold scaleOf sc; rw [← h]
  generalize expo (vec2 a) = f
  rfl

theorem invOf_vec (a : ℕ → ℕ → F .f32) : invOf (vec2 a) = vec2 fun r c => iv (a r c) := by
  funext i
  have h : expo (vec2 a) i = expoS (a (i 0).val (i 1).val) := expo_apply (vec2 a) i
  show _ = iv (a (i 0).val (i 1).val)
  unfold invOf iv; rw [← h]
  generalize expo (vec2 a) = f
  rfl

theorem max_vec {n m : ℕ} (a b : ℕ → ℕ → F .f32) :
    maximumf (vec2 a : FVec F ⟨2, ![n, m]⟩ .f32) (vec2 b) = vec2 fun r c => FloatOps.maximumf (a r c) (b r c) := rfl

theorem lo_vec (a : ℕ → ℕ → F .f32) : lo (vec2 a) = vec2 fun r c => FloatOps.absf (a r c) := by
  funext i
  show FloatOps.absf (a (0 + (i 0).val) (0 + (i 1).val)) = FloatOps.absf (a (i 0).val (i 1).val)
  rw [Nat.zero_add, Nat.zero_add]

theorem hi_vec (a : ℕ → ℕ → F .f32) : hi (vec2 a) = vec2 fun r c => FloatOps.absf (a (8 + r) c) := by
  funext i
  show FloatOps.absf (a (8 + (i 0).val) (0 + (i 1).val)) = FloatOps.absf (a (8 + (i 0).val) (i 1).val)
  rw [Nat.zero_add]

theorem rows8_vec (a : ℕ → ℕ → F .f32) (o : ℕ) (h) : rows8 (vec2 a) o h = vec2 fun r c => FloatOps.absf (a (o + r) c) := by
  funext i
  show FloatOps.absf (a (o + (i 0).val) (0 + (i 1).val)) = FloatOps.absf (a (o + (i 0).val) (i 1).val)
  rw [Nat.zero_add]

theorem transpose_vec {α : Type} {n m : ℕ} (a : ℕ → ℕ → α) (h) :
    transpose (⟨2, ![n, m]⟩ : Shape) [1, 0] (vec2 a : (⟨2, ![m, n]⟩ : Shape).Idx → α) h = vec2 fun r c => a c r := rfl

theorem fold16_vec (a : ℕ → ℕ → F .f32) : fold16 (vec2 a) = vec2 fun s l => mx (fun t => FloatOps.absf (a (8 * t + s) l)) 15 := by
  unfold fold16
  simp only [rows8_vec, max_vec]
  rfl

theorem code_vec (v : ℕ → ℕ → F .f32) (p : ℕ → ℕ → F .f32) (o : ℕ) (h) :
    code (vec2 v : Vec F S32x256 .f32) (vec2 p) o h = vec2 fun r c => cd (v r c) (p (o + r) c) := by
  funext i
  show cd (v (i 0).val (i 1).val) (p (o + (i 0).val) (0 + (i 1).val)) = cd (v (i 0).val (i 1).val) (p (o + (i 0).val) (i 1).val)
  rw [Nat.zero_add]

theorem spread_vec (W j s : ℕ) : spread (vec2 (LH ins W j)) (selv ins s) = vec2 (SP ins W j s) := by
  funext i
  show _ = spread _ _ (ix2 (Fin.ofNat 128 (i 0).val) (Fin.ofNat 256 (i 1).val))
  congr 1
  rw [eq_ix2 i]
  congr 1
  · exact Fin.ext (Nat.mod_eq_of_lt (i 0).isLt).symm
  · exact Fin.ext (Nat.mod_eq_of_lt (i 1).isLt).symm

end Dswiglu
-- ==== Proof.Does.lean ====
/- The rules of Proof/Rules.lean with everything that is the same throughout left out of the statements, and the reads
   and writes stated by the functions of coordinates they give and leave. -/
module

public import proofs.«01_k».proof.Proof.Model

@[expose] public section

noncomputable section

namespace Dswiglu

open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F] {nD : Nat} {τ : Topo} {sig : RefSig} {Λ : Labels}
variable (B : Bufs sig) (ins : Ins F)

/-! ## One buffer changed -/

def St.put_codes (st : St F) (y : ℕ → ℕ → Elt F .fp8e4m3) : St F := { st with codes := y }
def St.put_scales (st : St F) (y : ℕ → ℕ → Elt F .f32) : St F := { st with scales := y }
def St.put_codesT (st : St F) (y : ℕ → ℕ → Elt F .fp8e4m3) : St F := { st with codesT := y }
def St.put_scalesT (st : St F) (y : ℕ → ℕ → Elt F .f32) : St F := { st with scalesT := y }
def St.put_v (st : St F) (y : ℕ → ℕ → Elt F .f32) : St F := { st with v := y }
def St.put_vT (st : St F) (y : ℕ → ℕ → Elt F .f32) : St F := { st with vT := y }
def St.put_part (st : St F) (y : ℕ → ℕ → ℕ → Elt F .f32) : St F := { st with part := y }
def St.put_lhs (st : St F) (y : ℕ → ℕ → Elt F .bf16) : St F := { st with lhs := y }
def St.put_stage (st : St F) (y : ℕ → ℕ → ℕ → Elt F .f32) : St F := { st with stage := y }

/-- `P` started with the buffers at `st` gives `a` and leaves them at `st'`, whatever else there is. -/
def Does {α : Type} (P : Prog (TpuEff nD τ sig (Elt F) Λ .tc) α) (st : St F) (a : α) (st' : St F) : Prop :=
  ∀ (Ix : Type) [DecidableEq Ix] (Name : Type) [DecidableEq Name] (U : Type) [URA U] (Lvl : Type) [Preorder Lvl]
    (c : Dev nD) (defs : Defs nD τ sig (Elt F) Λ) (𝒱 : Variants) (E : Set Name),
    Runs (Ix := Ix) (U := U) (Lvl := Lvl) B c ins defs 𝒱 E P st a st'

/-- The buffer `M` holds `X`, and may be put back with any other `y`, the contents then being `set y`. -/
def Acc {sh : Shape} {e : EltTy} {T : Type} (M : Memref sig .tc .vmem sh e) (st : St F) (vec : T → sh.Idx → Elt F e) (X : T) (set : T → St F) : Prop :=
  ∀ (nD : Nat) (τ : Topo) (Ix : Type) [DecidableEq Ix] (Name : Type) [DecidableEq Name] (U : Type) [URA U] (Lvl : Type) [Preorder Lvl] (c : Dev nD),
    (own (τ := τ) (Ix := Ix) (Name := Name) (U := U) (Lvl := Lvl) B c ins st) ⊢ iprop(own1 c M (vec X) ∗ ∀ y, own1 c M (vec y) -∗ own B c ins (set y))

/-- The buffer `M` holds `X`. -/
def See {sh : Shape} {e : EltTy} (M : Memref sig .tc .vmem sh e) (st : St F) (X : sh.Idx → Elt F e) : Prop :=
  ∀ (nD : Nat) (τ : Topo) (Ix : Type) [DecidableEq Ix] (Name : Type) [DecidableEq Name] (U : Type) [URA U] (Lvl : Type) [Preorder Lvl] (c : Dev nD),
    (own (τ := τ) (Ix := Ix) (Name := Name) (U := U) (Lvl := Lvl) B c ins st) ⊢ iprop(own1 c M X ∗ (own1 c M X -∗ own B c ins st))

variable {B ins}

theorem Acc.see {sh : Shape} {e : EltTy} {T : Type} {M : Memref sig .tc .vmem sh e} {st : St F} {vec : T → sh.Idx → Elt F e} {X : T} {set : T → St F}
    (h : Acc B ins M st vec X set) (hs : set X = st) : See B ins M st (vec X) := by
  intro nD τ Ix _ Name _ U _ Lvl _ c
  refine (h nD τ Ix Name U Lvl c).trans ?_
  iintro ⟨H, K⟩
  isplitl [H]; · iexact H
  ispecialize K $$ %X
  rw [hs]
  iexact K

theorem acc_codes (st : St F) : Acc B ins B.codes st vec2 st.codes st.put_codes := fun _ _ _ _ _ _ _ _ _ _ c => take_codes B c ins st
theorem acc_scales (st : St F) : Acc B ins B.scales st vec2 st.scales st.put_scales := fun _ _ _ _ _ _ _ _ _ _ c => take_scales B c ins st
theorem acc_codesT (st : St F) : Acc B ins B.codesT st vec2 st.codesT st.put_codesT := fun _ _ _ _ _ _ _ _ _ _ c => take_codesT B c ins st
theorem acc_scalesT (st : St F) : Acc B ins B.scalesT st vec2 st.scalesT st.put_scalesT := fun _ _ _ _ _ _ _ _ _ _ c => take_scalesT B c ins st
theorem acc_v (st : St F) : Acc B ins B.v st vec2 st.v st.put_v := fun _ _ _ _ _ _ _ _ _ _ c => take_v B c ins st
theorem acc_vT (st : St F) : Acc B ins B.vT st vec2 st.vT st.put_vT := fun _ _ _ _ _ _ _ _ _ _ c => take_vT B c ins st
theorem acc_part (st : St F) : Acc B ins B.part st vec3 st.part st.put_part := fun _ _ _ _ _ _ _ _ _ _ c => take_part B c ins st
theorem acc_lhs (st : St F) : Acc B ins B.lhs st vec2 st.lhs st.put_lhs := fun _ _ _ _ _ _ _ _ _ _ c => take_lhs B c ins st
theorem acc_stage (st : St F) : Acc B ins B.stage st vec3 st.stage st.put_stage := fun _ _ _ _ _ _ _ _ _ _ c => take_stage B c ins st
theorem see_sel (st : St F) : See B ins B.sel st (vec3 ins.sel) := fun _ _ _ _ _ _ _ _ _ _ c => take_sel B c ins st
theorem see_x (st : St F) : See B ins B.x st (vec2 ins.x) := fun _ _ _ _ _ _ _ _ _ _ c => take_x B c ins st
theorem see_dy (st : St F) : See B ins B.dy st (vec2 ins.dy) := fun _ _ _ _ _ _ _ _ _ _ c => take_dy B c ins st

theorem Does.bind {α β : Type} {P : Prog (TpuEff nD τ sig (Elt F) Λ .tc) α} {k : α → Prog (TpuEff nD τ sig (Elt F) Λ .tc) β}
    {st st' st'' : St F} {a : α} {b : β} (h : Does B ins P st a st') (h' : Does B ins (k a) st' b st'') : Does B ins (P >>= k) st b st'' :=
  fun Ix _ Name _ U _ Lvl _ c defs 𝒱 E => Runs.bind B c ins defs 𝒱 E (h Ix Name U Lvl c defs 𝒱 E) (h' Ix Name U Lvl c defs 𝒱 E)

theorem Does.pure {α : Type} (st : St F) (a : α) : Does (Λ := Λ) (nD := nD) (τ := τ) B ins (Pure.pure a) st a st :=
  fun _ _ _ _ _ _ _ _ c defs 𝒱 E => Runs.pure B c ins defs 𝒱 E st a

/-- Reading a rectangle of a matrix. -/
theorem Does.rd2 {n m a b p q : Nat} {e : EltTy} {M : Memref sig .tc .vmem ⟨2, ![n, m]⟩ e} {g : ℕ → ℕ → Elt F e} (g' : ℕ → ℕ → Elt F e) {st : St F}
    (hl : See B ins M st (vec2 g))
    {inb : ∀ i, (![p, q] : Fin 2 → Nat) i + (⟨2, ![a, b]⟩ : Shape).size i ≤ (⟨2, ![n, m]⟩ : Shape).size i} {h}
    (hg : ∀ r < a, ∀ s < b, g (p + r) (q + s) = g' r s) :
    Does (Λ := Λ) (nD := nD) (τ := τ) B ins (rd M ![p, q] (⟨2, ![a, b]⟩ : Shape).size inb h) st (vec2 g' : (⟨2, ![a, b]⟩ : Shape).Idx → Elt F e) st := by
  rw [← vec2_congr hg]
  exact fun Ix _ Name _ U _ Lvl _ c defs 𝒱 E => Runs.rd2 (hl nD τ Ix Name U Lvl c) inb h

/-- Reading a box of a stack of matrices. -/
theorem Does.rd3 {n m l a b d p q o : Nat} {e : EltTy} {M : Memref sig .tc .vmem ⟨3, ![n, m, l]⟩ e} {g : ℕ → ℕ → ℕ → Elt F e} (g' : ℕ → ℕ → ℕ → Elt F e) {st : St F}
    (hl : See B ins M st (vec3 g))
    {inb : ∀ i, (![p, q, o] : Fin 3 → Nat) i + (⟨3, ![a, b, d]⟩ : Shape).size i ≤ (⟨3, ![n, m, l]⟩ : Shape).size i} {h}
    (hg : ∀ x < a, ∀ r < b, ∀ s < d, g (p + x) (q + r) (o + s) = g' x r s) :
    Does (Λ := Λ) (nD := nD) (τ := τ) B ins (rd M ![p, q, o] (⟨3, ![a, b, d]⟩ : Shape).size inb h) st (vec3 g' : (⟨3, ![a, b, d]⟩ : Shape).Idx → Elt F e) st := by
  rw [← vec3_congr hg]
  exact fun Ix _ Name _ U _ Lvl _ c defs 𝒱 E => Runs.rd3 (hl nD τ Ix Name U Lvl c) inb h

/-- Writing a rectangle of a matrix: `y` is what it leaves. -/
theorem Does.wr2 {n m a b p q : Nat} {M : Memref sig .tc .vmem ⟨2, ![n, m]⟩ .f32} {y₀ : ℕ → ℕ → Elt F .f32} {set : (ℕ → ℕ → Elt F .f32) → St F} {st : St F}
    (y : ℕ → ℕ → Elt F .f32) (hl : Acc B ins M st vec2 y₀ set)
    {inb : ∀ i, (![p, q] : Fin 2 → Nat) i + (⟨2, ![a, b]⟩ : Shape).size i ≤ (⟨2, ![n, m]⟩ : Shape).size i} {h}
    {w : Vec F ⟨2, ![a, b]⟩ .f32} (hp : Put2 n m a b p q y₀ w y) :
    Does (Λ := Λ) (nD := nD) (τ := τ) B ins (wr M ![p, q] (⟨2, ![a, b]⟩ : Shape).size inb h w) st ⟨⟩ (set y) :=
  fun Ix _ Name _ U _ Lvl _ c _ _ _ => Runs.wr2 (hl nD τ Ix Name U Lvl c) hp

/-- Writing a box of a stack of matrices. -/
theorem Does.wr3 {n m l a b d p q o : Nat} {M : Memref sig .tc .vmem ⟨3, ![n, m, l]⟩ .f32} {y₀ : ℕ → ℕ → ℕ → Elt F .f32} {set : (ℕ → ℕ → ℕ → Elt F .f32) → St F} {st : St F}
    (y : ℕ → ℕ → ℕ → Elt F .f32) (hl : Acc B ins M st vec3 y₀ set)
    {inb : ∀ i, (![p, q, o] : Fin 3 → Nat) i + (⟨3, ![a, b, d]⟩ : Shape).size i ≤ (⟨3, ![n, m, l]⟩ : Shape).size i} {h}
    {w : Vec F ⟨3, ![a, b, d]⟩ .f32} (hp : Put3 n m l a b d p q o y₀ w y) :
    Does (Λ := Λ) (nD := nD) (τ := τ) B ins (wr M ![p, q, o] (⟨3, ![a, b, d]⟩ : Shape).size inb h w) st ⟨⟩ (set y) :=
  fun Ix _ Name _ U _ Lvl _ c _ _ _ => Runs.wr3 (hl nD τ Ix Name U Lvl c) hp

/-- Writing a rectangle of codes. -/
theorem Does.wr8 {n m a b p q : Nat} {M : Memref sig .tc .vmem ⟨2, ![n, m]⟩ .fp8e4m3} {hm : M.IsWhole} {y₀ : ℕ → ℕ → Elt F .fp8e4m3} {set : (ℕ → ℕ → Elt F .fp8e4m3) → St F} {st : St F}
    (y : ℕ → ℕ → Elt F .fp8e4m3) (hl : Acc B ins M st vec2 y₀ set)
    {inb : ∀ i, (![p, q] : Fin 2 → Nat) i + (⟨2, ![a, b]⟩ : Shape).size i ≤ (⟨2, ![n, m]⟩ : Shape).size i} {h} {hk}
    {w : Vec F ⟨2, ![a, b]⟩ .fp8e4m3} (hp : Put2 n m a b p q y₀ w y) :
    Does (Λ := Λ) (nD := nD) (τ := τ) B ins (wr8 M hm ![p, q] (⟨2, ![a, b]⟩ : Shape).size inb h hk w) st ⟨⟩ (set y) :=
  fun Ix _ Name _ U _ Lvl _ c _ _ _ => Runs.wr8 (hl nD τ Ix Name U Lvl c) hp

/-- Writing a rectangle of bf16 words. -/
theorem Does.wr16 {n m a b p q : Nat} {M : Memref sig .tc .vmem ⟨2, ![n, m]⟩ .bf16} {hm : M.IsWhole} {y₀ : ℕ → ℕ → Elt F .bf16} {set : (ℕ → ℕ → Elt F .bf16) → St F} {st : St F}
    (y : ℕ → ℕ → Elt F .bf16) (hl : Acc B ins M st vec2 y₀ set)
    {inb : ∀ i, (![p, q] : Fin 2 → Nat) i + (⟨2, ![a, b]⟩ : Shape).size i ≤ (⟨2, ![n, m]⟩ : Shape).size i} {h} {hk}
    {w : Vec F ⟨2, ![a, b]⟩ .bf16} (hp : Put2 n m a b p q y₀ w y) :
    Does (Λ := Λ) (nD := nD) (τ := τ) B ins (wr16 M hm ![p, q] (⟨2, ![a, b]⟩ : Shape).size inb h hk w) st ⟨⟩ (set y) :=
  fun Ix _ Name _ U _ Lvl _ c _ _ _ => Runs.wr16 (hl nD τ Ix Name U Lvl c) hp

/-! ## Shape casts by coordinates -/

section

variable {α : Type}

theorem cast_1x8x128 (g : ℕ → ℕ → α) (h) : shapeCast S1x8x128 (vec2 g : S8x128.Idx → α) h = vec3 fun _ r s => g r s := by
  funext i; rw [eq_ix3 i]; pointwise; rfl

theorem cast_8x1x128 (g : ℕ → ℕ → ℕ → α) (h) : shapeCast S8x128 (vec3 g : S8x1x128.Idx → α) h = vec2 fun r s => g r 0 s := by
  funext i; rw [eq_ix2 i]; pointwise; rfl

theorem cast_row (g : ℕ → ℕ → α) (o : ℕ) (h h' h'') :
    shapeCast S1x128 (shapeCast S128 (extractStridedSlice S1x128 ![o, 0] (vec2 g : S8x128.Idx → α) h) h') h''
      = vec2 fun r s => g (o + r) s := by
  funext i; rw [eq_ix2 i]; pointwise
  show g o (i 1).val = g (o + (i 0).val) (i 1).val
  rw [Nat.lt_one_iff.mp (i 0).isLt, Nat.add_zero]

theorem cast_row3 (g : ℕ → ℕ → α) (o : ℕ) (h h' h'') :
    shapeCast S1x1x128 (shapeCast S128 (extractStridedSlice S1x128 ![o, 0] (vec2 g : S8x128.Idx → α) h) h') h''
      = vec3 fun _ r s => g (o + r) s := by
  funext i; rw [eq_ix3 i]; pointwise
  show g o (i 2).val = g (o + (i 1).val) (i 2).val
  rw [Nat.lt_one_iff.mp (i 1).isLt, Nat.add_zero]

end

end Dswiglu
-- ==== Proof.Spec.lean ====
/- What each piece of the unit does: the buffers are filled, piece by piece, with what Proof/Model.lean says. -/
module

public import proofs.«01_k».proof.Proof.Does

@[expose] public section

noncomputable section

namespace Dswiglu

open Idealize.ShloMosaic Idealize.SL.Sem

variable {F : FTy → Type} [FloatOps F] {nD : Nat} {τ : Topo} {sig : RefSig} {Λ : Labels}
variable {B : Bufs sig} (ins : Ins F)

/-! ## Buffers filled in part -/

section

variable (W j n : ℕ)

/-- The first `16 n` rows of the gradients of unit `W`, `j`. -/
def vfill (v : ℕ → ℕ → F .f32) : ℕ → ℕ → F .f32 :=
  fun r c => if r < 16 * n then G ins (256 * W + r) (256 * j + c) else v r c

/-- The first `n` quarters of the transpose. -/
def vTfill (v : ℕ → ℕ → F .f32) : ℕ → ℕ → F .f32 :=
  fun r s => if 2 * (r / 128) + s / 128 < n then G ins (256 * W + s) (256 * j + r) else v r s

/-- The first `n` planes of row maxima and the first `b` of column maxima. -/
def pfill (b : ℕ) (v : ℕ → ℕ → ℕ → F .f32) : ℕ → ℕ → ℕ → F .f32 :=
  fun p s l => if p < n ∨ (4 ≤ p ∧ p < 4 + b) then PT ins W j p s l else v p s l

/-- The first `n` runs of 128 row scales. -/
def sfill (v : ℕ → ℕ → F .f32) : ℕ → ℕ → F .f32 :=
  fun g R => if 256 * W ≤ R ∧ R < 256 * W + 256 ∧ 2 * j ≤ g ∧ g < 2 * j + 2 ∧ 2 * (g - 2 * j) + (R - 256 * W) / 128 < n
    then sc (RM ins R g) else v g R

/-- The first `n` runs of 128 column scales. -/
def tfill (v : ℕ → ℕ → ℕ → F .f32) : ℕ → ℕ → ℕ → F .f32 :=
  fun p h C => if p = W ∧ h < 2 ∧ 256 * j ≤ C ∧ C < 256 * j + 256 ∧ 2 * ((C - 256 * j) / 128) + h < n
    then sc (CM ins (2 * W + h) C) else v p h C

/-- The first `n` rows of row codes. -/
def cfill (v : ℕ → ℕ → F .fp8e4m3) : ℕ → ℕ → F .fp8e4m3 :=
  fun R C => if 256 * W ≤ R ∧ R < 256 * W + n ∧ 256 * j ≤ C ∧ C < 256 * j + 256 then OC ins R C else v R C

/-- The first `n` rows of column codes. -/
def dfill (v : ℕ → ℕ → F .fp8e4m3) : ℕ → ℕ → F .fp8e4m3 :=
  fun C R => if 256 * W ≤ R ∧ R < 256 * W + 256 ∧ 256 * j ≤ C ∧ C < 256 * j + n then OT ins C R else v C R

/-- The eight lanes of reciprocals. -/
def lfill (v : ℕ → ℕ → Elt F .bf16) : ℕ → ℕ → Elt F .bf16 := fun l p => if p < 8 then LH ins W j l p else v l p

/-- The running maxima over the first `n + 1` rows of eight, of half `h` and column half `k`. -/
def MX (h k n : ℕ) : FVec F S8x128 .f32 :=
  vec2 fun s l => mx (fun t => FloatOps.absf (G ins (256 * W + 128 * h + (8 * t + s)) (256 * j + 128 * k + l))) n

end

theorem G_lo (R j s : ℕ) (hs : s < 128) :
    G ins R (256 * j + s) = gaS (wd (ins.x R (256 * j + s))) (wd (ins.x R (256 * j + 128 + s))) (wd (ins.dy R (128 * j + s))) := by
  unfold G
  rw [if_pos (by omega), show 256 * j + s + 128 = 256 * j + 128 + s by omega,
    show 128 * ((256 * j + s) / 256) + (256 * j + s) % 256 = 128 * j + s by omega]

theorem G_hi (R j s : ℕ) (hs : s < 128) :
    G ins R (256 * j + 128 + s) = gbS (wd (ins.x R (256 * j + s))) (wd (ins.dy R (128 * j + s))) := by
  unfold G
  rw [if_neg (by omega), show 256 * j + 128 + s - 128 = 256 * j + s by omega,
    show 128 * ((256 * j + 128 + s) / 256) + ((256 * j + 128 + s) % 256 - 128) = 128 * j + s by omega]

/-! ## The pieces -/

section

variable {ins} {w : BitVec 32} (hw : w.toNat < 4) {j : ℕ} (hj : j < 10) {v₀ : ℕ → ℕ → F .f32} {st : St F}

/-- Sixteen rows of gradients. -/
theorem chunk_does {q : ℕ} (hq : q < 16) :
    Does (Λ := Λ) (nD := nD) (τ := τ) B ins (chunk B w hw j hj q hq) (st.put_v (vfill ins w.toNat j q v₀))
      (vec2 fun r c => G ins (256 * w.toNat + 16 * q + r) (256 * j + c), vec2 fun r c => G ins (256 * w.toNat + 16 * q + r) (256 * j + 128 + c))
      (st.put_v (vfill ins w.toNat j (q + 1) v₀)) := by
  have e := rowOff_eq hw (show 16 * q < 1024 by omega)
  have e1 : (vec2 fun r c => G ins (256 * w.toNat + 16 * q + r) (256 * j + c) : FVec F S16x128 .f32)
      = vec2 fun r c => gaS (wd (ins.x (256 * w.toNat + 16 * q + r) (256 * j + c))) (wd (ins.x (256 * w.toNat + 16 * q + r) (256 * j + 128 + c)))
        (wd (ins.dy (256 * w.toNat + 16 * q + r) (128 * j + c))) := vec2_congr fun r _ c hc => G_lo ins _ _ _ hc
  have e2 : (vec2 fun r c => G ins (256 * w.toNat + 16 * q + r) (256 * j + 128 + c) : FVec F S16x128 .f32)
      = vec2 fun r c => gbS (wd (ins.x (256 * w.toNat + 16 * q + r) (256 * j + c)))
        (wd (ins.dy (256 * w.toNat + 16 * q + r) (128 * j + c))) := vec2_congr fun r _ c hc => G_hi ins _ _ _ hc
  unfold chunk
  refine .bind (.rd2 (fun r c => ins.x (256 * w.toNat + 16 * q + r) (256 * j + c)) (see_x _) fun r _ s _ => by rw [e]) ?_
  refine .bind (.rd2 (fun r c => ins.x (256 * w.toNat + 16 * q + r) (256 * j + 128 + c)) (see_x _) fun r _ s _ => by rw [e]) ?_
  refine .bind (.rd2 (fun r c => ins.dy (256 * w.toNat + 16 * q + r) (128 * j + c)) (see_dy _) fun r _ s _ => by rw [e]) ?_
  beta_reduce
  rw [wide_vec, wide_vec, wide_vec, gradA_vec, gradB_vec, shapeCast_id, shapeCast_id, ← e1, ← e2]
  refine .bind (.wr2 (fun r c => if r < 16 * q ∨ (r < 16 * (q + 1) ∧ c < 128) then G ins (256 * w.toNat + r) (256 * j + c) else v₀ r c)
    (acc_v _) ⟨fun r s => ?_, fun r _ s _ h => ?_⟩)
    (.bind (.wr2 (vfill ins w.toNat j (q + 1) v₀) (acc_v _) ⟨fun r s => ?_, fun r _ s _ h => ?_⟩) ?_)
  rotate_right
  · exact Does.pure _ _
  · have := r.isLt; have := s.isLt
    show (if _ then _ else _) = G ins _ _
    rw [if_pos (by omega)]; congr 1 <;> simp only [Nat.zero_add, ix2] <;> first | rfl | (show _ = _ + r.val; omega)
  · show (if _ then _ else _) = (if _ then _ else _)
    split <;> split <;> first | rfl | omega
  · have := r.isLt; have := s.isLt
    show (if _ then _ else _) = G ins _ _
    rw [if_pos (by omega)]; congr 1 <;> first | (show _ = _ + r.val; omega) | (show _ = _ + s.val; omega)
  · show (if _ then _ else _) = (if _ then _ else _)
    split <;> split <;> first | rfl | omega

/-- The running maxima at the first chunk of a half. -/
theorem MX_first (h k : ℕ) :
    maximumf (lo (vec2 fun r c => G ins (256 * w.toNat + 16 * (8 * h) + r) (256 * j + 128 * k + c)))
      (hi (vec2 fun r c => G ins (256 * w.toNat + 16 * (8 * h) + r) (256 * j + 128 * k + c))) = MX ins w.toNat j h k 1 := by
  rw [lo_vec, hi_vec, max_vec]
  refine vec2_congr fun r _ c _ => ?_
  simp only [mx]
  congr 3 <;> omega

/-- The running maxima at a later one. -/
theorem MX_next (h k i : ℕ) :
    maximumf (maximumf (MX ins w.toNat j h k (2 * i + 1)) (lo (vec2 fun r c => G ins (256 * w.toNat + 16 * (8 * h + (i + 1)) + r) (256 * j + 128 * k + c))))
      (hi (vec2 fun r c => G ins (256 * w.toNat + 16 * (8 * h + (i + 1)) + r) (256 * j + 128 * k + c))) = MX ins w.toNat j h k (2 * i + 3) := by
  rw [lo_vec, hi_vec, MX, max_vec, max_vec]
  refine vec2_congr fun r _ c _ => ?_
  simp only [mx]
  rw [show 256 * w.toNat + 16 * (8 * h + (i + 1)) + r = 256 * w.toNat + 128 * h + (8 * (2 * i + 1 + 1) + r) by omega,
    show 256 * w.toNat + 16 * (8 * h + (i + 1)) + (8 + r) = 256 * w.toNat + 128 * h + (8 * (2 * i + 2 + 1) + r) by omega]

theorem step_does {h : ℕ} (hh : h < 2) (i : ℕ) (hi : i < 7) :
    Does (Λ := Λ) (nD := nD) (τ := τ) B ins (step B w hw j hj (8 * h + (i + 1)) (by omega) (MX ins w.toNat j h 0 (2 * i + 1), MX ins w.toNat j h 1 (2 * i + 1)))
      (st.put_v (vfill ins w.toNat j (8 * h + (i + 1)) v₀))
      (MX ins w.toNat j h 0 (2 * i + 3), MX ins w.toNat j h 1 (2 * i + 3))
      (st.put_v (vfill ins w.toNat j (8 * h + (i + 1) + 1) v₀)) := by
  unfold step
  refine .bind (chunk_does hw hj (by omega)) ?_
  beta_reduce
  have e0 := MX_next (ins := ins) (w := w) (j := j) h 0 i
  have e1 := MX_next (ins := ins) (w := w) (j := j) h 1 i
  simp only [Nat.mul_zero, Nat.add_zero, Nat.mul_one] at e0 e1
  rw [← e0, ← e1]
  exact Does.pure _ _

/-- A plane of partial maxima is filled. -/
theorem pfill_put {p₀ : ℕ → ℕ → ℕ → F .f32} {W n b n' b' p : ℕ} {g : ℕ → ℕ → F .f32} (hg : ∀ r < 8, ∀ s < 128, g r s = PT ins W j p r s)
    (hh : ∀ x < 8, (x < n' ∨ (4 ≤ x ∧ x < 4 + b')) ↔ (x = p ∨ x < n ∨ (4 ≤ x ∧ x < 4 + b))) (hp : p < 8) :
    Put3 8 8 128 1 8 128 p 0 0 (pfill ins W j n b p₀) (vec3 fun _ r s => g r s) (pfill ins W j n' b' p₀) := by
  refine ⟨fun x r s => ?_, fun x hx r _ s _ h => ?_⟩
  · have e : p + x.val = p := by omega
    show (if _ then _ else _) = g r.val s.val
    rw [e, Nat.zero_add, Nat.zero_add, if_pos ((hh p hp).2 (.inl rfl)), hg r.val r.isLt s.val s.isLt]
  · show (if _ then _ else _) = (if _ then _ else _)
    have := hh x hx
    by_cases h1 : x < n ∨ (4 ≤ x ∧ x < 4 + b)
    · rw [if_pos h1, if_pos (this.2 (.inr h1))]
    · rw [if_neg h1, if_neg fun h2 => ?_]
      rcases this.1 h2 with h3 | h3
      · omega
      · exact h1 h3

/-- Half of the unit. -/
theorem half_does {h : ℕ} (hh : h < 2) {p₀ : ℕ → ℕ → ℕ → F .f32} :
    Does (Λ := Λ) (nD := nD) (τ := τ) B ins (half B w hw j hj h hh) ((st.put_part (pfill ins w.toNat j 0 (2 * h) p₀)).put_v (vfill ins w.toNat j (8 * h) v₀)) ⟨⟩
      ((st.put_part (pfill ins w.toNat j 0 (2 * h + 2) p₀)).put_v (vfill ins w.toNat j (8 * h + 8) v₀)) := by
  unfold half
  refine .bind (chunk_does hw hj (by omega)) ?_
  beta_reduce
  have e0 := MX_first (ins := ins) (w := w) (j := j) h 0
  have e1 := MX_first (ins := ins) (w := w) (j := j) h 1
  simp only [Nat.mul_zero, Nat.add_zero, Nat.mul_one] at e0 e1
  rw [e0, e1]
  refine .bind (step_does hw hj hh 0 (by omega)) ?_
  refine .bind (step_does hw hj hh 1 (by omega)) ?_
  refine .bind (step_does hw hj hh 2 (by omega)) ?_
  refine .bind (step_does hw hj hh 3 (by omega)) ?_
  refine .bind (step_does hw hj hh 4 (by omega)) ?_
  refine .bind (step_does hw hj hh 5 (by omega)) ?_
  refine .bind (step_does hw hj hh 6 (by omega)) ?_
  beta_reduce
  unfold MX
  rw [cast_1x8x128, cast_1x8x128]
  refine .bind (.wr3 (pfill ins w.toNat j 0 (2 * h + 1) p₀) (acc_part _) (pfill_put (fun r _ s _ => ?_) (fun x _ => by omega) (by omega))) ?_
  · unfold PT
    rw [if_neg (by omega), show (4 + 2 * h - 4) / 2 = h by omega, show (4 + 2 * h) % 2 = 0 by omega]
  refine .wr3 (pfill ins w.toNat j 0 (2 * h + 2) p₀) (acc_part _) (pfill_put (fun r _ s _ => ?_) (fun x _ => by omega) (by omega))
  · unfold PT
    rw [if_neg (by omega), show (5 + 2 * h - 4) / 2 = h by omega, show (5 + 2 * h) % 2 = 1 by omega]

/-- A quarter turned over. -/
theorem turn_does {k h : ℕ} (hk : k < 2) (hh : h < 2) {p₀ : ℕ → ℕ → ℕ → F .f32} {t₀ : ℕ → ℕ → F .f32} (hv : st.v = vfill ins w.toNat j 16 v₀) :
    Does (Λ := Λ) (nD := nD) (τ := τ) B ins (turn B k h hk hh) ((st.put_part (pfill ins w.toNat j (2 * k + h) 4 p₀)).put_vT (vTfill ins w.toNat j (2 * k + h) t₀)) ⟨⟩
      ((st.put_part (pfill ins w.toNat j (2 * k + h + 1) 4 p₀)).put_vT (vTfill ins w.toNat j (2 * k + h + 1) t₀)) := by
  unfold turn
  refine .bind (.rd2 (fun r s => G ins (256 * w.toNat + 128 * h + r) (256 * j + 128 * k + s)) ((acc_v _).see rfl) fun r _ s _ => ?_) ?_
  · show st.v _ _ = _
    rw [hv]; show (if _ then _ else _) = _
    rw [if_pos (by omega)]; congr 1 <;> omega
  beta_reduce
  rw [transpose_vec, shapeCast_id, fold16_vec, cast_1x8x128]
  refine .bind (.wr2 (vTfill ins w.toNat j (2 * k + h + 1) t₀) (acc_vT _) ⟨fun r s => ?_, fun r _ s _ h => ?_⟩) ?_
  · have := r.isLt; have := s.isLt
    show (if _ then _ else _) = G ins _ _
    rw [if_pos (by omega)]; congr 1 <;> first | (show _ = _ + r.val; omega) | (show _ = _ + s.val; omega)
  · show (if _ then _ else _) = (if _ then _ else _)
    split <;> split <;> first | rfl | omega
  refine .wr3 (pfill ins w.toNat j (2 * k + h + 1) 4 p₀) (acc_part _) (pfill_put (n := 2 * k + h) (b := 4) (p₀ := p₀) (fun r _ s _ => ?_) (fun x _ => by omega) (by omega))
  · unfold PT
    rw [if_pos (by omega), show (2 * k + h) % 2 = h by omega, show (2 * k + h) / 2 = k by omega]

theorem plane_does {k : ℕ} (hk : k < 8) {p₀ : ℕ → ℕ → ℕ → F .f32} (hp : st.part = pfill ins w.toNat j 4 4 p₀) :
    Does (Λ := Λ) (nD := nD) (τ := τ) B ins (plane B k hk) st (vec2 fun p l => PT ins w.toNat j p k l) st := by
  unfold plane
  refine .bind (.rd3 (fun p r l => PT ins w.toNat j p (k + r) l) ((acc_part _).see rfl) fun p _ r _ l _ => ?_) ?_
  · rw [hp]; show (if _ then _ else _) = _
    rw [if_pos (by omega)]; congr 1 <;> omega
  beta_reduce
  rw [cast_8x1x128]
  exact Does.pure _ _

/-- The eight greatest magnitudes of each lane. -/
theorem amax_does {p₀ : ℕ → ℕ → ℕ → F .f32} (hp : st.part = pfill ins w.toNat j 4 4 p₀) :
    Does (Λ := Λ) (nD := nD) (τ := τ) B ins (amax B) st (vec2 (AN ins w.toNat j)) st := by
  unfold amax
  refine .bind (plane_does (w := w) (j := j) (by omega) hp) ?_
  refine .bind (plane_does (w := w) (j := j) (by omega) hp) ?_
  refine .bind (plane_does (w := w) (j := j) (by omega) hp) ?_
  refine .bind (plane_does (w := w) (j := j) (by omega) hp) ?_
  refine .bind (plane_does (w := w) (j := j) (by omega) hp) ?_
  refine .bind (plane_does (w := w) (j := j) (by omega) hp) ?_
  refine .bind (plane_does (w := w) (j := j) (by omega) hp) ?_
  refine .bind (plane_does (w := w) (j := j) (by omega) hp) ?_
  beta_reduce
  rw [max_vec, max_vec, max_vec, max_vec, max_vec, max_vec, max_vec]
  exact Does.pure _ _

/-- A run of row scales and a run of column scales. -/
theorem scales_does {k h : ℕ} (hk : k < 2) (hh : h < 2) (s s') {s₀ : ℕ → ℕ → F .f32} {t₀ : ℕ → ℕ → ℕ → F .f32} :
    Does (Λ := Λ) (nD := nD) (τ := τ) B ins (scales B w hw j hj (vec2 (AN ins w.toNat j)) k h hk hh s s')
      ((st.put_scales (sfill ins w.toNat j (2 * k + h) s₀)).put_stage (tfill ins w.toNat j (2 * k + h) t₀)) ⟨⟩
      ((st.put_scales (sfill ins w.toNat j (2 * k + h + 1) s₀)).put_stage (tfill ins w.toNat j (2 * k + h + 1) t₀)) := by
  have e := rowOff_eq hw (show 128 * h < 1024 by omega)
  have eb : blk w = w.toNat := rfl
  unfold scales
  rw [scaleOf_vec]
  unfold rowOf
  rw [cast_row, cast_row3]
  refine .bind (.wr2 (sfill ins w.toNat j (2 * k + h + 1) s₀) (acc_scales _) ⟨fun r s => ?_, fun r _ s _ h => ?_⟩)
    (.wr3 (tfill ins w.toNat j (2 * k + h + 1) t₀) (acc_stage _) ⟨fun x r s => ?_, fun x _ r _ s _ h => ?_⟩)
  · have := r.isLt; have := s.isLt
    show (if _ then _ else _) = sc (AN ins w.toNat j (2 * k + h + r.val) s.val)
    rw [show 2 * k + h + r.val = 2 * k + h by omega, AN_row ins hk hh, e, if_pos (by omega)]
    congr 2; omega
  · rw [e] at h
    show (if _ then _ else _) = (if _ then _ else _)
    split <;> split <;> first | rfl | omega
  · have := r.isLt; have := s.isLt; have := x.isLt
    show (if _ then _ else _) = sc (AN ins w.toNat j (4 + 2 * h + k + r.val) s.val)
    rw [show 4 + 2 * h + k + r.val = 4 + 2 * h + k by omega, AN_col ins hk hh, eb, if_pos (by omega)]
    congr 2; omega
  · rw [eb] at h
    show (if _ then _ else _) = (if _ then _ else _)
    split <;> split <;> first | rfl | omega

/-- 32 rows of row codes. -/
theorem put_does {h r : ℕ} (hh : h < 2) (hr : r ≤ 96) (hr4 s) {c₀ : ℕ → ℕ → F .fp8e4m3} (hv : st.v = vfill ins w.toNat j 16 v₀) :
    Does (Λ := Λ) (nD := nD) (τ := τ) B ins (put B w hw j hj (vec2 (SP ins w.toNat j h)) h r hh hr hr4 s)
      (st.put_codes (cfill ins w.toNat j (128 * h + r) c₀)) ⟨⟩ (st.put_codes (cfill ins w.toNat j (128 * h + r + 32) c₀)) := by
  have e := rowOff_eq hw (show 128 * h + r < 1024 by omega)
  unfold put
  refine .bind (.rd2 (fun x y => G ins (256 * w.toNat + (128 * h + r + x)) (256 * j + y)) ((acc_v _).see rfl) fun x _ y _ => ?_) ?_
  · show st.v _ _ = _
    rw [hv]; show (if _ then _ else _) = _
    rw [if_pos (by omega)]; congr 1; omega
  beta_reduce
  rw [code_vec]
  refine .wr8 (cfill ins w.toNat j (128 * h + r + 32) c₀) (acc_codes _) ⟨fun x y => ?_, fun x _ y _ h => ?_⟩
  · have := x.isLt; have := y.isLt
    show (if _ then _ else _) = cd (G ins (256 * w.toNat + (128 * h + r + x.val)) (256 * j + y.val)) (SP ins w.toNat j h (r + x.val) y.val)
    rw [e, if_pos (by omega)]; unfold OC
    rw [show (256 * w.toNat + (128 * h + r) + x.val) / 256 = w.toNat by omega, show (256 * j + y.val) / 256 = j by omega,
      show (256 * w.toNat + (128 * h + r) + x.val) / 128 % 2 = h by omega, show (256 * w.toNat + (128 * h + r) + x.val) % 128 = r + x.val by omega,
      show (256 * j + y.val) % 256 = y.val by omega, Nat.add_assoc]
  · rw [e] at h
    show (if _ then _ else _) = (if _ then _ else _)
    split <;> split <;> first | rfl | omega

/-- 32 rows of column codes. -/
theorem putT_does {k r : ℕ} (hk : k < 2) (hr : r ≤ 96) (hr4 s) {c₀ : ℕ → ℕ → F .fp8e4m3} {t₀ : ℕ → ℕ → F .f32} (hv : st.vT = vTfill ins w.toNat j 4 t₀) :
    Does (Λ := Λ) (nD := nD) (τ := τ) B ins (putT B w hw j hj (vec2 (SP ins w.toNat j (2 + k))) k r hk hr hr4 s)
      (st.put_codesT (dfill ins w.toNat j (128 * k + r) c₀)) ⟨⟩ (st.put_codesT (dfill ins w.toNat j (128 * k + r + 32) c₀)) := by
  have e := rowBase_eq hw
  unfold putT
  refine .bind (.rd2 (fun x y => G ins (256 * w.toNat + y) (256 * j + (128 * k + r + x))) ((acc_vT _).see rfl) fun x _ y _ => ?_) ?_
  · show st.vT _ _ = _
    rw [hv]; show (if _ then _ else _) = _
    rw [if_pos (by omega)]; congr 1; omega
  beta_reduce
  rw [code_vec]
  refine .wr8 (dfill ins w.toNat j (128 * k + r + 32) c₀) (acc_codesT _) ⟨fun x y => ?_, fun x _ y _ h => ?_⟩
  · have := x.isLt; have := y.isLt
    show (if _ then _ else _) = cd (G ins (256 * w.toNat + y.val) (256 * j + (128 * k + r + x.val))) (SP ins w.toNat j (2 + k) (r + x.val) y.val)
    rw [e, if_pos (by omega)]; unfold OT
    rw [show (256 * j + 128 * k + r + x.val) / 256 = j by omega, show (256 * w.toNat + y.val) / 256 = w.toNat by omega,
      show (256 * j + 128 * k + r + x.val) / 128 % 2 = k by omega, show (256 * j + 128 * k + r + x.val) % 128 = r + x.val by omega,
      show (256 * w.toNat + y.val) % 256 = y.val by omega, show 256 * j + 128 * k + r + x.val = 256 * j + (128 * k + r + x.val) by omega]
  · rw [e] at h
    show (if _ then _ else _) = (if _ then _ else _)
    split <;> split <;> first | rfl | omega

theorem sel_does {s : ℕ} (hs : s < 4) : Does (Λ := Λ) (nD := nD) (τ := τ) B ins (selPlane B s hs) st (selv ins s) st := by
  unfold selPlane selv
  exact .rd3 _ (see_sel _) fun x _ r _ c _ => by rw [Nat.zero_add, Nat.zero_add]

/-- 128 rows of row codes. -/
theorem rowCodes_does {h : ℕ} (hh : h < 2) {c₀ : ℕ → ℕ → F .fp8e4m3} (hv : st.v = vfill ins w.toNat j 16 v₀) :
    Does (Λ := Λ) (nD := nD) (τ := τ) B ins (rowCodes B w hw j hj (vec2 (LH ins w.toNat j)) h hh)
      (st.put_codes (cfill ins w.toNat j (128 * h) c₀)) ⟨⟩ (st.put_codes (cfill ins w.toNat j (128 * h + 128) c₀)) := by
  unfold rowCodes
  refine .bind (sel_does (by omega)) ?_
  rw [spread_vec]
  refine .bind (put_does hw hj hh (by omega) _ _ hv) ?_
  refine .bind (put_does hw hj hh (by omega) _ _ hv) ?_
  refine .bind (put_does hw hj hh (by omega) _ _ hv) ?_
  exact put_does hw hj hh (by omega) _ _ hv

/-- 128 rows of column codes. -/
theorem colCodes_does {k : ℕ} (hk : k < 2) {c₀ : ℕ → ℕ → F .fp8e4m3} {t₀ : ℕ → ℕ → F .f32} (hv : st.vT = vTfill ins w.toNat j 4 t₀) :
    Does (Λ := Λ) (nD := nD) (τ := τ) B ins (colCodes B w hw j hj (vec2 (LH ins w.toNat j)) k hk)
      (st.put_codesT (dfill ins w.toNat j (128 * k) c₀)) ⟨⟩ (st.put_codesT (dfill ins w.toNat j (128 * k + 128) c₀)) := by
  unfold colCodes
  refine .bind (sel_does (by omega)) ?_
  rw [spread_vec]
  refine .bind (putT_does hw hj hk (by omega) _ _ hv) ?_
  refine .bind (putT_does hw hj hk (by omega) _ _ hv) ?_
  refine .bind (putT_does hw hj hk (by omega) _ _ hv) ?_
  exact putT_does hw hj hk (by omega) _ _ hv

end

end Dswiglu
-- ==== Proof.Point.lean ====
/- What the units of one token block do together, and so what a grid point leaves in its blocks. -/
module

public import proofs.«01_k».proof.Proof.Spec

@[expose] public section

noncomputable section

namespace Dswiglu

open Idealize.ShloMosaic Idealize.SL.Sem

variable {F : FTy → Type} [FloatOps F] {nD : Nat} {τ : Topo} {sig : RefSig} {Λ : Labels}
variable {B : Bufs sig} (ins : Ins F)

theorem vfill_zero (W j : ℕ) (v) : vfill ins W j 0 v = v := by funext r c; simp [vfill]
theorem vTfill_zero (W j : ℕ) (v) : vTfill ins W j 0 v = v := by funext r c; simp [vTfill]
theorem pfill_zero (W j : ℕ) (v) : pfill ins W j 0 0 v = v := by
  funext p r c; unfold pfill; rw [if_neg (by omega)]
theorem sfill_zero (W j : ℕ) (v) : sfill ins W j 0 v = v := by funext r c; simp [sfill]
theorem tfill_zero (W j : ℕ) (v) : tfill ins W j 0 v = v := by funext p r c; simp [tfill]
theorem cfill_zero (W j : ℕ) (v) : cfill ins W j 0 v = v := by
  funext r c; unfold cfill; rw [if_neg (by omega)]
theorem dfill_zero (W j : ℕ) (v) : dfill ins W j 0 v = v := by
  funext r c; unfold dfill; rw [if_neg (by omega)]

/-- The contents after unit `W`, `j`. -/
def fin (W j : ℕ) (st : St F) : St F where
  codes := cfill ins W j 256 st.codes
  scales := sfill ins W j 4 st.scales
  codesT := dfill ins W j 256 st.codesT
  scalesT := st.scalesT
  v := vfill ins W j 16 st.v
  vT := vTfill ins W j 4 st.vT
  part := pfill ins W j 4 4 st.part
  lhs := lfill ins W j st.lhs
  stage := tfill ins W j 4 st.stage

/-- The lanes of the left operand that no unit writes are zero. -/
def Zero (st : St F) : Prop := ∀ l < 128, ∀ p < 128, 8 ≤ p → st.lhs l p = FloatOps.ofBits .bf16 0x0000#16

theorem Does.from {α : Type} {P : Prog (TpuEff nD τ sig (Elt F) Λ .tc) α} {st st₁ st' : St F} {a : α} (h : Does B ins P st₁ a st')
    (e : st = st₁) : Does B ins P st a st' := e ▸ h

variable {ins}

theorem unit_does {w : BitVec 32} (hw : w.toNat < 4) {j : ℕ} (hj : j < 10) {st st' : St F} (hz : Zero st)
    {K : Prog (TpuEff nD τ sig (Elt F) Λ .tc) PUnit} (hK : Does B ins K (fin ins w.toNat j st) ⟨⟩ st') :
    Does B ins (unit B w hw j hj K) st ⟨⟩ st' := by
  unfold unit
  refine Does.from ins ?_ (show st = (st.put_part (pfill ins w.toNat j 0 (2 * 0) st.part)).put_v (vfill ins w.toNat j (8 * 0) st.v) by
    simp only [Nat.mul_zero, Nat.add_zero, vfill_zero, pfill_zero]; rfl)
  refine .bind (half_does hw hj (by omega)) ?_
  refine .bind (half_does hw hj (by omega)) ?_
  generalize hS : (st.put_part (pfill ins w.toNat j 0 (2 * 1 + 2) st.part)).put_v (vfill ins w.toNat j (8 * 1 + 8) st.v) = S
  have hv : S.v = vfill ins w.toNat j 16 st.v := by rw [← hS]; rfl
  refine Does.from ins ?_ (show S = (S.put_part (pfill ins w.toNat j (2 * 0 + 0) 4 st.part)).put_vT (vTfill ins w.toNat j (2 * 0 + 0) st.vT) by
    simp only [Nat.mul_zero, Nat.add_zero, vTfill_zero]; rw [← hS]; rfl)
  refine .bind (turn_does (by omega) (by omega) hv) ?_
  refine .bind (turn_does (by omega) (by omega) hv) ?_
  refine .bind (turn_does (by omega) (by omega) hv) ?_
  refine .bind (turn_does (by omega) (by omega) hv) ?_
  generalize hS2 : (S.put_part (pfill ins w.toNat j (2 * 1 + 1 + 1) 4 st.part)).put_vT (vTfill ins w.toNat j (2 * 1 + 1 + 1) st.vT) = S2
  have hp : S2.part = pfill ins w.toNat j 4 4 st.part := by rw [← hS2]; rfl
  refine .bind (amax_does hp) ?_
  beta_reduce
  refine Does.from ins ?_ (show S2 = (S2.put_scales (sfill ins w.toNat j (2 * 0 + 0) st.scales)).put_stage (tfill ins w.toNat j (2 * 0 + 0) st.stage) by
    simp only [Nat.mul_zero, Nat.add_zero, sfill_zero, tfill_zero]; rw [← hS2, ← hS]; rfl)
  refine .bind (scales_does hw hj (by omega) (by omega) _ _) ?_
  refine .bind (scales_does hw hj (by omega) (by omega) _ _) ?_
  refine .bind (scales_does hw hj (by omega) (by omega) _ _) ?_
  refine .bind (scales_does hw hj (by omega) (by omega) _ _) ?_
  generalize hS3 : (S2.put_scales (sfill ins w.toNat j (2 * 1 + 1 + 1) st.scales)).put_stage (tfill ins w.toNat j (2 * 1 + 1 + 1) st.stage) = S3
  have hl : S3.lhs = st.lhs := by rw [← hS3, ← hS2, ← hS]; rfl
  rw [invOf_vec, transpose_vec, shapeCast_id]
  refine .bind (.wr16 (lfill ins w.toNat j st.lhs) (acc_lhs _) ⟨fun r s => ?_, fun r _ s _ h => ?_⟩) ?_
  · have := s.isLt
    rw [Nat.zero_add, Nat.zero_add]
    show (if _ then (if _ then _ else _) else _) = FloatOps.truncf .bf16 _ (iv (AN ins w.toNat j s.val r.val))
    rw [if_pos (by omega), if_pos (by omega)]
  · rw [hl]; show (if _ then _ else _) = _
    rw [if_neg (by omega)]
  refine .bind (.rd2 (LH ins w.toNat j) ((acc_lhs _).see rfl) fun l _ p _ => ?_) ?_
  · rw [Nat.zero_add, Nat.zero_add]
    show (if _ then _ else _) = _
    split
    · rfl
    · unfold LH; rw [if_neg (by omega)]; exact hz l (by omega) p (by omega) (by omega)
  beta_reduce
  generalize hS4 : S3.put_lhs (lfill ins w.toNat j st.lhs) = S4
  have hv : S4.v = vfill ins w.toNat j 16 st.v := by rw [← hS4, ← hS3, ← hS2]; exact hv
  have ht : S4.vT = vTfill ins w.toNat j 4 st.vT := by rw [← hS4, ← hS3, ← hS2]; rfl
  refine Does.from ins ?_ (show S4 = S4.put_codes (cfill ins w.toNat j (128 * 0) st.codes) by
    simp only [Nat.mul_zero, Nat.add_zero, cfill_zero]; rw [← hS4, ← hS3, ← hS2, ← hS]; rfl)
  refine .bind (rowCodes_does hw hj (by omega) hv) ?_
  refine .bind (rowCodes_does hw hj (by omega) hv) ?_
  generalize hS5 : S4.put_codes (cfill ins w.toNat j (128 * 1 + 128) st.codes) = S5
  have ht : S5.vT = vTfill ins w.toNat j 4 st.vT := by rw [← hS5]; exact ht
  refine Does.from ins ?_ (show S5 = S5.put_codesT (dfill ins w.toNat j (128 * 0) st.codesT) by
    simp only [Nat.mul_zero, Nat.add_zero, dfill_zero]; rw [← hS5, ← hS4, ← hS3, ← hS2, ← hS]; rfl)
  refine .bind (colCodes_does hw hj (by omega) ht) ?_
  refine .bind (colCodes_does hw hj (by omega) ht) ?_
  refine hK.from ins ?_
  rw [← hS5, ← hS4, ← hS3, ← hS2, ← hS]
  rfl

/-- Everything the units before `W`, `j` write is written. -/
def Good (ins : Ins F) (W j : ℕ) (st : St F) : Prop :=
  ∀ R < 1024, ∀ C < 2560, (R / 256 < W ∨ (R / 256 = W ∧ C / 256 < j)) →
    st.codes R C = OC ins R C ∧ st.codesT C R = OT ins C R ∧ st.scales (C / 128) R = sc (RM ins R (C / 128))
      ∧ st.stage (R / 256) (R / 128 % 2) C = sc (CM ins (R / 128) C)

theorem fin_good {W j : ℕ} {st : St F} (h : Good ins W j st) (hz : Zero st) : Good ins W (j + 1) (fin ins W j st) ∧ Zero (fin ins W j st) := by
  refine ⟨fun R hR C hC hh => ?_, fun l hl p hp h8 => ?_⟩
  · by_cases hn : R / 256 = W ∧ C / 256 = j
    · refine ⟨if_pos (by omega), if_pos (by omega), if_pos (by omega), ?_⟩
      refine (if_pos (by omega)).trans ?_
      congr 2; omega
    · have := h R hR C hC (by omega)
      rw [← this.1, ← this.2.1, ← this.2.2.1, ← this.2.2.2]
      exact ⟨if_neg (by omega), if_neg (by omega), if_neg (by omega), if_neg (by omega)⟩
  · exact (if_neg (by omega)).trans (hz l hl p hp h8)

theorem units_does {w : BitVec 32} (hw : w.toNat < 4) {st : St F} (hz : Zero st) (hg : Good ins w.toNat 0 st) :
    ∃ st', Does (Λ := Λ) (nD := nD) (τ := τ) B ins (units B w hw) st ⟨⟩ st' ∧ Good ins (w.toNat + 1) 0 st' ∧ Zero st' := by
  have step : ∀ j (st : St F), Good ins w.toNat j st ∧ Zero st → Good ins w.toNat (j + 1) (fin ins w.toNat j st) ∧ Zero (fin ins w.toNat j st) :=
    fun j st h => fin_good h.1 h.2
  have h0 := (⟨hg, hz⟩ : _ ∧ _)
  have h1 := step _ _ h0
  have h2 := step _ _ h1
  have h3 := step _ _ h2
  have h4 := step _ _ h3
  have h5 := step _ _ h4
  have h6 := step _ _ h5
  have h7 := step _ _ h6
  have h8 := step _ _ h7
  have h9 := step _ _ h8
  have h10 := step _ _ h9
  refine ⟨_, unit_does hw _ h0.2 (unit_does hw _ h1.2 (unit_does hw _ h2.2 (unit_does hw _ h3.2 (unit_does hw _ h4.2 (unit_does hw _ h5.2
    (unit_does hw _ h6.2 (unit_does hw _ h7.2 (unit_does hw _ h8.2 (unit_does hw _ h9.2 (.pure _ _)))))))))), ?_, h10.2⟩
  intro R hR C hC hh
  exact h10.1 R hR C hC (by omega)

end Dswiglu
-- ==== Proof.Whole.lean ====
/- What is around the units of a grid point: the left operand cleared at the first point, the loop over the token
   blocks, and the column scales copied out of their staging buffer. -/
module

public import proofs.«01_k».proof.Proof.Point
public import Idealize.ShloMosaic.Lib.Scf

@[expose] public section

noncomputable section

namespace Dswiglu

open Idealize.ShloMosaic Idealize.SL.Sem

variable {F : FTy → Type} [FloatOps F] {nD : Nat} {τ : Topo} {sig : RefSig} {Λ : Labels}
variable {B : Bufs sig} {ins : Ins F}

abbrev S1x2x2560 : Shape := ⟨3, ![1, 2, 2560]⟩
abbrev S2x2560 : Shape := ⟨2, ![2, 2560]⟩

/-- Some trips of a loop over one buffer state, by an invariant of the number of trips done. -/
theorem Does.trips {n : ℕ} {body : Fin n → PUnit → Prog (TpuEff nD τ sig (Elt F) Λ .tc) PUnit} {I : ℕ → St F → Prop}
    (step : ∀ (k : Fin n) st, I k.val st → ∃ st', Does B ins (body k ⟨⟩) st ⟨⟩ st' ∧ I (k.val + 1) st') :
    ∀ (d k : ℕ), k + d = n → ∀ st, I k st → ∃ st', Does B ins (Scf.forFrom body ((List.finRange n).drop k) ⟨⟩) st ⟨⟩ st' ∧ I n st'
  | 0, k, hk, st, h => by
    obtain rfl : k = n := by omega
    rw [List.drop_eq_nil_of_le (by simp), Scf.forFrom_nil]
    exact ⟨st, Does.pure _ _, h⟩
  | d + 1, k, hk, st, h => by
    have hlt : k < n := by omega
    rw [List.drop_eq_getElem_cons (by simpa using hlt), Scf.forFrom_cons]
    obtain ⟨st₁, h₁, i₁⟩ := step ⟨k, hlt⟩ st h
    obtain ⟨st₂, h₂, i₂⟩ := Does.trips step d (k + 1) (by omega) st₁ i₁
    refine ⟨st₂, .bind (st' := st₁) (a := ⟨⟩) ?_ h₂, i₂⟩
    simpa using h₁

/-- The loop, by an invariant of the number of trips done. -/
theorem Does.loop {w : ℕ} {lb ub s : BitVec w} {hok : Scf.OK lb ub s}
    {body : Fin (Scf.trips lb ub s) → PUnit → Prog (TpuEff nD τ sig (Elt F) Λ .tc) PUnit} {I : ℕ → St F → Prop}
    (step : ∀ (k : Fin (Scf.trips lb ub s)) st, I k.val st → ∃ st', Does B ins (body k ⟨⟩) st ⟨⟩ st' ∧ I (k.val + 1) st') {st : St F} (h : I 0 st) :
    ∃ st', Does B ins (Scf.for lb ub s hok ⟨⟩ body) st ⟨⟩ st' ∧ I (Scf.trips lb ub s) st' := by
  rw [Scf.for_eq]
  have := Does.trips step _ 0 (Nat.zero_add _) st h
  rwa [List.drop_zero] at this

/-- The left operand cleared. -/
def clear (B : Bufs sig) (hp : (Rect.unit (s := S128x128) ![0, 0] S128x128.size (inb2 (by decide) (by decide))).PackedRows (EltTy.packing .bf16)) (v : Vec F S128x128 .bf16) : Prog (TpuEff nD τ sig (Elt F) Λ .tc) PUnit :=
  wr16 B.lhs B.hlhs ![0, 0] S128x128.size (inb2 (by decide) (by decide)) (by decide) hp v

theorem clear_does (hp) {v : Vec F S128x128 .bf16} (hv : ∀ i, v i = FloatOps.ofBits .bf16 0x0000#16) (st : St F) :
    ∃ st', Does (Λ := Λ) (nD := nD) (τ := τ) B ins (clear B hp v) st ⟨⟩ st' ∧ Zero st' := by
  refine ⟨_, .wr16 (fun _ _ => FloatOps.ofBits .bf16 0x0000#16) (acc_lhs st) ⟨fun r s => (hv _).symm, fun r hr s hs h => ?_⟩, fun l _ p _ _ => rfl⟩
  exact absurd ⟨Nat.zero_le _, by omega, Nat.zero_le _, by omega⟩ h

/-- Two rows of column scales copied out of the staging buffer. -/
def copy (B : Bufs sig) (k : ℕ) (hk : k < 4) (h : 0 < S1x2x2560.numel) (h' : 0 < S2x2560.numel) (h'' : S1x2x2560.ShapeCasts S2x2560) : Prog (TpuEff nD τ sig (Elt F) Λ .tc) PUnit :=
  rd B.stage ![k, 0, 0] S1x2x2560.size (inb3 (by omega) (by decide) (by decide)) h >>= fun v : Vec F S1x2x2560 .f32 =>
    wr B.scalesT ![2 * k, 0] S2x2560.size (inb2 (by omega) (by decide)) h' (shapeCast S2x2560 v h'' : Vec F S2x2560 .f32)

/-- The rows before `k` of the column scales are copied. -/
def tcopy (k : ℕ) (st : St F) : ℕ → ℕ → Elt F .f32 := fun r c => if r < k then st.stage (r / 2) (r % 2) c else st.scalesT r c

theorem cast_pair {α : Type} (g : ℕ → ℕ → ℕ → α) (h) : shapeCast S2x2560 (vec3 g : S1x2x2560.Idx → α) h = vec2 fun r s => g 0 r s := by
  funext i; rw [eq_ix2 i]; pointwise; rfl

theorem copy_does {k : ℕ} (hk : k < 4) (h h' h'') (st : St F) :
    Does (Λ := Λ) (nD := nD) (τ := τ) B ins (copy B k hk h h' h'') (st.put_scalesT (tcopy (2 * k) st)) ⟨⟩ (st.put_scalesT (tcopy (2 * k + 2) st)) := by
  unfold copy
  refine .bind (.rd3 (fun _ r s => st.stage k r s) ((acc_stage _).see rfl) fun x hx r hr s hs => ?_) ?_
  · show st.stage (k + x) (0 + r) (0 + s) = _
    rw [Nat.zero_add, Nat.zero_add, show k + x = k by omega]
  · beta_reduce
    rw [cast_pair]
    refine .wr2 (tcopy (2 * k + 2) st) (acc_scalesT _) ⟨fun r s => ?_, fun r hr s hs hh => ?_⟩
    · have := r.isLt; have := s.isLt
      show (if _ then _ else _) = st.stage k r.val s.val
      rw [if_pos (by omega)]
      congr 1 <;> omega
    · show (if _ then _ else _) = (if _ then _ else _)
      split <;> split <;> first | rfl | omega

/-- What a grid point leaves in the result blocks. -/
def Done (ins : Ins F) (st : St F) : Prop :=
  (∀ R < 1024, ∀ C < 2560, st.codes R C = OC ins R C) ∧ (∀ C < 2560, ∀ R < 1024, st.codesT C R = OT ins C R)
    ∧ (∀ g < 20, ∀ R < 1024, st.scales g R = sc (RM ins R g)) ∧ (∀ g < 8, ∀ C < 2560, st.scalesT g C = sc (CM ins g C))

theorem done_of_good {st : St F} (h : Good ins 4 0 st) : Done ins (st.put_scalesT (tcopy 8 st)) := by
  refine ⟨fun R hR C hC => (h R hR C hC (by omega)).1, fun C hC R hR => (h R hR C hC (by omega)).2.1, fun g hg R hR => ?_, fun g hg C hC => ?_⟩
  · have := (h R hR (128 * g) (by omega) (by omega)).2.2.1
    rwa [show 128 * g / 128 = g by omega] at this
  · have := (h (128 * g) (by omega) C hC (by omega)).2.2.2
    rw [show 128 * g / 128 = g by omega, show 128 * g / 256 = g / 2 by omega] at this
    exact (if_pos (by omega)).trans this

theorem tcopy_zero (st : St F) : st.put_scalesT (tcopy 0 st) = st := by
  have : tcopy 0 st = st.scalesT := by funext r c; exact if_neg (by omega)
  rw [this]; rfl

/-- The four copies. -/
def copies (B : Bufs sig) (h : 0 < S1x2x2560.numel) (h' : 0 < S2x2560.numel) (h'' : S1x2x2560.ShapeCasts S2x2560) : Prog (TpuEff nD τ sig (Elt F) Λ .tc) PUnit :=
  copy B 0 (by decide) h h' h'' >>= fun _ => copy B 1 (by decide) h h' h'' >>= fun _ => copy B 2 (by decide) h h' h'' >>= fun _ =>
    copy B 3 (by decide) h h' h'' >>= fun _ => pure ⟨⟩

theorem copies_does (h h' h'') (st : St F) : Does (Λ := Λ) (nD := nD) (τ := τ) B ins (copies B h h' h'') st ⟨⟩ (st.put_scalesT (tcopy 8 st)) := by
  unfold copies
  refine Does.from ins ?_ (tcopy_zero st).symm
  exact .bind (copy_does _ _ _ _ st) (.bind (copy_does _ _ _ _ st) (.bind (copy_does _ _ _ _ st) (.bind (copy_does _ _ _ _ st) (.pure _ _))))

/-- A whole grid point: the left operand cleared or clear already, four trips of ten units, the copies. -/
theorem point_does {w : ℕ} {lb ub s : BitVec w} {hok : Scf.OK lb ub s} (hn : Scf.trips lb ub s = 4)
    {body : Fin (Scf.trips lb ub s) → PUnit → Prog (TpuEff nD τ sig (Elt F) Λ .tc) PUnit} (wd : Fin (Scf.trips lb ub s) → BitVec 32)
    (hwd : ∀ k, (wd k).toNat = k.val) (hlt : ∀ k, (wd k).toNat < 4) (hb : ∀ k, body k ⟨⟩ = units B (wd k) (hlt k))
    (h h' h'') {P : Prog (TpuEff nD τ sig (Elt F) Λ .tc) PUnit} {st st₁ : St F} (hP : Does B ins P st ⟨⟩ st₁) (hz : Zero st₁) :
    ∃ st', Does B ins (P >>= fun _ => Scf.for lb ub s hok ⟨⟩ body >>= fun _ => copies B h h' h'') st ⟨⟩ st' ∧ Done ins st' ∧ Zero st' := by
  obtain ⟨st₂, h₂, g₂, z₂⟩ := Does.loop (B := B) (ins := ins) (hok := hok) (body := body) (I := fun k st => Good ins k 0 st ∧ Zero st) (fun k st i => by
    rw [hb]
    have e := hwd k
    obtain ⟨st', d, g, z⟩ := units_does (B := B) (nD := nD) (τ := τ) (Λ := Λ) (hlt k) i.2 (by rw [e]; exact i.1)
    rw [e] at g
    exact ⟨st', d, g, z⟩) (st := st₁) ⟨fun R _ C _ hh => by omega, hz⟩
  rw [hn] at g₂
  exact ⟨_, .bind hP (.bind h₂ (copies_does h h' h'' st₂)), done_of_good g₂, z₂⟩

end Dswiglu
-- ==== Proof.Hold.lean ====
/- Arrays as functions of natural coordinates, and buffers held at some contents. -/
module

public import proofs.«01_k».proof.Proof.Whole
public import Idealize.ShloMosaic.Lib.Pipeline.Launch

@[expose] public section

noncomputable section

namespace Dswiglu

open Idealize.ShloMosaic Idealize.ShloMosaic.Tactic
open Idealize.SL Idealize.SL.RA Idealize.SL.BI
open scoped Idealize.SL.BI
open Idealize.SL.BI.BIBase Idealize.SL.BI.Laws Idealize.SL.ProofMode Idealize.SL.Sem

/-- A matrix read at two numbers, each taken around the extent. -/
def nat2 {α : Type} {n m : ℕ} [NeZero n] [NeZero m] (X : (⟨2, ![n, m]⟩ : Shape).Idx → α) : ℕ → ℕ → α :=
  fun r c => X (ix2 (Fin.ofNat n r) (Fin.ofNat m c))

/-- The same in three coordinates. -/
def nat3 {α : Type} {n m l : ℕ} [NeZero n] [NeZero m] [NeZero l] (X : (⟨3, ![n, m, l]⟩ : Shape).Idx → α) : ℕ → ℕ → ℕ → α :=
  fun p r c => X (ix3 (Fin.ofNat n p) (Fin.ofNat m r) (Fin.ofNat l c))

theorem nat2_apply {α : Type} {n m : ℕ} [NeZero n] [NeZero m] (X : (⟨2, ![n, m]⟩ : Shape).Idx → α) {r c : ℕ} (hr : r < n) (hc : c < m) :
    nat2 X r c = X (ix2 ⟨r, hr⟩ ⟨c, hc⟩) := by
  unfold nat2
  congr 2 <;> exact Fin.ext (Nat.mod_eq_of_lt (by assumption))

theorem nat3_apply {α : Type} {n m l : ℕ} [NeZero n] [NeZero m] [NeZero l] (X : (⟨3, ![n, m, l]⟩ : Shape).Idx → α) {p r c : ℕ}
    (hp : p < n) (hr : r < m) (hc : c < l) : nat3 X p r c = X (ix3 ⟨p, hp⟩ ⟨r, hr⟩ ⟨c, hc⟩) := by
  unfold nat3
  congr 2 <;> exact Fin.ext (Nat.mod_eq_of_lt (by assumption))

theorem vec2_nat2 {α : Type} {n m : ℕ} [NeZero n] [NeZero m] (X : (⟨2, ![n, m]⟩ : Shape).Idx → α) : vec2 (nat2 X) = X := by
  funext i
  exact (nat2_apply X (i 0).isLt (i 1).isLt).trans (congrArg X (eq_ix2 i).symm)

theorem vec3_nat3 {α : Type} {n m l : ℕ} [NeZero n] [NeZero m] [NeZero l] (X : (⟨3, ![n, m, l]⟩ : Shape).Idx → α) : vec3 (nat3 X) = X := by
  funext i
  exact (nat3_apply X (i 0).isLt (i 1).isLt (i 2).isLt).trans (congrArg X (eq_ix3 i).symm)

section

variable {F : FTy → Type} [FloatOps F] {nD : Nat} {τ : Topo} {sig : RefSig} {Ix : Type} [DecidableEq Ix]
variable {Name : Type} [DecidableEq Name] {U : Type} [URA U] {Lvl : Type}
local notation "𝕄" => MT nD τ sig Ix (Elt F) Name U Lvl

variable (c : Dev nD)

/-- A whole buffer at some contents, as a matrix. -/
theorem hold2 {sp : Space} {e : EltTy} {n m : ℕ} [NeZero n] [NeZero m] {M : Memref sig .tc sp ⟨2, ![n, m]⟩ e} (hw : M.IsWhole) :
    (iprop(∃ f : Buf (Elt F) (M.view.loc (c.tc : Thread nD τ)), (M.view.loc (c.tc : Thread nD τ)) ↦{fullShare} f) : sProp 𝕄)
      ⊢ iprop(∃ g : ℕ → ℕ → Elt F e, own1 c M (vec2 g)) := by
  rw [← hw.exists_owns_eq (Name := Name) (U := U) (Lvl := Lvl) (Ix := Ix) (c := (c.tc : Thread nD τ)) fullShare]
  iintro ⟨%X, H⟩
  iexists nat2 X
  rw [vec2_nat2]
  iexact H

theorem hold3 {sp : Space} {e : EltTy} {n m l : ℕ} [NeZero n] [NeZero m] [NeZero l] {M : Memref sig .tc sp ⟨3, ![n, m, l]⟩ e} (hw : M.IsWhole) :
    (iprop(∃ f : Buf (Elt F) (M.view.loc (c.tc : Thread nD τ)), (M.view.loc (c.tc : Thread nD τ)) ↦{fullShare} f) : sProp 𝕄)
      ⊢ iprop(∃ g : ℕ → ℕ → ℕ → Elt F e, own1 c M (vec3 g)) := by
  rw [← hw.exists_owns_eq (Name := Name) (U := U) (Lvl := Lvl) (Ix := Ix) (c := (c.tc : Thread nD τ)) fullShare]
  iintro ⟨%X, H⟩
  iexists nat3 X
  rw [vec3_nat3]
  iexact H

/-- A whole buffer at any contents is its buffer at some contents. -/
theorem drop {sp : Space} {sh : Shape} {e : EltTy} {M : Memref sig .tc sp sh e} (hw : M.IsWhole) (X : sh.Idx → Elt F e) :
    (own1 c M X : sProp 𝕄)
      ⊢ iprop(∃ f : Buf (Elt F) (M.view.loc (c.tc : Thread nD τ)), (M.view.loc (c.tc : Thread nD τ)) ↦{fullShare} f) := by
  rw [← hw.exists_owns_eq (Name := Name) (U := U) (Lvl := Lvl) (Ix := Ix) (c := (c.tc : Thread nD τ)) fullShare]
  iintro H
  iexists X
  iexact H

end

end Dswiglu
-- ==== Proof.BodyKernel.lean ====
/- The printed body of a grid point does what Proof/Whole.lean says. -/
module

public import proofs.«01_k».proof.Proof.CutKernel
public import proofs.«01_k».proof.Proof.Hold

@[expose] public section

noncomputable section

namespace Cert.Kernel

open Idealize.ShloMosaic Idealize.SL.Sem Cert.Kernel.Gen

variable {F : FTy → Type} [FloatOps F]

theorem trips_eq : k0_t1_loop.trips = 4 := by decide +kernel

theorem iv_toNat (t : Fin k0_t1_loop.trips) : (Scf.iv 0#32 1#32 t).toNat = t.val := by
  revert t; decide +kernel

theorem pay1 (i) : k0_pay1 (F := F) i = FloatOps.ofBits .bf16 0x0000#16 := rfl

set_option maxRecDepth 100000 in
set_option maxHeartbeats 1000000 in
/-- The body of a grid point, from a left operand that is clear unless the point is the first. -/
theorem body_does (ins : Dswiglu.Ins F) (i : grid0.Coords) (arg1 : Memref sig .tc .vmem S4x128x256 .bf16) (harg1 : arg1.IsWhole) (arg2 : Memref sig .tc .vmem S1024x2560 .bf16) (harg2 : arg2.IsWhole) (arg3 : Memref sig .tc .vmem S1024x1280 .bf16) (harg3 : arg3.IsWhole) (arg4 : Memref sig .tc .vmem S1024x2560 .fp8e4m3) (harg4 : arg4.IsWhole) (arg5 : Memref sig .tc .vmem S20x1024 .f32) (harg5 : arg5.IsWhole) (arg6 : Memref sig .tc .vmem S2560x1024 .fp8e4m3) (harg6 : arg6.IsWhole) (arg7 : Memref sig .tc .vmem S8x2560 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S8x8x128 .f32) (harg10 : arg10.IsWhole) (arg11 : Memref sig .tc .vmem S128x128 .bf16) (harg11 : arg11.IsWhole) (arg12 : Memref sig .tc .vmem S4x8x2560 .f32) (harg12 : arg12.IsWhole)
    (st : Dswiglu.St F) (hz : (i 0).val ≠ 0 → Dswiglu.Zero st) :
    ∃ st', Dswiglu.Does (nD := nD) (τ := τ) (Λ := Λ₀) ⟨arg1, arg2, arg3, arg4, arg5, arg6, arg7, arg8, arg9, arg10, arg11, arg12, harg4, harg6, harg11⟩ ins
      (cc0_dswiglu_cast_transpose i arg1 harg1 arg2 harg2 arg3 harg3 arg4 harg4 arg5 harg5 arg6 harg6 arg7 harg7 arg8 harg8 arg9 harg9 arg10 harg10 arg11 harg11 arg12 harg12)
      st ⟨⟩ st' ∧ Dswiglu.Done ins st' ∧ Dswiglu.Zero st' := by
  rw [cc0_dswiglu_cast_transpose_eq_skeleton]
  unfold cc0_dswiglu_cast_transpose_skel
  by_cases h0 : (i 0).val = 0
  · simp only [h0]
    rw [dif_pos (by decide)]
    obtain ⟨st₁, h₁, z₁⟩ := Dswiglu.clear_does (nD := nD) (τ := τ) (Λ := Λ₀) (B := ⟨arg1, arg2, arg3, arg4, arg5, arg6, arg7, arg8, arg9, arg10, arg11, arg12, harg4, harg6, harg11⟩)
      (ins := ins) packedbf16_S128x128_S128x128_0_0 (v := k0_pay1) pay1 st
    exact Dswiglu.point_does trips_eq (fun k => Scf.iv 0#32 1#32 k) iv_toNat trip_lt
      (body_eq i arg1 harg1 arg2 harg2 arg3 harg3 arg4 harg4 arg5 harg5 arg6 harg6 arg7 harg7 arg8 harg8 arg9 harg9 arg10 harg10 arg11 harg11 arg12 harg12)
      h_S1x2x2560 h_S2x2560 (by decide) h₁ z₁
  · rw [dif_neg (by
      show ¬ Scalar.cmpi .ne (Scalar.extui (Scalar.cmpi .eq (BitVec.ofNat 32 (i 0).val) 0#32)) 0#32 = 1#1
      have hlt : (i 0).val < 62 := (i 0).isLt
      exact (by decide +kernel : ∀ n : Fin 62, n.val ≠ 0 → ¬ Scalar.cmpi .ne (Scalar.extui (Scalar.cmpi .eq (BitVec.ofNat 32 n.val) 0#32) : BitVec 32) 0#32 = 1#1) ⟨_, hlt⟩ h0)]
    exact Dswiglu.point_does trips_eq (fun k => Scf.iv 0#32 1#32 k) iv_toNat trip_lt
      (body_eq i arg1 harg1 arg2 harg2 arg3 harg3 arg4 harg4 arg5 harg5 arg6 harg6 arg7 harg7 arg8 harg8 arg9 harg9 arg10 harg10 arg11 harg11 arg12 harg12)
      h_S1x2x2560 h_S2x2560 (by decide) (Dswiglu.Does.pure st PUnit.unit) (hz h0)

end Cert.Kernel
-- ==== Proof.DataKernel.lean ====
/- The proof data of the kernel's pipeline: what each grid point finds and leaves, the body's obligation, the run. -/
module

public import proofs.«01_k».proof.Proof.BodyKernel
public import proofs.«01_k».proof.Proof.Gen.Kernel.Frame
public import Idealize.ShloMosaic.Lib.Claim

@[expose] public section

noncomputable section

namespace Cert.Kernel

open Cert.Kernel.Gen Dswiglu
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a grid point reads: the selector and its blocks of the two inputs. -/
def ins (c : Dev nD) (t : Fin cfg0.N) : Ins F where
  sel := nat3 (iblk m c 0 t : S4x128x256.Idx → Elt F .bf16)
  x := nat2 (iblk m c 1 t : S1024x2560.Idx → Elt F .bf16)
  dy := nat2 (iblk m c 2 t : S1024x1280.Idx → Elt F .bf16)

/-- What it leaves in its block of the codes, -/
def oCodes (c : Dev nD) (t : Fin cfg0.N) : S1024x2560.Idx → Elt F .fp8e4m3 := vec2 (OC (ins m c t))
/-- of the row scales, -/
def oScales (c : Dev nD) (t : Fin cfg0.N) : S20x1024.Idx → Elt F .f32 := vec2 fun g r => sc (RM (ins m c t) r g)
/-- of the transposed codes, -/
def oCodesT (c : Dev nD) (t : Fin cfg0.N) : S2560x1024.Idx → Elt F .fp8e4m3 := vec2 (OT (ins m c t))
/-- and of the column scales. -/
def oScalesT (c : Dev nD) (t : Fin cfg0.N) : S8x2560.Idx → Elt F .f32 := vec2 fun g x => sc (CM (ins m c t) g x)

/-- The scratch before point `n`: at any contents, the left operand clear after the first point; and the generator's
    register. -/
def PhiS (c : Dev nD) (n : ℕ) (_ : n ≤ cfg0.N) : sProp 𝕄 :=
  iprop((∃ v, own1 c (Memref.whole cc0_scratch0) (vec2 v)) ∗ (∃ v, own1 c (Memref.whole cc0_scratch1) (vec2 v))
    ∗ (∃ v, own1 c (Memref.whole cc0_scratch2) (vec3 v))
    ∗ (∃ v : ℕ → ℕ → Elt F .bf16, ⌜n ≠ 0 → ∀ l < 128, ∀ p < 128, 8 ≤ p → v l p = FloatOps.ofBits .bf16 0x0000#16⌝ ∗ own1 c (Memref.whole cc0_scratch3) (vec2 v))
    ∗ (∃ v, own1 c (Memref.whole cc0_scratch4) (vec3 v)) ∗ ∃ r, prngReg c r)

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => oCodes m c t
    | ⟨4, _⟩ => oScales m c t
    | ⟨5, _⟩ => oCodesT m c t
    | ⟨6, _⟩ => oScalesT m c t
  Φ t := PhiS c t.val (Nat.le_of_lt_succ t.isLt)
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = oCodes m c t := by dsimp only [dats]
theorem after_4 (c : Dev nD) (t : Fin cfg0.N) : (dats m 0 c).after 4 t = oScales m c t := by dsimp only [dats]
theorem after_5 (c : Dev nD) (t : Fin cfg0.N) : (dats m 0 c).after 5 t = oCodesT m c t := by dsimp only [dats]
theorem after_6 (c : Dev nD) (t : Fin cfg0.N) : (dats m 0 c).after 6 t = oScalesT m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

theorem phi_start (c : Dev nD) (t : Fin cfg0.N) : (dats m 0 c).Φ t.castSucc = PhiS c t.val (Nat.le_of_lt t.isLt) := by
  dsimp only [dats]; exact Pipeline.Dat.Φ_castSucc (PhiS c) t

/-- The grid coordinate of a point is its number. -/
theorem coord_eq (t : Fin cfg0.N) : (grid0.coords t 0).val = t.val :=
  (by decide +kernel : ∀ t : Fin grid0.N, (grid0.coords t 0).val = t.val) t

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The buffers of a grid point. -/
abbrev bufs (t : Fin cfg0.N) : Bufs sig :=
  ⟨win0_0.stage (cfg0.slots t 0), win0_1.stage (cfg0.slots t 1), win0_2.stage (cfg0.slots t 2), win0_3.stage (cfg0.slots t 3),
    win0_4.stage (cfg0.slots t 4), win0_5.stage (cfg0.slots t 5), win0_6.stage (cfg0.slots t 6), Memref.whole cc0_scratch0,
    Memref.whole cc0_scratch1, Memref.whole cc0_scratch2, Memref.whole cc0_scratch3, Memref.whole cc0_scratch4,
    hstage0_3 ((cfg0.slots t 3).cast nbuf0_3), hstage0_5 ((cfg0.slots t 5).cast nbuf0_5), Memref.isWhole_whole _⟩

/-- The body at any point, over the buffers it is given. -/
theorem run_point (c : Dev nD) (t : Fin cfg0.N) (I : Ins F) (st : St F) (hz : t.val ≠ 0 → Zero st) (Q : PUnit → sProp 𝕄) :
    iprop(Dswiglu.own (bufs t) c I st ∗ (∀ st', ⌜Done I st' ∧ Zero st'⌝ -∗ Dswiglu.own (bufs t) c I st' -∗ Q ⟨⟩))
      ⊢ wp frame (wpE (defs₀ (F := F)) Variants.none c none) Set.univ (bodyAt0 t) Q := by
  obtain ⟨st', h, hd, hz'⟩ := body_does I (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)
    st (by rw [coord_eq]; exact hz)
  refine .trans ?_ (h Unit ℕ (UR sig nD τ) ℕ c (defs₀ (F := F)) Variants.none Set.univ Q)
  iintro ⟨H, K⟩
  isplitl [H]; · iexact H
  iintro H
  iapply K $$ %st' [] H
  ipureintro
  exact ⟨hd, hz'⟩

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2]
  rw [phi_start, show (dats m 0 c).Φ t.succ = PhiS c (t.val + 1) t.isLt from rfl,
    show (dats m 0 c).owesAt () t.succ = (dats m 0 c).owesAt () t.castSucc from rfl,
    after_0, after_1, after_2, after_3, after_4, after_5, after_6]
  unfold PhiS
  iintro ⟨⟨⟨%s0, S0⟩, ⟨%s1, S1⟩, ⟨%s2, S2⟩, ⟨%s3, %hs3, S3⟩, ⟨%s4, S4⟩, HP⟩, Ho, ⟨%d0, H0⟩, ⟨%d1, H1⟩, ⟨%d2, H2⟩, ⟨%d3, H3⟩, ⟨%d4, H4⟩, ⟨%d5, H5⟩, ⟨%d6, H6⟩⟩
  iapply (run_point c t (ins m c t)
    ⟨nat2 ((dats m 0 c).before 3 t d3 : S1024x2560.Idx → Elt F .fp8e4m3), nat2 ((dats m 0 c).before 4 t d4 : S20x1024.Idx → Elt F .f32),
      nat2 ((dats m 0 c).before 5 t d5 : S2560x1024.Idx → Elt F .fp8e4m3), nat2 ((dats m 0 c).before 6 t d6 : S8x2560.Idx → Elt F .f32), s0, s1, s2, s3, s4⟩ hs3 _)
  unfold Dswiglu.own ins
  dsimp only
  rw [vec3_nat3, vec2_nat2, vec2_nat2, vec2_nat2, vec2_nat2, vec2_nat2, vec2_nat2]
  isplitl [S0 S1 S2 S3 S4 H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S0]; · iexact S0
    isplitl [S1]; · iexact S1
    isplitl [S2]; · iexact S2
    isplitl [S3]; · iexact S3
    iexact S4
  iintro %st' %hd ⟨H0, H1, H2, H3, H4, H5, H6, S0, S1, S2, S3, S4⟩
  obtain ⟨⟨h3, h5, h4, h6⟩, hz⟩ := hd
  isplitl [S0 S1 S2 S3 S4 HP]
  · isplitl [S0]; · iexists _; iexact S0
    isplitl [S1]; · iexists _; iexact S1
    isplitl [S2]; · iexists _; iexact S2
    isplitl [S3]
    · iexists _
      isplitr
      rotate_left
      · iexact S3
      · ipureintro; exact fun _ => hz
    isplitl [S4]; · iexists _; iexact S4
    iexact HP
  isplitl [Ho]; · iexact Ho
  isplitl [H0]; · iexact H0
  isplitl [H1]; · iexact H1
  isplitl [H2]; · iexact H2
  rw [vec2_congr h3, vec2_congr h4, vec2_congr h5, vec2_congr h6]
  isplitl [H3]; · iexact H3
  isplitl [H4]; · iexact H4
  isplitl [H5]; · iexact H5
  iexact H6

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem phi_in (c : Dev nD) : (Pipeline.ΦA spec0 c : sProp 𝕄) ⊢ (dats m 0 c).Φ 0 := by
  show Pipeline.ΦA spec0 c ⊢ PhiS c 0 (Nat.zero_le _)
  unfold Pipeline.ΦA PhiS
  rw [scopedRest0_eq]
  iintro ⟨⟨H0, H1, H2, H3, H4⟩, HP⟩
  ihave H0 := hold2 c (Memref.isWhole_whole cc0_scratch0) $$ H0
  ihave H1 := hold2 c (Memref.isWhole_whole cc0_scratch1) $$ H1
  ihave H2 := hold3 c (Memref.isWhole_whole cc0_scratch2) $$ H2
  ihave H3 := hold2 c (Memref.isWhole_whole cc0_scratch3) $$ H3
  ihave H4 := hold3 c (Memref.isWhole_whole cc0_scratch4) $$ H4
  isplitl [H0]; · iexact H0
  isplitl [H1]; · iexact H1
  isplitl [H2]; · iexact H2
  isplitl [H3]
  · icases H3 with ⟨%v, H3⟩
    iexists v
    isplitr
    · ipureintro; exact fun h => absurd rfl h
    iexact H3
  isplitl [H4]; · iexact H4
  iexact HP

theorem phi_out (c : Dev nD) : (dats m 0 c).Φ (Fin.last cfg0.N) ⊢ (Pipeline.ΦA spec0 c : sProp 𝕄) := by
  show PhiS c cfg0.N (Nat.le_refl _) ⊢ _
  unfold Pipeline.ΦA PhiS
  rw [scopedRest0_eq]
  iintro ⟨⟨%s0, S0⟩, ⟨%s1, S1⟩, ⟨%s2, S2⟩, ⟨%s3, -, S3⟩, ⟨%s4, S4⟩, HP⟩
  ihave H0 := drop c (Memref.isWhole_whole cc0_scratch0) _ $$ S0
  ihave H1 := drop c (Memref.isWhole_whole cc0_scratch1) _ $$ S1
  ihave H2 := drop c (Memref.isWhole_whole cc0_scratch2) _ $$ S2
  ihave H3 := drop c (Memref.isWhole_whole cc0_scratch3) _ $$ S3
  ihave H4 := drop c (Memref.isWhole_whole cc0_scratch4) _ $$ S4
  isplitr [HP]
  rotate_left
  · iexact HP
  isplitl [H0]; · iexact H0
  isplitl [H1]; · iexact H1
  isplitl [H2]; · iexact H2
  isplitl [H3]; · iexact H3
  iexact H4

set_option backward.isDefEq.respectTransparency.types false in
set_option maxHeartbeats 800000 in
/-- The run: every execution terminates, the arrays at what the proof data says. -/
theorem run_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := phi_in m) (hout := phi_out m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: every execution terminates, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_quiescent m ρ))

end Cert.Kernel
-- ==== Proof.CutIdeal.lean ====
/- The printed body of the kernel's loop is the unit of Proof/Unit.lean at the ten pairs in turn. -/
module

public import proofs.«01_k».proof.Proof.Gen.KernelIdeal.Skeleton
public import proofs.«01_k».proof.Proof.Unit

@[expose] public section

noncomputable section

namespace Cert.KernelIdeal

open Idealize.ShloMosaic Idealize.SL.Sem Cert.KernelIdeal.Gen

variable {F : FTy → Type} [FloatOps F]

/-- A chain of units is extended by one: the program at hand is a unit, and what is left of it the rest. -/
theorem next {sig : RefSig} {nD : Nat} {τ : Topo} {Λ : Labels} {B : Dswiglu.Bufs sig} {w : BitVec 32} {hw : w.toNat < 4} {j : Nat} {hj : j < 10}
    {A K : Prog (TpuEff nD τ sig (Elt F) Λ .tc) PUnit} {β : Type} {e : TpuEff nD τ sig (Elt F) Λ .tc β}
    {k : β → Prog (TpuEff nD τ sig (Elt F) Λ .tc) PUnit}
    (h : A = Dswiglu.unit B w hw j hj (.op e k)) (h' : Prog.op e k = K) : A = Dswiglu.unit B w hw j hj K := by
  rw [h, h']

/-- The token block a trip works on is one of four. -/
theorem trip_lt (t : Fin k0_t1_loop.trips) : (Scf.iv 0#32 1#32 t).toNat < 4 := by
  revert t; decide +kernel

set_option maxRecDepth 100000 in
set_option maxHeartbeats 0 in
/-- The body of a trip: the ten pairs in turn, on the trip's token block. -/
theorem body_eq (i : grid0.Coords) (arg1 : Memref sig .tc .vmem S4x128x256 .bf16) (harg1 : arg1.IsWhole) (arg2 : Memref sig .tc .vmem S1024x2560 .bf16) (harg2 : arg2.IsWhole) (arg3 : Memref sig .tc .vmem S1024x1280 .bf16) (harg3 : arg3.IsWhole) (arg4 : Memref sig .tc .vmem S1024x2560 .fp8e4m3) (harg4 : arg4.IsWhole) (arg5 : Memref sig .tc .vmem S20x1024 .f32) (harg5 : arg5.IsWhole) (arg6 : Memref sig .tc .vmem S2560x1024 .fp8e4m3) (harg6 : arg6.IsWhole) (arg7 : Memref sig .tc .vmem S8x2560 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S8x8x128 .f32) (harg10 : arg10.IsWhole) (arg11 : Memref sig .tc .vmem S128x128 .bf16) (harg11 : arg11.IsWhole) (arg12 : Memref sig .tc .vmem S4x8x2560 .f32) (harg12 : arg12.IsWhole) (t : Fin k0_t1_loop.trips) :
    k0_t1_body (F := F) i arg1 harg1 arg2 harg2 arg3 harg3 arg4 harg4 arg5 harg5 arg6 harg6 arg7 harg7 arg8 harg8 arg9 harg9 arg10 harg10 arg11 harg11 arg12 harg12 t () =
      Dswiglu.units ⟨arg1, arg2, arg3, arg4, arg5, arg6, arg7, arg8, arg9, arg10, arg11, arg12, harg4, harg6, harg11⟩ (Scf.iv 0#32 1#32 t) (trip_lt t) := by
  unfold Dswiglu.units
  refine next rfl ?_
  refine next rfl ?_
  refine next rfl ?_
  refine next rfl ?_
  refine next rfl ?_
  refine next rfl ?_
  refine next rfl ?_
  refine next rfl ?_
  refine next rfl ?_
  rfl

end Cert.KernelIdeal
-- ==== Proof.BodyIdeal.lean ====
/- The printed body of a grid point does what Proof/Whole.lean says. -/
module

public import proofs.«01_k».proof.Proof.CutIdeal
public import proofs.«01_k».proof.Proof.Hold

@[expose] public section

noncomputable section

namespace Cert.KernelIdeal

open Idealize.ShloMosaic Idealize.SL.Sem Cert.KernelIdeal.Gen

variable {F : FTy → Type} [FloatOps F]

theorem trips_eq : k0_t1_loop.trips = 4 := by decide +kernel

theorem iv_toNat (t : Fin k0_t1_loop.trips) : (Scf.iv 0#32 1#32 t).toNat = t.val := by
  revert t; decide +kernel

theorem pay1 (i) : k0_pay1 (F := F) i = FloatOps.ofBits .bf16 0x0000#16 := rfl

set_option maxRecDepth 100000 in
set_option maxHeartbeats 1000000 in
/-- The body of a grid point, from a left operand that is clear unless the point is the first. -/
theorem body_does (ins : Dswiglu.Ins F) (i : grid0.Coords) (arg1 : Memref sig .tc .vmem S4x128x256 .bf16) (harg1 : arg1.IsWhole) (arg2 : Memref sig .tc .vmem S1024x2560 .bf16) (harg2 : arg2.IsWhole) (arg3 : Memref sig .tc .vmem S1024x1280 .bf16) (harg3 : arg3.IsWhole) (arg4 : Memref sig .tc .vmem S1024x2560 .fp8e4m3) (harg4 : arg4.IsWhole) (arg5 : Memref sig .tc .vmem S20x1024 .f32) (harg5 : arg5.IsWhole) (arg6 : Memref sig .tc .vmem S2560x1024 .fp8e4m3) (harg6 : arg6.IsWhole) (arg7 : Memref sig .tc .vmem S8x2560 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S8x8x128 .f32) (harg10 : arg10.IsWhole) (arg11 : Memref sig .tc .vmem S128x128 .bf16) (harg11 : arg11.IsWhole) (arg12 : Memref sig .tc .vmem S4x8x2560 .f32) (harg12 : arg12.IsWhole)
    (st : Dswiglu.St F) (hz : (i 0).val ≠ 0 → Dswiglu.Zero st) :
    ∃ st', Dswiglu.Does (nD := nD) (τ := τ) (Λ := Λ₀) ⟨arg1, arg2, arg3, arg4, arg5, arg6, arg7, arg8, arg9, arg10, arg11, arg12, harg4, harg6, harg11⟩ ins
      (cc0_dswiglu_cast_transpose i arg1 harg1 arg2 harg2 arg3 harg3 arg4 harg4 arg5 harg5 arg6 harg6 arg7 harg7 arg8 harg8 arg9 harg9 arg10 harg10 arg11 harg11 arg12 harg12)
      st ⟨⟩ st' ∧ Dswiglu.Done ins st' ∧ Dswiglu.Zero st' := by
  rw [cc0_dswiglu_cast_transpose_eq_skeleton]
  unfold cc0_dswiglu_cast_transpose_skel
  by_cases h0 : (i 0).val = 0
  · simp only [h0]
    rw [dif_pos (by decide)]
    obtain ⟨st₁, h₁, z₁⟩ := Dswiglu.clear_does (nD := nD) (τ := τ) (Λ := Λ₀) (B := ⟨arg1, arg2, arg3, arg4, arg5, arg6, arg7, arg8, arg9, arg10, arg11, arg12, harg4, harg6, harg11⟩)
      (ins := ins) packedbf16_S128x128_S128x128_0_0 (v := k0_pay1) pay1 st
    exact Dswiglu.point_does trips_eq (fun k => Scf.iv 0#32 1#32 k) iv_toNat trip_lt
      (body_eq i arg1 harg1 arg2 harg2 arg3 harg3 arg4 harg4 arg5 harg5 arg6 harg6 arg7 harg7 arg8 harg8 arg9 harg9 arg10 harg10 arg11 harg11 arg12 harg12)
      h_S1x2x2560 h_S2x2560 (by decide) h₁ z₁
  · rw [dif_neg (by
      show ¬ Scalar.cmpi .ne (Scalar.extui (Scalar.cmpi .eq (BitVec.ofNat 32 (i 0).val) 0#32)) 0#32 = 1#1
      have hlt : (i 0).val < 62 := (i 0).isLt
      exact (by decide +kernel : ∀ n : Fin 62, n.val ≠ 0 → ¬ Scalar.cmpi .ne (Scalar.extui (Scalar.cmpi .eq (BitVec.ofNat 32 n.val) 0#32) : BitVec 32) 0#32 = 1#1) ⟨_, hlt⟩ h0)]
    exact Dswiglu.point_does trips_eq (fun k => Scf.iv 0#32 1#32 k) iv_toNat trip_lt
      (body_eq i arg1 harg1 arg2 harg2 arg3 harg3 arg4 harg4 arg5 harg5 arg6 harg6 arg7 harg7 arg8 harg8 arg9 harg9 arg10 harg10 arg11 harg11 arg12 harg12)
      h_S1x2x2560 h_S2x2560 (by decide) (Dswiglu.Does.pure st PUnit.unit) (hz h0)

end Cert.KernelIdeal
-- ==== Proof.DataIdeal.lean ====
/- The proof data of the kernel's pipeline: what each grid point finds and leaves, the body's obligation, the run. -/
module

public import proofs.«01_k».proof.Proof.BodyIdeal
public import proofs.«01_k».proof.Proof.Gen.KernelIdeal.Frame
public import Idealize.ShloMosaic.Lib.Claim

@[expose] public section

noncomputable section

namespace Cert.KernelIdeal

open Cert.KernelIdeal.Gen Dswiglu
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a grid point reads: the selector and its blocks of the two inputs. -/
def ins (c : Dev nD) (t : Fin cfg0.N) : Ins F where
  sel := nat3 (iblk m c 0 t : S4x128x256.Idx → Elt F .bf16)
  x := nat2 (iblk m c 1 t : S1024x2560.Idx → Elt F .bf16)
  dy := nat2 (iblk m c 2 t : S1024x1280.Idx → Elt F .bf16)

/-- What it leaves in its block of the codes, -/
def oCodes (c : Dev nD) (t : Fin cfg0.N) : S1024x2560.Idx → Elt F .fp8e4m3 := vec2 (OC (ins m c t))
/-- of the row scales, -/
def oScales (c : Dev nD) (t : Fin cfg0.N) : S20x1024.Idx → Elt F .f32 := vec2 fun g r => sc (RM (ins m c t) r g)
/-- of the transposed codes, -/
def oCodesT (c : Dev nD) (t : Fin cfg0.N) : S2560x1024.Idx → Elt F .fp8e4m3 := vec2 (OT (ins m c t))
/-- and of the column scales. -/
def oScalesT (c : Dev nD) (t : Fin cfg0.N) : S8x2560.Idx → Elt F .f32 := vec2 fun g x => sc (CM (ins m c t) g x)

/-- The scratch before point `n`: at any contents, the left operand clear after the first point; and the generator's
    register. -/
def PhiS (c : Dev nD) (n : ℕ) (_ : n ≤ cfg0.N) : sProp 𝕄 :=
  iprop((∃ v, own1 c (Memref.whole cc0_scratch0) (vec2 v)) ∗ (∃ v, own1 c (Memref.whole cc0_scratch1) (vec2 v))
    ∗ (∃ v, own1 c (Memref.whole cc0_scratch2) (vec3 v))
    ∗ (∃ v : ℕ → ℕ → Elt F .bf16, ⌜n ≠ 0 → ∀ l < 128, ∀ p < 128, 8 ≤ p → v l p = FloatOps.ofBits .bf16 0x0000#16⌝ ∗ own1 c (Memref.whole cc0_scratch3) (vec2 v))
    ∗ (∃ v, own1 c (Memref.whole cc0_scratch4) (vec3 v)) ∗ ∃ r, prngReg c r)

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => oCodes m c t
    | ⟨4, _⟩ => oScales m c t
    | ⟨5, _⟩ => oCodesT m c t
    | ⟨6, _⟩ => oScalesT m c t
  Φ t := PhiS c t.val (Nat.le_of_lt_succ t.isLt)
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = oCodes m c t := by dsimp only [dats]
theorem after_4 (c : Dev nD) (t : Fin cfg0.N) : (dats m 0 c).after 4 t = oScales m c t := by dsimp only [dats]
theorem after_5 (c : Dev nD) (t : Fin cfg0.N) : (dats m 0 c).after 5 t = oCodesT m c t := by dsimp only [dats]
theorem after_6 (c : Dev nD) (t : Fin cfg0.N) : (dats m 0 c).after 6 t = oScalesT m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

theorem phi_start (c : Dev nD) (t : Fin cfg0.N) : (dats m 0 c).Φ t.castSucc = PhiS c t.val (Nat.le_of_lt t.isLt) := by
  dsimp only [dats]; exact Pipeline.Dat.Φ_castSucc (PhiS c) t

/-- The grid coordinate of a point is its number. -/
theorem coord_eq (t : Fin cfg0.N) : (grid0.coords t 0).val = t.val :=
  (by decide +kernel : ∀ t : Fin grid0.N, (grid0.coords t 0).val = t.val) t

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The buffers of a grid point. -/
abbrev bufs (t : Fin cfg0.N) : Bufs sig :=
  ⟨win0_0.stage (cfg0.slots t 0), win0_1.stage (cfg0.slots t 1), win0_2.stage (cfg0.slots t 2), win0_3.stage (cfg0.slots t 3),
    win0_4.stage (cfg0.slots t 4), win0_5.stage (cfg0.slots t 5), win0_6.stage (cfg0.slots t 6), Memref.whole cc0_scratch0,
    Memref.whole cc0_scratch1, Memref.whole cc0_scratch2, Memref.whole cc0_scratch3, Memref.whole cc0_scratch4,
    hstage0_3 ((cfg0.slots t 3).cast nbuf0_3), hstage0_5 ((cfg0.slots t 5).cast nbuf0_5), Memref.isWhole_whole _⟩

/-- The body at any point, over the buffers it is given. -/
theorem run_point (c : Dev nD) (t : Fin cfg0.N) (I : Ins F) (st : St F) (hz : t.val ≠ 0 → Zero st) (Q : PUnit → sProp 𝕄) :
    iprop(Dswiglu.own (bufs t) c I st ∗ (∀ st', ⌜Done I st' ∧ Zero st'⌝ -∗ Dswiglu.own (bufs t) c I st' -∗ Q ⟨⟩))
      ⊢ wp frame (wpE (defs₀ (F := F)) Variants.none c none) Set.univ (bodyAt0 t) Q := by
  obtain ⟨st', h, hd, hz'⟩ := body_does I (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)
    st (by rw [coord_eq]; exact hz)
  refine .trans ?_ (h Unit ℕ (UR sig nD τ) ℕ c (defs₀ (F := F)) Variants.none Set.univ Q)
  iintro ⟨H, K⟩
  isplitl [H]; · iexact H
  iintro H
  iapply K $$ %st' [] H
  ipureintro
  exact ⟨hd, hz'⟩

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2]
  rw [phi_start, show (dats m 0 c).Φ t.succ = PhiS c (t.val + 1) t.isLt from rfl,
    show (dats m 0 c).owesAt () t.succ = (dats m 0 c).owesAt () t.castSucc from rfl,
    after_0, after_1, after_2, after_3, after_4, after_5, after_6]
  unfold PhiS
  iintro ⟨⟨⟨%s0, S0⟩, ⟨%s1, S1⟩, ⟨%s2, S2⟩, ⟨%s3, %hs3, S3⟩, ⟨%s4, S4⟩, HP⟩, Ho, ⟨%d0, H0⟩, ⟨%d1, H1⟩, ⟨%d2, H2⟩, ⟨%d3, H3⟩, ⟨%d4, H4⟩, ⟨%d5, H5⟩, ⟨%d6, H6⟩⟩
  iapply (run_point c t (ins m c t)
    ⟨nat2 ((dats m 0 c).before 3 t d3 : S1024x2560.Idx → Elt F .fp8e4m3), nat2 ((dats m 0 c).before 4 t d4 : S20x1024.Idx → Elt F .f32),
      nat2 ((dats m 0 c).before 5 t d5 : S2560x1024.Idx → Elt F .fp8e4m3), nat2 ((dats m 0 c).before 6 t d6 : S8x2560.Idx → Elt F .f32), s0, s1, s2, s3, s4⟩ hs3 _)
  unfold Dswiglu.own ins
  dsimp only
  rw [vec3_nat3, vec2_nat2, vec2_nat2, vec2_nat2, vec2_nat2, vec2_nat2, vec2_nat2]
  isplitl [S0 S1 S2 S3 S4 H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S0]; · iexact S0
    isplitl [S1]; · iexact S1
    isplitl [S2]; · iexact S2
    isplitl [S3]; · iexact S3
    iexact S4
  iintro %st' %hd ⟨H0, H1, H2, H3, H4, H5, H6, S0, S1, S2, S3, S4⟩
  obtain ⟨⟨h3, h5, h4, h6⟩, hz⟩ := hd
  isplitl [S0 S1 S2 S3 S4 HP]
  · isplitl [S0]; · iexists _; iexact S0
    isplitl [S1]; · iexists _; iexact S1
    isplitl [S2]; · iexists _; iexact S2
    isplitl [S3]
    · iexists _
      isplitr
      rotate_left
      · iexact S3
      · ipureintro; exact fun _ => hz
    isplitl [S4]; · iexists _; iexact S4
    iexact HP
  isplitl [Ho]; · iexact Ho
  isplitl [H0]; · iexact H0
  isplitl [H1]; · iexact H1
  isplitl [H2]; · iexact H2
  rw [vec2_congr h3, vec2_congr h4, vec2_congr h5, vec2_congr h6]
  isplitl [H3]; · iexact H3
  isplitl [H4]; · iexact H4
  isplitl [H5]; · iexact H5
  iexact H6

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem phi_in (c : Dev nD) : (Pipeline.ΦA spec0 c : sProp 𝕄) ⊢ (dats m 0 c).Φ 0 := by
  show Pipeline.ΦA spec0 c ⊢ PhiS c 0 (Nat.zero_le _)
  unfold Pipeline.ΦA PhiS
  rw [scopedRest0_eq]
  iintro ⟨⟨H0, H1, H2, H3, H4⟩, HP⟩
  ihave H0 := hold2 c (Memref.isWhole_whole cc0_scratch0) $$ H0
  ihave H1 := hold2 c (Memref.isWhole_whole cc0_scratch1) $$ H1
  ihave H2 := hold3 c (Memref.isWhole_whole cc0_scratch2) $$ H2
  ihave H3 := hold2 c (Memref.isWhole_whole cc0_scratch3) $$ H3
  ihave H4 := hold3 c (Memref.isWhole_whole cc0_scratch4) $$ H4
  isplitl [H0]; · iexact H0
  isplitl [H1]; · iexact H1
  isplitl [H2]; · iexact H2
  isplitl [H3]
  · icases H3 with ⟨%v, H3⟩
    iexists v
    isplitr
    · ipureintro; exact fun h => absurd rfl h
    iexact H3
  isplitl [H4]; · iexact H4
  iexact HP

theorem phi_out (c : Dev nD) : (dats m 0 c).Φ (Fin.last cfg0.N) ⊢ (Pipeline.ΦA spec0 c : sProp 𝕄) := by
  show PhiS c cfg0.N (Nat.le_refl _) ⊢ _
  unfold Pipeline.ΦA PhiS
  rw [scopedRest0_eq]
  iintro ⟨⟨%s0, S0⟩, ⟨%s1, S1⟩, ⟨%s2, S2⟩, ⟨%s3, -, S3⟩, ⟨%s4, S4⟩, HP⟩
  ihave H0 := drop c (Memref.isWhole_whole cc0_scratch0) _ $$ S0
  ihave H1 := drop c (Memref.isWhole_whole cc0_scratch1) _ $$ S1
  ihave H2 := drop c (Memref.isWhole_whole cc0_scratch2) _ $$ S2
  ihave H3 := drop c (Memref.isWhole_whole cc0_scratch3) _ $$ S3
  ihave H4 := drop c (Memref.isWhole_whole cc0_scratch4) _ $$ S4
  isplitr [HP]
  rotate_left
  · iexact HP
  isplitl [H0]; · iexact H0
  isplitl [H1]; · iexact H1
  isplitl [H2]; · iexact H2
  isplitl [H3]; · iexact H3
  iexact H4

set_option backward.isDefEq.respectTransparency.types false in
set_option maxHeartbeats 800000 in
/-- The run: every execution terminates, the arrays at what the proof data says. -/
theorem run_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := phi_in m) (hout := phi_out m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: every execution terminates, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_quiescent m ρ))

end Cert.KernelIdeal
-- ==== Proof.SelectorWord.lean ====
/- What the selector should be. The selector is the constant the kernel multiplies the reciprocal scales by: row `128 s + k` of
   the table (plane `s`, lane `k`) has two halves of 128 columns, each all one or all zero: one at lanes 0 | 2, 1 | 3, 4 | 6
   and 5 | 7 of the planes 0, 1, 2 and 3. -/
module

public import proofs.«01_k».proof.KernelIdeal
public import Mathlib.Tactic.IntervalCases

@[expose] public section

noncomputable section

namespace Dswiglu

open Idealize.ShloMosaic Cert.KernelIdeal

/-- The lane that plane `s` selects for the half `h` of the columns. -/
def lane (s h : ℕ) : ℕ := if s < 2 then s + 2 * h else s + 2 + 2 * h

/-- The word of plane `T / 256`, lane `T / 2 % 128`, half `T % 2`. -/
def selWord (T : ℕ) : BitVec 16 := if T / 2 % 128 = lane (T / 256) (T % 2) then 0x3F80#16 else 0x0000#16

/-- 16 half rows of the table from `o` are what `selWord` says. -/
def rowsAre (o : ℕ) : Bool :=
  (List.range 16).all fun T => (List.range 128).all fun r => lit0t (128 * (o + T) + r) == selWord (o + T)

end Dswiglu

end

end
-- ==== Proof.SelectorA.lean ====
/- Part A of the selector's table, read by evaluation. -/
module

public import proofs.«01_k».proof.Proof.SelectorWord
public import Mathlib.Tactic.IntervalCases

@[expose] public section

noncomputable section

namespace Dswiglu

open Idealize.ShloMosaic Cert.KernelIdeal

set_option maxRecDepth 100000 in
set_option maxHeartbeats 0 in
theorem rowsA (q : ℕ) : q < 16 → rowsAre (16 * q) = true := by
  intro h1
  interval_cases q <;> decide +kernel

end Dswiglu

end

end
-- ==== Proof.SelectorB.lean ====
/- Part B of the selector's table, read by evaluation. -/
module

public import proofs.«01_k».proof.Proof.SelectorWord
public import Mathlib.Tactic.IntervalCases

@[expose] public section

noncomputable section

namespace Dswiglu

open Idealize.ShloMosaic Cert.KernelIdeal

set_option maxRecDepth 100000 in
set_option maxHeartbeats 0 in
theorem rowsB (q : ℕ) : 16 ≤ q → q < 32 → rowsAre (16 * q) = true := by
  intro h0 h1
  interval_cases q <;> decide +kernel

end Dswiglu

end

end
-- ==== Proof.SelectorC.lean ====
/- Part C of the selector's table, read by evaluation. -/
module

public import proofs.«01_k».proof.Proof.SelectorWord
public import Mathlib.Tactic.IntervalCases

@[expose] public section

noncomputable section

namespace Dswiglu

open Idealize.ShloMosaic Cert.KernelIdeal

set_option maxRecDepth 100000 in
set_option maxHeartbeats 0 in
theorem rowsC (q : ℕ) : 32 ≤ q → q < 48 → rowsAre (16 * q) = true := by
  intro h0 h1
  interval_cases q <;> decide +kernel

end Dswiglu

end

end
-- ==== Proof.SelectorD.lean ====
/- Part D of the selector's table, read by evaluation. -/
module

public import proofs.«01_k».proof.Proof.SelectorWord
public import Mathlib.Tactic.IntervalCases

@[expose] public section

noncomputable section

namespace Dswiglu

open Idealize.ShloMosaic Cert.KernelIdeal

set_option maxRecDepth 100000 in
set_option maxHeartbeats 0 in
theorem rowsD (q : ℕ) : 48 ≤ q → q < 64 → rowsAre (16 * q) = true := by
  intro h0 h1
  interval_cases q <;> decide +kernel

end Dswiglu

end

end
-- ==== Proof.Selector.lean ====
/- The selector's table at any index. -/
module

public import proofs.«01_k».proof.Proof.SelectorA
public import proofs.«01_k».proof.Proof.SelectorB
public import proofs.«01_k».proof.Proof.SelectorC
public import proofs.«01_k».proof.Proof.SelectorD
public import Mathlib.Tactic.IntervalCases

@[expose] public section

noncomputable section

namespace Dswiglu

open Idealize.ShloMosaic Cert.KernelIdeal

/-- Every 16 half rows are as `selWord` says. -/
theorem rows_all (q : ℕ) (hq : q < 64) : rowsAre (16 * q) = true := by
  by_cases h1 : q < 16
  · exact rowsA q h1
  by_cases h2 : q < 32
  · exact rowsB q (by omega) h2
  by_cases h3 : q < 48
  · exact rowsC q (by omega) h3
  exact rowsD q (by omega) hq

/-- The table at any index. -/
theorem lit0_eq (i : Fin 131072) : lit0 i = selWord (i.val / 128) := by
  have h := rows_all (i.val / 2048) (by have := i.isLt; omega)
  have h1 := List.all_eq_true.mp h (i.val / 128 % 16) (List.mem_range.mpr (by omega))
  have h2 := eq_of_beq (List.all_eq_true.mp h1 (i.val % 128) (List.mem_range.mpr (by omega)))
  have e : 16 * (i.val / 2048) + i.val / 128 % 16 = i.val / 128 := by omega
  rw [e, Nat.div_add_mod] at h2
  exact h2

end Dswiglu

end

end
-- ==== Proof.Scale.lean ====
/- The scale over the extended reals: what the bisection finds of a scaled magnitude `m`, and that the scale built from it is
   the least power of two above `m`, its reciprocal the quotient. `P n` is the power of two that the exponent field `n`
   stands for, `2 ^ (n - 127)`. -/
module

public import proofs.«01_k».proof.Proof.Model
public import Idealize.ShloMosaic.PureOps.Ideal
public import Idealize.ShloMosaic.PureOps.Ideal.Laws

@[expose] public section

noncomputable section

namespace Dswiglu

open Idealize.ShloMosaic

/-- The power of two with exponent field `n`. -/
def P (n : ℕ) : EReal := (((2 : ℝ) ^ ((n : ℤ) - 127) : ℝ) : EReal)

theorem P_lt {a b : ℕ} (h : a < b) : P a < P b := by
  unfold P
  rw [EReal.coe_lt_coe_iff]
  exact zpow_lt_zpow_right₀ (by norm_num) (by omega)

theorem P_le {a b : ℕ} (h : a ≤ b) : P a ≤ P b := by
  rcases h.eq_or_lt with rfl | h
  · exact le_rfl
  · exact (P_lt h).le

theorem P_pos (n : ℕ) : 0 < P n := by
  unfold P; rw [EReal.coe_pos]; positivity

/-- The word of exponent field `n`. -/
def pw (n : ℕ) : BitVec 32 := BitVec.ofNat 32 n <<< 23

theorem pw_parts : ∀ n < 255, ((pw n).extractLsb' 31 1 == 1#1) = false ∧ ((pw n).extractLsb' 23 8).toNat = n
    ∧ ((pw n).extractLsb' 0 23).toNat = 0 := by decide +kernel

/-- An exponent field between 1 and 254 denotes its power of two. -/
theorem ofBits_pw {n : ℕ} (h1 : 1 ≤ n) (h2 : n ≤ 254) : Ideal.ofBits .f32 (pw n) = P n := by
  obtain ⟨a, b, c⟩ := pw_parts n (by omega)
  show Ideal.ieee 8 23 (pw n) = P n
  unfold Ideal.ieee
  simp only [show 8 + 23 = 31 from rfl, a, b, c]
  rw [if_neg (by omega), if_neg (by omega)]
  unfold P
  rw [EReal.coe_eq_coe_iff]
  simp only [Bool.false_eq_true, if_false, Nat.add_zero, one_mul]
  push_cast
  rw [show (8388608 : ℝ) = (2 : ℝ) ^ (23 : ℤ) by norm_num, ← zpow_add₀ (by norm_num : (2 : ℝ) ≠ 0)]
  exact congrArg (fun z : ℤ => (2 : ℝ) ^ z) (by ring)

/-- The zero word denotes zero. -/
theorem ofBits_pw_zero : Ideal.ofBits .f32 (pw 0) = 0 := Ideal.ofBits_zero_f32

/-- One step of the bisection, on numbers. -/
def bisN (m : EReal) (b e : ℕ) : ℕ := if P (min (e + b) 254) ≤ m then e + b else e

theorem bis_word : ∀ e < 256, ∀ k < 8, e + 2 ^ k < 256 →
    IntOp.shli .vector (IntOp.minsi (IntOp.addi (BitVec.ofNat 32 e) (BitVec.ofNat 32 (2 ^ k))) 254#32) 23#32 = pw (min (e + 2 ^ k) 254)
    ∧ IntOp.addi (BitVec.ofNat 32 e) (BitVec.ofNat 32 (2 ^ k)) = BitVec.ofNat 32 (e + 2 ^ k) := by decide +kernel

theorem bisS_ofNat (m : EReal) {e k : ℕ} (hk : k < 8) (he : e + 2 ^ k < 256) :
    bisS (F := Ideal) m (BitVec.ofNat 32 (2 ^ k)) (BitVec.ofNat 32 e) = BitVec.ofNat 32 (bisN m (2 ^ k) e) := by
  have h0 : 1 ≤ 2 ^ k := Nat.one_le_two_pow
  obtain ⟨a, b⟩ := bis_word e (by omega) k hk he
  unfold bisS bisN
  rw [a, b]
  show Scalar.select (BitVec.ofBool (decide (Ideal.ofBits .f32 (pw (min (e + 2 ^ k) 254)) ≤ m))) _ _ = _
  rw [ofBits_pw (by omega) (by omega)]
  by_cases h : P (min (e + 2 ^ k) 254) ≤ m
  · rw [if_pos h, decide_eq_true h]; rfl
  · rw [if_neg h, decide_eq_false h]; rfl

/-- What the bisection keeps: the number so far is a lower bound of the field, and `2 ^ k` above it an upper one. -/
def Kept (m : EReal) (k e : ℕ) : Prop :=
  e + 2 ^ k ≤ 256 ∧ (e = 0 ∨ P (min e 254) ≤ m) ∧ (e + 2 ^ k = 256 ∨ m < P (min (e + 2 ^ k) 254))

theorem Kept.step {m : EReal} {k e : ℕ} (h : Kept m (k + 1) e) : Kept m k (bisN m (2 ^ k) e) := by
  obtain ⟨h1, h2, h3⟩ := h
  have hp : 2 ^ (k + 1) = 2 ^ k + 2 ^ k := by rw [pow_succ]; omega
  unfold bisN
  split
  · rename_i hc
    refine ⟨by omega, .inr hc, ?_⟩
    rw [add_assoc, ← hp]; exact h3
  · rename_i hc
    have h0 : 1 ≤ 2 ^ k := Nat.one_le_two_pow
    exact ⟨by omega, h2, .inr (not_le.mp hc)⟩

/-- The bisection's field, as a number: the greatest whose power of two is at most `m`. -/
theorem field_spec (m : EReal) : ∃ f : ℕ, fieldS (F := Ideal) m = BitVec.ofNat 32 f ∧ Kept m 0 f := by
  have go : ∀ k e, k < 8 → Kept m (k + 1) e →
      bisS (F := Ideal) m (BitVec.ofNat 32 (2 ^ k)) (BitVec.ofNat 32 e) = BitVec.ofNat 32 (bisN m (2 ^ k) e)
        ∧ Kept m k (bisN m (2 ^ k) e) := by
    intro k e hk h
    refine ⟨bisS_ofNat m hk ?_, h.step⟩
    have := h.1; have hp : 2 ^ (k + 1) = 2 ^ k + 2 ^ k := by rw [pow_succ]; omega
    have h0 : 1 ≤ 2 ^ k := Nat.one_le_two_pow
    omega
  have k8 : Kept m 8 0 := ⟨by norm_num, .inl rfl, .inl rfl⟩
  obtain ⟨e7, k7⟩ := go 7 0 (by omega) k8
  obtain ⟨e6, k6⟩ := go 6 _ (by omega) k7
  obtain ⟨e5, k5⟩ := go 5 _ (by omega) k6
  obtain ⟨e4, k4⟩ := go 4 _ (by omega) k5
  obtain ⟨e3, k3⟩ := go 3 _ (by omega) k4
  obtain ⟨e2, k2⟩ := go 2 _ (by omega) k3
  obtain ⟨e1, k1⟩ := go 1 _ (by omega) k2
  obtain ⟨e0, k0⟩ := go 0 _ (by omega) k1
  refine ⟨_, ?_, k0⟩
  rw [← e0, ← e1, ← e2, ← e3, ← e4, ← e5, ← e6, ← e7]
  rfl

/-- The words of the scale and of its reciprocal, for each field. -/
theorem scale_words : ∀ f < 256,
    IntOp.shli .vector (IntOp.addi 127#32 (expoF (BitVec.ofNat 32 f))) 23#32 = pw (if f = 0 ∨ f = 255 then 127 else f + 1)
    ∧ (f < 254 ∨ f = 255 → IntOp.shli .vector (IntOp.subi 127#32 (expoF (BitVec.ofNat 32 f))) 23#32
        = pw (if f = 0 ∨ f = 255 then 127 else 253 - f)) := by decide +kernel

/-- The magnitude over 448, as both programs take it. -/
def over (a : EReal) : EReal := a * Ideal.ofBits .f32 0x3B124925#32

/-- The scale and its reciprocal, by cases of the scaled magnitude: `1` outside the normal range, else the power of two above
    it, whose reciprocal is taken as zero when it is not a normal number. -/
theorem sc_iv (a : EReal) :
    ((over a < P 1 ∨ P 254 ≤ over a) ∧ sc (F := Ideal) a = P 127 ∧ iv (F := Ideal) a = P 127)
    ∨ ∃ f, 1 ≤ f ∧ f ≤ 253 ∧ P f ≤ over a ∧ over a < P (f + 1) ∧ sc (F := Ideal) a = P (f + 1)
        ∧ iv (F := Ideal) a = if f = 253 then 0 else P (253 - f) := by
  obtain ⟨f, hf, h1, h2, h3⟩ := field_spec (over a)
  have hf' : expoS (F := Ideal) a = expoF (BitVec.ofNat 32 f) := by
    show expoF (fieldS (F := Ideal) (over a)) = _
    rw [hf]
  simp only [pow_zero] at h1 h3
  obtain ⟨w1, w2⟩ := scale_words f (by omega)
  have hsc : sc (F := Ideal) a = Ideal.ofBits .f32 (pw (if f = 0 ∨ f = 255 then 127 else f + 1)) := by
    unfold sc; rw [hf', w1]; rfl
  have hne : f ≠ 254 := by
    rintro rfl
    rcases h2 with h | h
    · omega
    · rcases h3 with h3 | h3
      · omega
      · exact absurd h (not_le.mpr h3)
  have hiv : iv (F := Ideal) a = Ideal.ofBits .f32 (pw (if f = 0 ∨ f = 255 then 127 else 253 - f)) := by
    unfold iv; rw [hf', w2 (by omega)]; rfl
  by_cases he : f = 0 ∨ f = 255
  · left
    rw [if_pos he] at hsc hiv
    rw [ofBits_pw (by omega) (by omega)] at hsc hiv
    refine ⟨?_, hsc, hiv⟩
    rcases he with rfl | rfl
    · rcases h3 with h3 | h3
      · omega
      · exact .inl h3
    · rcases h2 with h2 | h2
      · omega
      · exact .inr h2
  · right
    rw [if_neg he] at hsc hiv
    rw [ofBits_pw (by omega) (by omega)] at hsc
    refine ⟨f, by omega, by omega, ?_, ?_, hsc, ?_⟩
    · rcases h2 with h2 | h2
      · omega
      · rwa [min_eq_left (by omega)] at h2
    · rcases h3 with h3 | h3
      · omega
      · rwa [min_eq_left (by omega)] at h3
    · rw [hiv]; split
      · rename_i h; subst h; exact ofBits_pw_zero
      · exact ofBits_pw (by omega) (by omega)

/-! ## The reference's scale -/

/-- The least power of two above `m` of the 253 normal ones with a normal or no reciprocal; `⊤` if none is. -/
def least (m : EReal) : EReal := (Finset.univ : Finset (Fin 253)).fold min ⊤ fun k => if m < P (k.val + 2) then P (k.val + 2) else ⊤

/-- The reference's scale of a scaled magnitude. -/
def scaleR (m : EReal) : EReal := if P 1 ≤ m ∧ m < P 254 then least m else P 127

/-- The reference's reciprocal of a scale. -/
def inverseR (s : EReal) : EReal := if s < P 254 then Ideal.div (P 127) s else 0

theorem least_eq {m : EReal} {f : ℕ} (h1 : 1 ≤ f) (h2 : f ≤ 253) (ha : P f ≤ m) (hb : m < P (f + 1)) : least m = P (f + 1) := by
  apply le_antisymm
  · refine (Finset.fold_min_le _).mpr (.inr ⟨⟨f - 1, by omega⟩, Finset.mem_univ _, ?_⟩)
    show (if m < P (f - 1 + 2) then P (f - 1 + 2) else ⊤) ≤ _
    rw [show f - 1 + 2 = f + 1 by omega, if_pos hb]
  · refine Finset.le_fold_min _ |>.mpr ⟨le_top, fun k _ => ?_⟩
    split
    · rename_i hk
      refine P_le ?_
      by_contra hc
      exact absurd (ha.trans_lt hk) (not_lt.mpr (P_le (by omega)))
    · exact le_top

theorem P_one : P 127 = 1 := by unfold P; norm_num

theorem div_P {n : ℕ} (h : n ≤ 254) : Ideal.div (P 127) (P n) = P (254 - n) := by
  unfold Ideal.div
  rw [if_neg (P_pos n).ne', P_one, one_mul]
  unfold P
  rw [← EReal.coe_inv, ← zpow_neg]
  congr 2
  push_cast [Nat.cast_sub h]
  ring

/-- The kernel's scale and reciprocal are the reference's. -/
theorem sc_eq (a : EReal) : sc (F := Ideal) a = scaleR (over a) ∧ iv (F := Ideal) a = inverseR (scaleR (over a)) := by
  rcases sc_iv a with ⟨h, hs, hi⟩ | ⟨f, h1, h2, ha, hb, hs, hi⟩
  · have e : scaleR (over a) = P 127 := by
      unfold scaleR; rw [if_neg]; rintro ⟨x, y⟩
      rcases h with h | h
      · exact absurd x (not_le.mpr h)
      · exact absurd y (not_lt.mpr h)
    rw [hs, hi, e]
    refine ⟨rfl, ?_⟩
    unfold inverseR
    rw [if_pos (P_lt (by norm_num)), div_P (by norm_num)]
  · have e : scaleR (over a) = P (f + 1) := by
      unfold scaleR
      rw [if_pos ⟨(P_le h1).trans ha, hb.trans_le (P_le (by omega))⟩, least_eq h1 h2 ha hb]
    rw [hs, hi, e]
    refine ⟨rfl, ?_⟩
    unfold inverseR
    split
    · rename_i h; subst h; rw [if_neg (lt_irrefl _)]
    · rw [if_pos (P_lt (by omega)), div_P (by omega)]; congr 1; omega

end Dswiglu

end

end
-- ==== Proof.Codes.lean ====
/- The codes over the extended reals: the product with the selector puts each row's (or column's) reciprocal scale over the
   128 columns (or rows) of its group, so a code is the gradient times its own group's reciprocal, clipped. -/
module

public import proofs.«01_k».proof.Proof.Scale
public import proofs.«01_k».proof.Proof.SelectorWord
public import Idealize.ShloMosaic.Lib.Pointwise

@[expose] public section

noncomputable section

namespace Dswiglu

open Idealize.ShloMosaic

/-- The selector's entries, as the constant has them. -/
def IsSelector (ins : Ins Ideal) : Prop :=
  ∀ s k c, s < 4 → k < 128 → c < 256 → ins.sel s k c = Ideal.ofBits .bf16 (selWord (256 * s + 2 * k + c / 128))

theorem ofBits_bf16_one : Ideal.ofBits .bf16 0x3F80#16 = 1 := by
  show Ideal.ieee 8 7 0x3F80#16 = 1
  unfold Ideal.ieee
  simp only [show ((0x3F80#16).extractLsb' (8 + 7) 1 == 1#1) = false by decide,
    show ((0x3F80#16).extractLsb' 7 8).toNat = 127 by decide, show ((0x3F80#16).extractLsb' 0 7).toNat = 0 by decide]
  norm_num

theorem ofBits_bf16_zero : Ideal.ofBits .bf16 0x0000#16 = 0 := by
  show Ideal.ieee 8 7 0x0000#16 = 0
  unfold Ideal.ieee
  simp only [show ((0x0000#16).extractLsb' (8 + 7) 1 == 1#1) = false by decide,
    show ((0x0000#16).extractLsb' 7 8).toNat = 0 by decide, show ((0x0000#16).extractLsb' 0 7).toNat = 0 by decide]
  norm_num

theorem lane_lt {s h : ℕ} (hs : s < 4) (hh : h < 2) : lane s h < 8 := by
  unfold lane; split <;> omega

/-- A selector entry is one at its lane and zero elsewhere. -/
theorem IsSelector.apply {ins : Ins Ideal} (H : IsSelector ins) {s k c : ℕ} (hs : s < 4) (hk : k < 128) (hc : c < 256) :
    ins.sel s k c = if k = lane s (c / 128) then (1 : EReal) else 0 := by
  rw [H s k c hs hk hc]
  unfold selWord
  rw [show (256 * s + 2 * k + c / 128) / 2 % 128 = k by omega, show (256 * s + 2 * k + c / 128) / 256 = s by omega,
    show (256 * s + 2 * k + c / 128) % 2 = c / 128 by omega]
  split
  · exact ofBits_bf16_one
  · exact ofBits_bf16_zero

/-- The product with plane `s` of the selector at row `r` and column `c`: the reciprocal of the lane that the plane selects. -/
theorem SP_eq {ins : Ins Ideal} (H : IsSelector ins) (W j : ℕ) {s r c : ℕ} (hs : s < 4) (hr : r < 128) (hc : c < 256) :
    SP ins W j s r c = iv (AN ins W j (lane s (c / 128)) r) := by
  have hl := lane_lt hs (show c / 128 < 2 by omega)
  have e : SP ins W j s r c = ∑ k : Fin 128, LH ins W j r k.val * ins.sel s k.val c := by
    unfold SP spread
    simp only [Fin.ofNat, Nat.mod_eq_of_lt hr, Nat.mod_eq_of_lt hc]
    pointwise [selv, dims]
    rfl
  rw [e, Finset.sum_eq_single (⟨lane s (c / 128), by omega⟩ : Fin 128)]
  · rw [H.apply hs (by omega) hc, if_pos rfl, mul_one]
    unfold LH; rw [if_pos hl]; rfl
  · intro k _ hk
    rw [H.apply hs k.isLt hc, if_neg fun e => hk (Fin.ext e), mul_zero]
  · intro h; exact absurd (Finset.mem_univ _) h

theorem div_mod_row {R : ℕ} : 256 * (R / 256) + 128 * (R / 128 % 2) + R % 128 = R := by omega

/-- A row code: the gradient times the reciprocal scale of its row and column group. -/
theorem OC_eq {ins : Ins Ideal} (H : IsSelector ins) (R C : ℕ) : OC ins R C = cd (G ins R C) (iv (RM ins R (C / 128))) := by
  unfold OC
  rw [SP_eq H _ _ (by omega) (by omega) (by omega)]
  rw [show lane (R / 128 % 2) (C % 256 / 128) = 2 * (C % 256 / 128) + R / 128 % 2 by unfold lane; rw [if_pos (by omega)]; omega]
  rw [AN_row ins (by omega) (by omega), div_mod_row, show 2 * (C / 256) + C % 256 / 128 = C / 128 by omega]

/-- A column code: the gradient times the reciprocal scale of its column and row group. -/
theorem OT_eq {ins : Ins Ideal} (H : IsSelector ins) (C R : ℕ) : OT ins C R = cd (G ins R C) (iv (CM ins (R / 128) C)) := by
  unfold OT
  rw [SP_eq H _ _ (by omega) (by omega) (by omega)]
  rw [show lane (2 + C / 128 % 2) (R % 256 / 128) = 4 + 2 * (R % 256 / 128) + C / 128 % 2 by
    unfold lane; rw [if_neg (by omega)]; omega]
  rw [AN_col ins (by omega) (by omega), show 256 * (C / 256) + 128 * (C / 128 % 2) + C % 128 = C by omega,
    show 2 * (R / 256) + R % 256 / 128 = R / 128 by omega]

/-! ## The maxima -/

theorem mx_le {f : ℕ → EReal} {n : ℕ} {z : EReal} : mx (F := Ideal) f n ≤ z ↔ ∀ t ≤ n, f t ≤ z := by
  induction n with
  | zero => simp [mx]
  | succ n ih =>
    show max (mx (F := Ideal) f n) (f (n + 1)) ≤ z ↔ _
    rw [max_le_iff, ih]
    constructor
    · rintro ⟨a, b⟩ t ht
      rcases Nat.lt_or_ge n t with h | h
      · rwa [show t = n + 1 by omega]
      · exact a t h
    · intro h; exact ⟨fun t ht => h t (by omega), h _ le_rfl⟩

/-- The magnitude of an extended real. -/
def mag (v : EReal) : EReal := max v (-v)

/-- The greatest magnitude of `f 0 … f 127`, in any order. -/
def top (f : ℕ → EReal) : EReal := (Finset.univ : Finset (Fin 128)).fold max ⊥ fun i => mag (f i.val)

theorem top_le {f : ℕ → EReal} {z : EReal} : top f ≤ z ↔ ∀ i < 128, mag (f i) ≤ z := by
  unfold top
  rw [Finset.fold_max_le]
  exact ⟨fun h i hi => h.2 ⟨i, hi⟩ (Finset.mem_univ _), fun h => ⟨bot_le, fun i _ => h i.val i.isLt⟩⟩

/-- Eight times sixteen partial maxima make the greatest of 128. -/
theorem mx_mx (f : ℕ → EReal) : mx (F := Ideal) (fun s => mx (F := Ideal) (fun t => mag (f (8 * t + s))) 15) 7 = top f := by
  refine le_antisymm (mx_le.mpr fun s hs => mx_le.mpr fun t ht => top_le.mp le_rfl _ (by omega)) (top_le.mpr fun i hi => ?_)
  have h := mx_le.mp (mx_le.mp (le_refl (mx (F := Ideal) (fun s => mx (F := Ideal) (fun t => mag (f (8 * t + s))) 15) 7))
    (i % 8) (by omega)) (i / 8) (by omega)
  rwa [Nat.div_add_mod] at h

theorem RM_eq (ins : Ins Ideal) (R g : ℕ) : RM ins R g = top fun i => G ins R (128 * g + i) := mx_mx fun i => G ins R (128 * g + i)

theorem CM_eq (ins : Ins Ideal) (g C : ℕ) : CM ins g C = top fun i => G ins (128 * g + i) C := mx_mx fun i => G ins (128 * g + i) C

end Dswiglu

end

end
-- ==== Proof.Inputs.lean ====
/- The two input arrays by row and column. -/
module

public import proofs.«01_k».proof.Proof.Codes
public import proofs.«01_k».proof.Proof.Hold

@[expose] public section

noncomputable section

namespace Dswiglu

open Idealize.ShloMosaic

/-- The inputs by row and column: row `R` is position `R % 2048` of sequence `R / 2048`. (The gradient reads no selector.) -/
def glob (X : (⟨3, ![31, 2048, 2560]⟩ : Shape).Idx → Elt Ideal .bf16) (Y : (⟨3, ![31, 2048, 1280]⟩ : Shape).Idx → Elt Ideal .bf16) : Ins Ideal where
  sel := fun _ _ _ => (0 : EReal)
  x := fun R C => nat3 X (R / 2048) (R % 2048) C
  dy := fun R C => nat3 Y (R / 2048) (R % 2048) C

/-- Two magnitudes' maxima agree when the elements do. -/
theorem top_congr {f f' : ℕ → EReal} (h : ∀ i < 128, f i = f' i) : top f = top f' := by
  unfold top
  exact congrArg (fun f => Finset.fold max ⊥ f Finset.univ) (funext fun k => by rw [h _ k.isLt])

/-- The gradient at row `R` of a block whose rows are rows `o + R` of the arrays. -/
theorem G_shift {I J : Ins Ideal} {o R C : ℕ} (hx : ∀ C < 2560, I.x R C = J.x (o + R) C) (hy : ∀ C < 1280, I.dy R C = J.dy (o + R) C)
    (hC : C < 2560) : G I R C = G J (o + R) C := by
  unfold G
  by_cases h : C % 256 < 128
  · rw [if_pos h, if_pos h, hx _ hC, hx _ (by omega : C + 128 < 2560), hy _ (by omega : 128 * (C / 256) + C % 256 < 1280)]
  · rw [if_neg h, if_neg h, hx _ (by omega : C - 128 < 2560), hy _ (by omega : 128 * (C / 256) + (C % 256 - 128) < 1280)]

end Dswiglu

end

end
-- ==== Proof.KerValue.lean ====
/- What the kernel computes: its four results, element by element, over the extended reals. -/
module

public import proofs.«01_k».proof.Proof.DataIdeal
public import proofs.«01_k».proof.Proof.Inputs
public import Idealize.ShloMosaic.Lib.Pipeline.Value
public import Idealize.ShloMosaic.Lib.StableHlo.RunRead
public import Idealize.ShloMosaic.Lib.Pointwise

@[expose] public section

noncomputable section

namespace Cert.KernelIdeal

open Cert.KernelIdeal.Gen Dswiglu Idealize.ShloMosaic Idealize.ShloMosaic.TcCoe Idealize.ShloMosaic.Tactic Idealize.SL.Sem

variable (m : (ℓ : Loc nD τ sig) → Buf (Elt Ideal) ℓ)

/-- Core `c`'s inputs. -/
def inp (c : Dev nD) : Ins Ideal := glob (m ((c : Thread nD τ).loc main_arg0)) (m ((c : Thread nD τ).loc main_arg1))

theorem V_x (c : Dev nD) : V m c main_v0 = shapeCast S63488x2560 (m ((c : Thread nD τ).loc main_arg0)) shapeCasts_S31x2048x2560_S63488x2560 := by
  unfold V; after_reads_simp; rfl
theorem V_dy (c : Dev nD) : V m c main_v1 = shapeCast S63488x1280 (m ((c : Thread nD τ).loc main_arg1)) shapeCasts_S31x2048x1280_S63488x1280 := by
  unfold V; after_reads_simp; rfl
theorem V_sel (c : Dev nD) : V m c main_cst = fun i => Ideal.ofBits .bf16 (lit0 (S4x128x256.rowMajor i)) := by
  unfold V; after_reads_simp; rfl

/-- The block of each window at a point. -/
theorem index_eq : ∀ t : Fin cfg0.N, (win0_1.index t 0 = t.val ∧ win0_1.index t 1 = 0) ∧ (win0_2.index t 0 = t.val ∧ win0_2.index t 1 = 0)
    ∧ (win0_3.index t 0 = t.val ∧ win0_3.index t 1 = 0) ∧ (win0_4.index t 0 = 0 ∧ win0_4.index t 1 = t.val)
    ∧ (win0_5.index t 0 = 0 ∧ win0_5.index t 1 = t.val) ∧ (win0_6.index t 0 = t.val ∧ win0_6.index t 1 = 0)
    ∧ (win0_0.index t 0 = 0 ∧ win0_0.index t 1 = 0 ∧ win0_0.index t 2 = 0) :=
  (by decide +kernel)

theorem pt_lt (t : Fin cfg0.N) : t.val < 62 := t.isLt

/-- The reshaped array at row `R`. -/
theorem flat_x (X : S31x2048x2560.Idx → EReal) {R C : ℕ} (hR : R < 63488) (hC : C < 2560) :
    shapeCast S63488x2560 X shapeCasts_S31x2048x2560_S63488x2560 (ix2 ⟨R, hR⟩ ⟨C, hC⟩) = nat3 X (R / 2048) (R % 2048) C := by
  rw [nat3_apply X (by omega : R / 2048 < 31) (by omega : R % 2048 < 2048) hC]
  pointwise

/-- The reshaped array at row `R`. -/
theorem flat_dy (X : S31x2048x1280.Idx → EReal) {R C : ℕ} (hR : R < 63488) (hC : C < 1280) :
    shapeCast S63488x1280 X shapeCasts_S31x2048x1280_S63488x1280 (ix2 ⟨R, hR⟩ ⟨C, hC⟩) = nat3 X (R / 2048) (R % 2048) C := by
  rw [nat3_apply X (by omega : R / 2048 < 31) (by omega : R % 2048 < 2048) hC]
  pointwise

theorem ins_x (c : Dev nD) (t : Fin cfg0.N) {r C : ℕ} (hr : r < 1024) (hC : C < 2560) : (ins m c t).x r C = (inp m c).x (1024 * t.val + r) C := by
  have ht := pt_lt t
  show nat2 (iblk m c 1 t : S1024x2560.Idx → EReal) r C = nat3 (m ((c : Thread nD τ).loc main_arg0) : S31x2048x2560.Idx → EReal) _ _ C
  rw [nat2_apply _ hr hC]
  unfold iblk
  rw [View.read_apply]
  show V m c main_v0 _ = _
  rw [V_x]
  refine (congrArg (shapeCast S63488x2560 (m ((c : Thread nD τ).loc main_arg0) : S31x2048x2560.Idx → EReal) shapeCasts_S31x2048x2560_S63488x2560) (show _ = (ix2 ⟨1024 * t.val + r, by omega⟩ ⟨C, hC⟩ : S63488x2560.Idx) from ?_)).trans ?_
  · funext a
    apply Fin.ext
    match a with
    | ⟨0, _⟩ => show win0_1.index t 0 * 1024 + 1 * r = 1024 * t.val + r; rw [(index_eq t).1.1]; omega
    | ⟨1, _⟩ => show win0_1.index t 1 * 2560 + 1 * C = C; rw [(index_eq t).1.2]; omega
  exact flat_x _ (by omega) hC

theorem ins_dy (c : Dev nD) (t : Fin cfg0.N) {r C : ℕ} (hr : r < 1024) (hC : C < 1280) : (ins m c t).dy r C = (inp m c).dy (1024 * t.val + r) C := by
  have ht := pt_lt t
  show nat2 (iblk m c 2 t : S1024x1280.Idx → EReal) r C = nat3 (m ((c : Thread nD τ).loc main_arg1) : S31x2048x1280.Idx → EReal) _ _ C
  rw [nat2_apply _ hr hC]
  unfold iblk
  rw [View.read_apply]
  show V m c main_v1 _ = _
  rw [V_dy]
  refine (congrArg (shapeCast S63488x1280 (m ((c : Thread nD τ).loc main_arg1) : S31x2048x1280.Idx → EReal) shapeCasts_S31x2048x1280_S63488x1280) (show _ = (ix2 ⟨1024 * t.val + r, by omega⟩ ⟨C, hC⟩ : S63488x1280.Idx) from ?_)).trans ?_
  · funext a
    apply Fin.ext
    match a with
    | ⟨0, _⟩ => show win0_2.index t 0 * 1024 + 1 * r = 1024 * t.val + r; rw [(index_eq t).2.1.1]; omega
    | ⟨1, _⟩ => show win0_2.index t 1 * 1280 + 1 * C = C; rw [(index_eq t).2.1.2]; omega
  exact flat_dy _ (by omega) hC

/-- The selector a point reads, from what the table's words are. -/
theorem ins_sel (H : ∀ i : Fin 131072, lit0 i = selWord (i.val / 128)) (c : Dev nD) (t : Fin cfg0.N) : IsSelector (ins m c t) := by
  intro s k C hs hk hC
  show nat3 (iblk m c 0 t : S4x128x256.Idx → EReal) s k C = _
  rw [nat3_apply _ hs hk hC]
  unfold iblk
  rw [View.read_apply]
  show V m c main_cst _ = _
  rw [V_sel]
  refine (congrArg (fun i : S4x128x256.Idx => Ideal.ofBits .bf16 (lit0 (S4x128x256.rowMajor i))) (show _ = (ix3 ⟨s, hs⟩ ⟨k, hk⟩ ⟨C, hC⟩ : S4x128x256.Idx) from ?_)).trans ?_
  · funext a
    apply Fin.ext
    match a with
    | ⟨0, _⟩ => show win0_0.index t 0 * 4 + 1 * s = s; rw [(index_eq t).2.2.2.2.2.2.1]; omega
    | ⟨1, _⟩ => show win0_0.index t 1 * 128 + 1 * k = k; rw [(index_eq t).2.2.2.2.2.2.2.1]; omega
    | ⟨2, _⟩ => show win0_0.index t 2 * 256 + 1 * C = C; rw [(index_eq t).2.2.2.2.2.2.2.2]; omega
  show Ideal.ofBits .bf16 (lit0 (S4x128x256.rowMajor (ix3 ⟨s, hs⟩ ⟨k, hk⟩ ⟨C, hC⟩))) = _
  have e : (S4x128x256.rowMajor (ix3 ⟨s, hs⟩ ⟨k, hk⟩ ⟨C, hC⟩)).val = 32768 * s + 256 * k + C := by
    rw [Shape.rowMajor_val_three]
    show (s * 128 + k) * 256 + C = _
    omega
  refine congrArg (Ideal.ofBits .bf16) ((H _).trans ?_)
  rw [e, show (32768 * s + 256 * k + C) / 128 = 256 * s + 2 * k + C / 128 by omega]

/-! ## A point's values by the arrays' rows -/

theorem G_eq (c : Dev nD) (t : Fin cfg0.N) {r C : ℕ} (hr : r < 1024) (hC : C < 2560) :
    G (ins m c t) r C = G (inp m c) (1024 * t.val + r) C :=
  G_shift (fun C hC => ins_x m c t hr hC) (fun C hC => ins_dy m c t hr hC) hC

theorem RM_shift (c : Dev nD) (t : Fin cfg0.N) {r g : ℕ} (hr : r < 1024) (hg : g < 20) :
    RM (ins m c t) r g = RM (inp m c) (1024 * t.val + r) g := by
  rw [RM_eq, RM_eq]
  exact top_congr fun i hi => G_eq m c t hr (by omega)

theorem CM_shift (c : Dev nD) (t : Fin cfg0.N) {g C : ℕ} (hg : g < 8) (hC : C < 2560) :
    CM (ins m c t) g C = CM (inp m c) (8 * t.val + g) C := by
  rw [CM_eq, CM_eq]
  refine top_congr fun i hi => (G_eq m c t (by omega) hC).trans ?_
  rw [show 1024 * t.val + (128 * g + i) = 128 * (8 * t.val + g) + i by omega]

/-! ## The four results -/

/-- The codes, -/
def codes (c : Dev nD) (R C : ℕ) : EReal := cd (F := Ideal) (G (inp m c) R C) (iv (F := Ideal) (RM (inp m c) R (C / 128)))
/-- the row scales, -/
def scales (c : Dev nD) (R g : ℕ) : EReal := sc (F := Ideal) (RM (inp m c) R g)
/-- the codes by columns, -/
def codesT (c : Dev nD) (C R : ℕ) : EReal := cd (F := Ideal) (G (inp m c) R C) (iv (F := Ideal) (CM (inp m c) (R / 128) C))
/-- and the column scales. -/
def scalesT (c : Dev nD) (C g : ℕ) : EReal := sc (F := Ideal) (CM (inp m c) g C)

variable (H : ∀ i : Fin 131072, lit0 i = selWord (i.val / 128))

/-- An array read through window 3's block at a point. -/
theorem read3 (f : ℕ → ℕ → EReal) (t : Fin cfg0.N) :
    ((cfg0.win 3).blk t).view.read (Elt Ideal) (vec2 f : S63488x2560.Idx → EReal) = (vec2 fun r k => f (1024 * t.val + r) (k) : S1024x2560.Idx → EReal) := by
  funext y
  rw [View.read_apply]
  show f (win0_3.index t 0 * 1024 + 1 * (y 0).val) (win0_3.index t 1 * 2560 + 1 * (y 1).val) = f (1024 * t.val + (y 0).val) ((y 1).val)
  rw [(index_eq t).2.2.1.1, (index_eq t).2.2.1.2]
  congr 1 <;> omega

include H in
theorem flushed3_eq (c : Dev nD) (t : Fin cfg0.N) :
    (dats m 0 c).flushed 3 t = ((cfg0.win 3).blk t).view.read (Elt Ideal) (vec2 (codes m c) : S63488x2560.Idx → EReal) := by
  show (cfg0.win 3).cut (grid0.coords t) ((dats m 0 c).after 3 t) = _
  rw [after_3, read3]
  have e : oCodes m c t = (vec2 fun r k => (codes m c) (1024 * t.val + r) (k) : S1024x2560.Idx → EReal) := by
    unfold oCodes
    refine vec2_congr fun r hr k hk => ?_
    rw [OC_eq (ins_sel m H c t), G_eq m c t hr hk, RM_shift m c t hr (by omega)]
    rfl
  exact congrArg ((cfg0.win 3).cut (grid0.coords t)) e

include H in
theorem final3 (c : Dev nD) : (dats m 0 c).arrAt 3 cfg0.N = (vec2 (codes m c) : S63488x2560.Idx → EReal) :=
  (dats m 0 c).arrAt_eq_of_cover 3 (vec2 (codes m c) : S63488x2560.Idx → EReal) (fun t _ => flushed3_eq m H c t) fun i => by
    have h0 : (i 0 : Nat) < 63488 := (i 0).isLt
    have h1 : (i 1 : Nat) < 2560 := (i 1).isLt
    have hp : (i 0).val / 1024 < cfg0.N := show _ < 62 by omega
    refine ⟨⟨(i 0).val / 1024, hp⟩, flush0_3 _, ?_⟩
    show i ∈ ((View.whole main_v2_0).slice (win0_3.rect ⟨(i 0).val / 1024, hp⟩)).set
    rw [View.set_slice_whole, Rect.mem_set_unit]
    have e := (index_eq ⟨(i 0).val / 1024, hp⟩).2.2.1
    intro a
    match a with
    | ⟨0, _⟩ => show win0_3.index ⟨(i 0).val / 1024, hp⟩ 0 * 1024 ≤ (i 0 : Nat) ∧ (i 0 : Nat) < win0_3.index ⟨(i 0).val / 1024, hp⟩ 0 * 1024 + 1024
                rw [e.1]; dsimp only; omega
    | ⟨1, _⟩ => show win0_3.index ⟨(i 0).val / 1024, hp⟩ 1 * 2560 ≤ (i 1 : Nat) ∧ (i 1 : Nat) < win0_3.index ⟨(i 0).val / 1024, hp⟩ 1 * 2560 + 2560
                rw [e.2]; omega

/-- An array read through window 4's block at a point. -/
theorem read4 (f : ℕ → ℕ → EReal) (t : Fin cfg0.N) :
    ((cfg0.win 4).blk t).view.read (Elt Ideal) (vec2 f : S20x63488.Idx → EReal) = (vec2 fun r k => f (r) (1024 * t.val + k) : S20x1024.Idx → EReal) := by
  funext y
  rw [View.read_apply]
  show f (win0_4.index t 0 * 20 + 1 * (y 0).val) (win0_4.index t 1 * 1024 + 1 * (y 1).val) = f ((y 0).val) (1024 * t.val + (y 1).val)
  rw [(index_eq t).2.2.2.1.1, (index_eq t).2.2.2.1.2]
  congr 1 <;> omega

theorem flushed4_eq (c : Dev nD) (t : Fin cfg0.N) :
    (dats m 0 c).flushed 4 t = ((cfg0.win 4).blk t).view.read (Elt Ideal) (vec2 (fun g R => scales m c R g) : S20x63488.Idx → EReal) := by
  show (cfg0.win 4).cut (grid0.coords t) ((dats m 0 c).after 4 t) = _
  rw [after_4, read4]
  have e : oScales m c t = (vec2 fun r k => (fun g R => scales m c R g) (r) (1024 * t.val + k) : S20x1024.Idx → EReal) := by
    unfold oScales
    refine vec2_congr fun r hr k hk => ?_
    rw [RM_shift m c t hk hr]
    rfl
  exact congrArg ((cfg0.win 4).cut (grid0.coords t)) e

theorem final4 (c : Dev nD) : (dats m 0 c).arrAt 4 cfg0.N = (vec2 (fun g R => scales m c R g) : S20x63488.Idx → EReal) :=
  (dats m 0 c).arrAt_eq_of_cover 4 (vec2 (fun g R => scales m c R g) : S20x63488.Idx → EReal) (fun t _ => flushed4_eq m c t) fun i => by
    have h0 : (i 0 : Nat) < 20 := (i 0).isLt
    have h1 : (i 1 : Nat) < 63488 := (i 1).isLt
    have hp : (i 1).val / 1024 < cfg0.N := show _ < 62 by omega
    refine ⟨⟨(i 1).val / 1024, hp⟩, flush0_4 _, ?_⟩
    show i ∈ ((View.whole main_v2_1).slice (win0_4.rect ⟨(i 1).val / 1024, hp⟩)).set
    rw [View.set_slice_whole, Rect.mem_set_unit]
    have e := (index_eq ⟨(i 1).val / 1024, hp⟩).2.2.2.1
    intro a
    match a with
    | ⟨0, _⟩ => show win0_4.index ⟨(i 1).val / 1024, hp⟩ 0 * 20 ≤ (i 0 : Nat) ∧ (i 0 : Nat) < win0_4.index ⟨(i 1).val / 1024, hp⟩ 0 * 20 + 20
                rw [e.1]; omega
    | ⟨1, _⟩ => show win0_4.index ⟨(i 1).val / 1024, hp⟩ 1 * 1024 ≤ (i 1 : Nat) ∧ (i 1 : Nat) < win0_4.index ⟨(i 1).val / 1024, hp⟩ 1 * 1024 + 1024
                rw [e.2]; dsimp only; omega

/-- An array read through window 5's block at a point. -/
theorem read5 (f : ℕ → ℕ → EReal) (t : Fin cfg0.N) :
    ((cfg0.win 5).blk t).view.read (Elt Ideal) (vec2 f : S2560x63488.Idx → EReal) = (vec2 fun r k => f (r) (1024 * t.val + k) : S2560x1024.Idx → EReal) := by
  funext y
  rw [View.read_apply]
  show f (win0_5.index t 0 * 2560 + 1 * (y 0).val) (win0_5.index t 1 * 1024 + 1 * (y 1).val) = f ((y 0).val) (1024 * t.val + (y 1).val)
  rw [(index_eq t).2.2.2.2.1.1, (index_eq t).2.2.2.2.1.2]
  congr 1 <;> omega

include H in
theorem flushed5_eq (c : Dev nD) (t : Fin cfg0.N) :
    (dats m 0 c).flushed 5 t = ((cfg0.win 5).blk t).view.read (Elt Ideal) (vec2 (codesT m c) : S2560x63488.Idx → EReal) := by
  show (cfg0.win 5).cut (grid0.coords t) ((dats m 0 c).after 5 t) = _
  rw [after_5, read5]
  have e : oCodesT m c t = (vec2 fun r k => (codesT m c) (r) (1024 * t.val + k) : S2560x1024.Idx → EReal) := by
    unfold oCodesT
    refine vec2_congr fun r hr k hk => ?_
    rw [OT_eq (ins_sel m H c t), G_eq m c t hk hr, CM_shift m c t (by omega) hr]
    unfold codesT
    rw [show (1024 * t.val + k) / 128 = 8 * t.val + k / 128 by omega]
  exact congrArg ((cfg0.win 5).cut (grid0.coords t)) e

include H in
theorem final5 (c : Dev nD) : (dats m 0 c).arrAt 5 cfg0.N = (vec2 (codesT m c) : S2560x63488.Idx → EReal) :=
  (dats m 0 c).arrAt_eq_of_cover 5 (vec2 (codesT m c) : S2560x63488.Idx → EReal) (fun t _ => flushed5_eq m H c t) fun i => by
    have h0 : (i 0 : Nat) < 2560 := (i 0).isLt
    have h1 : (i 1 : Nat) < 63488 := (i 1).isLt
    have hp : (i 1).val / 1024 < cfg0.N := show _ < 62 by omega
    refine ⟨⟨(i 1).val / 1024, hp⟩, flush0_5 _, ?_⟩
    show i ∈ ((View.whole main_v2_2).slice (win0_5.rect ⟨(i 1).val / 1024, hp⟩)).set
    rw [View.set_slice_whole, Rect.mem_set_unit]
    have e := (index_eq ⟨(i 1).val / 1024, hp⟩).2.2.2.2.1
    intro a
    match a with
    | ⟨0, _⟩ => show win0_5.index ⟨(i 1).val / 1024, hp⟩ 0 * 2560 ≤ (i 0 : Nat) ∧ (i 0 : Nat) < win0_5.index ⟨(i 1).val / 1024, hp⟩ 0 * 2560 + 2560
                rw [e.1]; omega
    | ⟨1, _⟩ => show win0_5.index ⟨(i 1).val / 1024, hp⟩ 1 * 1024 ≤ (i 1 : Nat) ∧ (i 1 : Nat) < win0_5.index ⟨(i 1).val / 1024, hp⟩ 1 * 1024 + 1024
                rw [e.2]; dsimp only; omega

/-- An array read through window 6's block at a point. -/
theorem read6 (f : ℕ → ℕ → EReal) (t : Fin cfg0.N) :
    ((cfg0.win 6).blk t).view.read (Elt Ideal) (vec2 f : S496x2560.Idx → EReal) = (vec2 fun r k => f (8 * t.val + r) (k) : S8x2560.Idx → EReal) := by
  funext y
  rw [View.read_apply]
  show f (win0_6.index t 0 * 8 + 1 * (y 0).val) (win0_6.index t 1 * 2560 + 1 * (y 1).val) = f (8 * t.val + (y 0).val) ((y 1).val)
  rw [(index_eq t).2.2.2.2.2.1.1, (index_eq t).2.2.2.2.2.1.2]
  congr 1 <;> omega

theorem flushed6_eq (c : Dev nD) (t : Fin cfg0.N) :
    (dats m 0 c).flushed 6 t = ((cfg0.win 6).blk t).view.read (Elt Ideal) (vec2 (fun g C => scalesT m c C g) : S496x2560.Idx → EReal) := by
  show (cfg0.win 6).cut (grid0.coords t) ((dats m 0 c).after 6 t) = _
  rw [after_6, read6]
  have e : oScalesT m c t = (vec2 fun r k => (fun g C => scalesT m c C g) (8 * t.val + r) (k) : S8x2560.Idx → EReal) := by
    unfold oScalesT
    refine vec2_congr fun r hr k hk => ?_
    rw [CM_shift m c t hr hk]
    rfl
  exact congrArg ((cfg0.win 6).cut (grid0.coords t)) e

theorem final6 (c : Dev nD) : (dats m 0 c).arrAt 6 cfg0.N = (vec2 (fun g C => scalesT m c C g) : S496x2560.Idx → EReal) :=
  (dats m 0 c).arrAt_eq_of_cover 6 (vec2 (fun g C => scalesT m c C g) : S496x2560.Idx → EReal) (fun t _ => flushed6_eq m c t) fun i => by
    have h0 : (i 0 : Nat) < 496 := (i 0).isLt
    have h1 : (i 1 : Nat) < 2560 := (i 1).isLt
    have hp : (i 0).val / 8 < cfg0.N := show _ < 62 by omega
    refine ⟨⟨(i 0).val / 8, hp⟩, flush0_6 _, ?_⟩
    show i ∈ ((View.whole main_v2_3).slice (win0_6.rect ⟨(i 0).val / 8, hp⟩)).set
    rw [View.set_slice_whole, Rect.mem_set_unit]
    have e := (index_eq ⟨(i 0).val / 8, hp⟩).2.2.2.2.2.1
    intro a
    match a with
    | ⟨0, _⟩ => show win0_6.index ⟨(i 0).val / 8, hp⟩ 0 * 8 ≤ (i 0 : Nat) ∧ (i 0 : Nat) < win0_6.index ⟨(i 0).val / 8, hp⟩ 0 * 8 + 8
                rw [e.1]; dsimp only; omega
    | ⟨1, _⟩ => show win0_6.index ⟨(i 0).val / 8, hp⟩ 1 * 2560 ≤ (i 1 : Nat) ∧ (i 1 : Nat) < win0_6.index ⟨(i 0).val / 8, hp⟩ 1 * 2560 + 2560
                rw [e.2]; omega

end Cert.KernelIdeal

end

end
-- ==== Proof.KerRun.lean ====
/- The kernel's run: its four results by element. -/
module

public import proofs.«01_k».proof.Proof.KerValue

@[expose] public section

noncomputable section

namespace Cert.KernelIdeal

open Cert.KernelIdeal.Gen Dswiglu Idealize.ShloMosaic Idealize.ShloMosaic.TcCoe Idealize.ShloMosaic.Tactic Idealize.SL.Sem

variable (m : (ℓ : Loc nD τ sig) → Buf (Elt Ideal) ℓ)

theorem arr_inj : Function.Injective (Pipeline.arrRef (cfgs 0).spec) := by
  decide

/-- The host's first transpose after the call reads the array of window 4, -/
theorem W_v3 (c : Dev nD) : Pipeline.afterTail₀ cfgs (dats m) 0 (V0 m) [hostOps1] c main_v3
    = transpose S63488x20 [1, 0] ((dats m 0 c).arrAt 4 cfg0.N : S20x63488.Idx → EReal) transposes_S20x63488_S63488x20_1_0 := by
  unfold Pipeline.afterTail₀
  after_reads_simp
  exact congrArg (fun X : S20x63488.Idx → EReal => transpose S63488x20 [1, 0] X transposes_S20x63488_S63488x20_1_0)
    (Pipeline.withArrays_arr (cfgs 0).spec arr_inj c (V0 m c) (fun w => (dats m 0 c).arrAt w (cfgs 0).N) 4)

/-- the second that of window 6. -/
theorem W_v4 (c : Dev nD) : Pipeline.afterTail₀ cfgs (dats m) 0 (V0 m) [hostOps1] c main_v4
    = transpose S2560x496 [1, 0] ((dats m 0 c).arrAt 6 cfg0.N : S496x2560.Idx → EReal) transposes_S496x2560_S2560x496_1_0 := by
  unfold Pipeline.afterTail₀
  after_reads_simp
  exact congrArg (fun X : S496x2560.Idx → EReal => transpose S2560x496 [1, 0] X transposes_S496x2560_S2560x496_1_0)
    (Pipeline.withArrays_arr (cfgs 0).spec arr_inj c (V0 m c) (fun w => (dats m 0 c).arrAt w (cfgs 0).N) 6)

/-- The transposes swap the two coordinates. -/
theorem swap4 (X : S20x63488.Idx → EReal) (R : Fin 63488) (g : Fin 20) :
    transpose S63488x20 [1, 0] X transposes_S20x63488_S63488x20_1_0 (ix2 R g) = X (ix2 g R) := by
  pointwise

theorem swap6 (X : S496x2560.Idx → EReal) (C : Fin 2560) (g : Fin 496) :
    transpose S2560x496 [1, 0] X transposes_S496x2560_S2560x496_1_0 (ix2 C g) = X (ix2 g C) := by
  pointwise

/-- An array of `f` by the two coordinates, transposed. -/
theorem swapped4 (f : ℕ → ℕ → EReal) : transpose S63488x20 [1, 0] (vec2 f : S20x63488.Idx → EReal) transposes_S20x63488_S63488x20_1_0
    = (vec2 fun R g => f g R : S63488x20.Idx → EReal) := by
  funext i
  rw [eq_ix2 i]
  refine (swap4 _ _ _).trans ?_
  rfl

theorem swapped6 (f : ℕ → ℕ → EReal) : transpose S2560x496 [1, 0] (vec2 f : S496x2560.Idx → EReal) transposes_S496x2560_S2560x496_1_0
    = (vec2 fun C g => f g C : S2560x496.Idx → EReal) := by
  funext i
  rw [eq_ix2 i]
  refine (swap6 _ _ _).trans ?_
  rfl

theorem out3 (c : Dev nD) :
    Pipeline.afterTail₀ cfgs (dats m) 0 (V0 m) [hostOps1] c main_v3 = (vec2 (scales m c) : S63488x20.Idx → EReal) :=
  (W_v3 m c).trans ((congrArg (fun X : S20x63488.Idx → EReal => transpose S63488x20 [1, 0] X transposes_S20x63488_S63488x20_1_0) (final4 m c)).trans
    (swapped4 fun g R => scales m c R g))

theorem out4 (c : Dev nD) :
    Pipeline.afterTail₀ cfgs (dats m) 0 (V0 m) [hostOps1] c main_v4 = (vec2 (scalesT m c) : S2560x496.Idx → EReal) :=
  (W_v4 m c).trans ((congrArg (fun X : S496x2560.Idx → EReal => transpose S2560x496 [1, 0] X transposes_S496x2560_S2560x496_1_0) (final6 m c)).trans
    (swapped6 fun g C => scalesT m c C g))

/-- The kernel's run: its four results by element, the arguments unchanged. -/
theorem run (H : ∀ i : Fin 131072, lit0 i = selWord (i.val / 128)) (ρ : Dev nD → PrngReg) :
    θ_run defs (onTc (τ := τ) (main (F := Ideal))) ⟨m, fun _ => 0, ρ⟩ fun r => ∀ c : Dev nD,
      r.2.mem ((c : Thread nD τ).loc main_v2_0) = (vec2 (codes m c) : S63488x2560.Idx → EReal)
      ∧ r.2.mem ((c : Thread nD τ).loc main_v3) = (vec2 (scales m c) : S63488x20.Idx → EReal)
      ∧ r.2.mem ((c : Thread nD τ).loc main_v2_2) = (vec2 (codesT m c) : S2560x63488.Idx → EReal)
      ∧ r.2.mem ((c : Thread nD τ).loc main_v4) = (vec2 (scalesT m c) : S2560x496.Idx → EReal)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 3).trans (final3 m H c),
      ((h c).2 main_v3 (Pipeline.mem_restRefs_of main_v3 (by decide) (by decide))).trans (out3 m c),
      ((h c).1 5).trans (final5 m H c),
      ((h c).2 main_v4 (Pipeline.mem_restRefs_of main_v4 (by decide) (by decide))).trans (out4 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩) (run_main m ρ)

end Cert.KernelIdeal

end

end
-- ==== Proof.RefVec.lean ====
/- The reference's host lines as functions of whole arrays: the gradient, and for rows and for columns the scaled greatest
   magnitude, the scale, its reciprocal and the clipped quotient. -/
module

public import proofs.«01_k».proof.Proof.Gen.ReferenceIdeal.Value
public import Idealize.ShloMosaic.Lib.StableHlo.RunRead

@[expose] public section

noncomputable section

namespace Cert.ReferenceIdeal

open Cert.ReferenceIdeal.Gen Idealize.ShloMosaic Idealize.ShloMosaic.TcCoe Idealize.SL.Sem

variable {F : FTy → Type} [FloatOps F]

/-- The first (`o = 0`) or second 128 columns of each pair. -/
def gateV (x : Vec F S31x2048x2560 .bf16) : Vec F S63488x10x128 .f32 :=
  shapeCast S63488x10x128 (extractStridedSlice S63488x10x1x128 ![0, 0, 0, 0]
    (extf .f32 (shapeCast S63488x10x2x128 x shapeCasts_S31x2048x2560_S63488x10x2x128) bitsLt_bf16_f32)
    slices_S63488x10x2x128_S63488x10x1x128_0_0_0_0) shapeCasts_S63488x10x1x128_S63488x10x128

def upV (x : Vec F S31x2048x2560 .bf16) : Vec F S63488x10x128 .f32 :=
  shapeCast S63488x10x128 (extractStridedSlice S63488x10x1x128 ![0, 0, 1, 0]
    (extf .f32 (shapeCast S63488x10x2x128 x shapeCasts_S31x2048x2560_S63488x10x2x128) bitsLt_bf16_f32)
    slices_S63488x10x2x128_S63488x10x1x128_0_0_1_0) shapeCasts_S63488x10x1x128_S63488x10x128

def dyV (dy : Vec F S31x2048x1280 .bf16) : Vec F S63488x10x128 .f32 :=
  extf .f32 (shapeCast S63488x10x128 dy shapeCasts_S31x2048x1280_S63488x10x128) bitsLt_bf16_f32

/-- The constant one over the pairs. -/
def oneV : Vec F S63488x10x128 .f32 := broadcastInDim S63488x10x128 ![] bcast_S_S63488x10x128 (constant S_ .f32 0x3F800000#32)

/-- The sigmoid. -/
def sigV (g : Vec F S63488x10x128 .f32) : Vec F S63488x10x128 .f32 :=
  Host.divf oneV (addf oneV (Host.exp (Host.negf g)))

/-- The gradient by the gate. -/
def dgV (g u d : Vec F S63488x10x128 .f32) : Vec F S63488x10x128 .f32 :=
  mulf (mulf (mulf d u) (sigV g)) (addf oneV (mulf g (subf oneV (sigV g))))

/-- The gradient by the other half. -/
def duV (g d : Vec F S63488x10x128 .f32) : Vec F S63488x10x128 .f32 := mulf (mulf d g) (sigV g)

/-- Both, interleaved by 128 columns. -/
def dxV (a b : Vec F S63488x10x128 .f32) : Vec F S63488x2560 .f32 :=
  shapeCast S63488x2560 (concatenate S63488x10x2x128 2
    [⟨S63488x10x1x128, broadcastInDim S63488x10x1x128 ![0, 1, 3] bcast_S63488x10x128_S63488x10x1x128_0_1_3 a⟩,
     ⟨S63488x10x1x128, broadcastInDim S63488x10x1x128 ![0, 1, 3] bcast_S63488x10x128_S63488x10x1x128_0_1_3 b⟩]
    concatenates_S63488x10x1x128_S63488x10x1x128_S63488x10x2x128_d2) shapeCasts_S63488x10x2x128_S63488x2560

/-- The gradient array. -/
def gradV (x : Vec F S31x2048x2560 .bf16) (dy : Vec F S31x2048x1280 .bf16) : Vec F S63488x2560 .f32 :=
  dxV (dgV (gateV x) (upV x) (dyV dy)) (duV (gateV x) (dyV dy))

/-- The powers of two. -/
def powersV : Vec F S253 .f32 := fun i => FloatOps.ofBits .f32 (lit0 (S253.rowMajor i))

/-! ## By rows -/

def rowsV (v : Vec F S63488x2560 .f32) : Vec F S63488x20x128 .f32 := shapeCast S63488x20x128 v shapeCasts_S63488x2560_S63488x20x128

def rowMaxV (v : Vec F S63488x20x128 .f32) : Vec F S63488x20x1 .f32 :=
  mulf (broadcastInDim S63488x20x1 ![0, 1] bcast_S63488x20_S63488x20x1_0_1
      (Host.reduce FloatOps.maximumf (Host.absf v) (constant S_ .f32 0xFF800000#32) reducesTo_S63488x20x128_S63488x20_d2 h_S_))
    (broadcastInDim S63488x20x1 ![] bcast_S_S63488x20x1 (constant S_ .f32 0x3B124925#32))

def rowScaleV (m : Vec F S63488x20x1 .f32) : Vec F S63488x20x1 .f32 :=
  select (andi (cmpf .oge m (broadcastInDim S63488x20x1 ![] bcast_S_S63488x20x1 (constant S_ .f32 0x00800000#32)))
      (cmpf .olt m (broadcastInDim S63488x20x1 ![] bcast_S_S63488x20x1 (constant S_ .f32 0x7F000000#32))))
    (Host.reduce FloatOps.minimumf (select
        (cmpf .olt (broadcastInDim S63488x20x1x253 ![0, 1, 2, 3] bcast_S63488x20x1x1_S63488x20x1x253_0_1_2_3
            (broadcastInDim S63488x20x1x1 ![0, 1, 2] bcast_S63488x20x1_S63488x20x1x1_0_1_2 m))
          (broadcastInDim S63488x20x1x253 ![0, 1, 2, 3] bcast_S1x1x1x253_S63488x20x1x253_0_1_2_3
            (broadcastInDim S1x1x1x253 ![3] bcast_S253_S1x1x1x253_3 powersV)))
        (broadcastInDim S63488x20x1x253 ![3] bcast_S253_S63488x20x1x253_3 powersV)
        (broadcastInDim S63488x20x1x253 ![] bcast_S_S63488x20x1x253 (constant S_ .f32 0x7F800000#32)))
      (constant S_ .f32 0x7F800000#32) reducesTo_S63488x20x1x253_S63488x20x1_d3 h_S_)
    (broadcastInDim S63488x20x1 ![] bcast_S_S63488x20x1 (constant S_ .f32 0x3F800000#32))

def rowInvV (s : Vec F S63488x20x1 .f32) : Vec F S63488x20x1 .f32 :=
  select (cmpf .olt s (broadcastInDim S63488x20x1 ![] bcast_S_S63488x20x1 (constant S_ .f32 0x7F000000#32)))
    (Host.divf (broadcastInDim S63488x20x1 ![] bcast_S_S63488x20x1 (constant S_ .f32 0x3F800000#32)) s)
    (broadcastInDim S63488x20x1 ![] bcast_S_S63488x20x1 (constant S_ .f32 0x00000000#32))

def rowQuoV (v : Vec F S63488x20x128 .f32) (i : Vec F S63488x20x1 .f32) : Vec F S63488x20x128 .f32 :=
  minimumf (broadcastInDim S63488x20x128 ![] bcast_S_S63488x20x128 (constant S_ .f32 0x43E00000#32))
    (maximumf (broadcastInDim S63488x20x128 ![] bcast_S_S63488x20x128 (constant S_ .f32 0xC3E00000#32))
      (mulf v (broadcastInDim S63488x20x128 ![0, 1, 2] bcast_S63488x20x1_S63488x20x128_0_1_2 i)))

/-! ## By columns -/

def colsV (v : Vec F S63488x2560 .f32) : Vec F S496x128x2560 .f32 := shapeCast S496x128x2560 v shapeCasts_S63488x2560_S496x128x2560

def colMaxV (v : Vec F S496x128x2560 .f32) : Vec F S496x1x2560 .f32 :=
  mulf (broadcastInDim S496x1x2560 ![0, 2] bcast_S496x2560_S496x1x2560_0_2
      (Host.reduce FloatOps.maximumf (Host.absf v) (constant S_ .f32 0xFF800000#32) reducesTo_S496x128x2560_S496x2560_d1 h_S_))
    (broadcastInDim S496x1x2560 ![] bcast_S_S496x1x2560 (constant S_ .f32 0x3B124925#32))

def colScaleV (m : Vec F S496x1x2560 .f32) : Vec F S496x1x2560 .f32 :=
  select (andi (cmpf .oge m (broadcastInDim S496x1x2560 ![] bcast_S_S496x1x2560 (constant S_ .f32 0x00800000#32)))
      (cmpf .olt m (broadcastInDim S496x1x2560 ![] bcast_S_S496x1x2560 (constant S_ .f32 0x7F000000#32))))
    (Host.reduce FloatOps.minimumf (select
        (cmpf .olt (broadcastInDim S496x1x2560x253 ![0, 1, 2, 3] bcast_S496x1x2560x1_S496x1x2560x253_0_1_2_3
            (broadcastInDim S496x1x2560x1 ![0, 1, 2] bcast_S496x1x2560_S496x1x2560x1_0_1_2 m))
          (broadcastInDim S496x1x2560x253 ![0, 1, 2, 3] bcast_S1x1x1x253_S496x1x2560x253_0_1_2_3
            (broadcastInDim S1x1x1x253 ![3] bcast_S253_S1x1x1x253_3 powersV)))
        (broadcastInDim S496x1x2560x253 ![3] bcast_S253_S496x1x2560x253_3 powersV)
        (broadcastInDim S496x1x2560x253 ![] bcast_S_S496x1x2560x253 (constant S_ .f32 0x7F800000#32)))
      (constant S_ .f32 0x7F800000#32) reducesTo_S496x1x2560x253_S496x1x2560_d3 h_S_)
    (broadcastInDim S496x1x2560 ![] bcast_S_S496x1x2560 (constant S_ .f32 0x3F800000#32))

def colInvV (s : Vec F S496x1x2560 .f32) : Vec F S496x1x2560 .f32 :=
  select (cmpf .olt s (broadcastInDim S496x1x2560 ![] bcast_S_S496x1x2560 (constant S_ .f32 0x7F000000#32)))
    (Host.divf (broadcastInDim S496x1x2560 ![] bcast_S_S496x1x2560 (constant S_ .f32 0x3F800000#32)) s)
    (broadcastInDim S496x1x2560 ![] bcast_S_S496x1x2560 (constant S_ .f32 0x00000000#32))

def colQuoV (v : Vec F S496x128x2560 .f32) (i : Vec F S496x1x2560 .f32) : Vec F S496x128x2560 .f32 :=
  minimumf (broadcastInDim S496x128x2560 ![] bcast_S_S496x128x2560 (constant S_ .f32 0x43E00000#32))
    (maximumf (broadcastInDim S496x128x2560 ![] bcast_S_S496x128x2560 (constant S_ .f32 0xC3E00000#32))
      (mulf v (broadcastInDim S496x128x2560 ![0, 1, 2] bcast_S496x1x2560_S496x128x2560_0_1_2 i)))

variable (m : (ℓ : Loc nD τ sig) → Buf (Elt F) ℓ)

/-- The gradient array of core `c`'s arguments. -/
def gradOf (c : Dev nD) : Vec F S63488x2560 .f32 := gradV (m ((c : Thread nD τ).loc main_arg0)) (m ((c : Thread nD τ).loc main_arg1))

set_option maxRecDepth 8000 in
/-- The row scales as returned. -/
theorem V_scales (c : Dev nD) : V m c main_v82 = shapeCast S63488x20 (rowScaleV (rowMaxV (rowsV (gradOf m c)))) shapeCasts_S63488x20x1_S63488x20 := by
  unfold V; after_reads_simp
  simp -implicitDefEqProofs only [StableHlo.TRef.toBuf, StableHlo.TRef.ofBuf, cast_cast, cast_eq]
  unfold rowScaleV rowMaxV rowsV gradOf gradV dxV powersV dgV duV sigV gateV upV dyV oneV
  rfl

set_option maxRecDepth 8000 in
/-- The column scales as returned. -/
theorem V_scalesT (c : Dev nD) : V m c main_v84 = transpose S2560x496 [1, 0] (shapeCast S496x2560 (colScaleV (colMaxV (colsV (gradOf m c)))) shapeCasts_S496x1x2560_S496x2560) transposes_S496x2560_S2560x496_1_0 := by
  unfold V; after_reads_simp
  simp -implicitDefEqProofs only [StableHlo.TRef.toBuf, StableHlo.TRef.ofBuf, cast_cast, cast_eq]
  unfold colScaleV colMaxV colsV gradOf gradV dxV powersV dgV duV sigV gateV upV dyV oneV
  rfl

set_option maxRecDepth 8000 in
/-- The quotients by rows, before the cast. -/
theorem V_quo (c : Dev nD) : V m c main_v85 = shapeCast S63488x2560 (rowQuoV (rowsV (gradOf m c)) (rowInvV (rowScaleV (rowMaxV (rowsV (gradOf m c)))))) shapeCasts_S63488x20x128_S63488x2560 := by
  unfold V; after_reads_simp
  simp -implicitDefEqProofs only [StableHlo.TRef.toBuf, StableHlo.TRef.ofBuf, cast_cast, cast_eq]
  unfold rowQuoV rowInvV rowScaleV rowMaxV rowsV gradOf gradV dxV powersV dgV duV sigV gateV upV dyV oneV
  rfl

set_option maxRecDepth 8000 in
/-- The quotients by columns, transposed, before the cast. -/
theorem V_quoT (c : Dev nD) : V m c main_v87 = transpose S2560x63488 [1, 0] (shapeCast S63488x2560 (colQuoV (colsV (gradOf m c)) (colInvV (colScaleV (colMaxV (colsV (gradOf m c)))))) shapeCasts_S496x128x2560_S63488x2560) transposes_S63488x2560_S2560x63488_1_0 := by
  unfold V; after_reads_simp
  simp -implicitDefEqProofs only [StableHlo.TRef.toBuf, StableHlo.TRef.ofBuf, cast_cast, cast_eq]
  unfold colQuoV colInvV colScaleV colMaxV colsV gradOf gradV dxV powersV dgV duV sigV gateV upV dyV oneV
  rfl

end Cert.ReferenceIdeal

end

end
-- ==== Proof.RefRead.lean ====
/- The reference's whole-array functions read at an index, over the extended reals. -/
module

public import proofs.«01_k».proof.Proof.RefVec
public import proofs.«01_k».proof.Proof.Inputs
public import Idealize.ShloMosaic.Lib.Pointwise

@[expose] public section

noncomputable section

namespace Cert.ReferenceIdeal

open Cert.ReferenceIdeal.Gen Dswiglu Idealize.ShloMosaic Idealize.ShloMosaic.Tactic

/-- The reference's powers are those of `pw`. -/
theorem lit0_pw : ∀ k : Fin 253, lit0 (S253.rowMajor (ix1 k)) = pw (k.val + 2) := by decide +kernel

/-- Power `k` of the table. -/
theorem power_eq (k : Fin 253) : Ideal.ofBits .f32 (lit0 (S253.rowMajor (ix1 k))) = P (k.val + 2) := by
  rw [lit0_pw, ofBits_pw (by omega) (by omega)]

theorem word_P1 : Ideal.ofBits .f32 0x00800000#32 = P 1 := ofBits_pw (n := 1) (by omega) (by omega)
theorem word_P254 : Ideal.ofBits .f32 0x7F000000#32 = P 254 := ofBits_pw (n := 254) (by omega) (by omega)
theorem word_top : Ideal.ofBits .f32 0x7F800000#32 = ⊤ := by simp [Ideal.ofBits, Ideal.ieee]
theorem word_bot : Ideal.ofBits .f32 0xFF800000#32 = ⊥ := by simp [Ideal.ofBits, Ideal.ieee]

/-- A reference's choice of scale for one number is `scaleR`. -/
theorem scale_read (m : EReal) :
    Scalar.select (IntOp.andi (BitVec.ofBool (decide (Ideal.ofBits FTy.f32 8388608#32 ≤ m))) (BitVec.ofBool (decide (m < Ideal.ofBits FTy.f32 2130706432#32))))
      ((Finset.univ : Finset (Fin 253)).fold min (Ideal.ofBits FTy.f32 2139095040#32) (fun x =>
          if m < Ideal.ofBits FTy.f32 (lit0 (S253.rowMajor (ix1 x))) then Ideal.ofBits FTy.f32 (lit0 (S253.rowMajor (ix1 x)))
          else Ideal.ofBits FTy.f32 2139095040#32)) 1 = scaleR m := by
  simp only [power_eq, word_P1, word_P254, word_top]
  unfold scaleR
  rw [P_one]
  by_cases h1 : P 1 ≤ m <;> by_cases h2 : m < P 254 <;> simp only [h1, h2, decide_true, decide_false, and_true, and_false, true_and, false_and, if_true, if_false] <;> rfl

/-! ## By rows -/

/-- The scaled greatest magnitudes, from the greatest. -/
theorem rowOver_apply (w : Vec Ideal S63488x20 .f32) (R : Fin 63488) (g : Fin 20) (z : Fin 1) :
    mulf (F := Ideal) (φ := .f32) (broadcastInDim S63488x20x1 ![0, 1] bcast_S63488x20_S63488x20x1_0_1 w)
      (broadcastInDim S63488x20x1 ![] bcast_S_S63488x20x1 (constant S_ .f32 0x3B124925#32)) (ix3 R g z) = over (w (ix2 R g)) := by
  pointwise
  rfl

/-- The greatest magnitude of each group of 128 columns. -/
theorem rowTop_apply (v : FVec Ideal S63488x20x128 .f32) (c : FVec Ideal S_ .f32) (R : Fin 63488) (g : Fin 20) :
    Host.reduce FloatOps.maximumf v c reducesTo_S63488x20x128_S63488x20_d2 h_S_ (ix2 R g)
      = (Finset.univ : Finset (Fin 128)).fold max (c (Shape.Idx.first h_S_)) fun k => v (ix3 R g k) := by
  simp only [pointwise]

/-- The array by groups of columns. -/
theorem rows_apply (v : Vec Ideal S63488x2560 .f32) (R : Fin 63488) (g : Fin 20) (k : Fin 128) :
    rowsV (F := Ideal) v (ix3 R g k) = nat2 v R.val (128 * g.val + k.val) := by
  have := g.isLt; have := k.isLt
  rw [nat2_apply v R.isLt (by omega : 128 * g.val + k.val < 2560)]
  pointwise [rowsV]
  simp only [Nat.mul_comm]

theorem rowMax_apply (v : Vec Ideal S63488x2560 .f32) (R : Fin 63488) (g : Fin 20) (z : Fin 1) :
    rowMaxV (F := Ideal) (rowsV v) (ix3 R g z) = over (top fun i => nat2 v R.val (128 * g.val + i)) := by
  unfold rowMaxV
  refine (rowOver_apply _ R g z).trans (congrArg over ?_)
  refine (rowTop_apply _ _ R g).trans ?_
  unfold top
  have e : constant (F := Ideal) S_ .f32 0xFF800000#32 (Shape.Idx.first h_S_) = ⊥ := word_bot
  rw [e]
  refine congrArg (fun f => Finset.fold max ⊥ f Finset.univ) (funext fun k => ?_)
  show mag (rowsV v (ix3 R g k)) = _
  rw [rows_apply]

theorem rowScale_apply (mx : Vec Ideal S63488x20x1 .f32) (R : Fin 63488) (g : Fin 20) (z : Fin 1) :
    rowScaleV (F := Ideal) mx (ix3 R g z) = scaleR (mx (ix3 R g z)) := by
  obtain rfl : z = 0 := Subsingleton.elim _ _
  pointwise [rowScaleV, powersV]
  exact scale_read _

theorem rowInv_apply (s : Vec Ideal S63488x20x1 .f32) (i) :
    rowInvV (F := Ideal) s i = inverseR (s i) := by
  pointwise [rowInvV]
  rw [word_P254, ← P_one]
  rfl

/-- One number over its scale, held to the range. -/
def quo (v i : EReal) : EReal := min (Ideal.ofBits .f32 0x43E00000#32) (max (Ideal.ofBits .f32 0xC3E00000#32) (v * i))

theorem rowQuo_apply (v : Vec Ideal S63488x2560 .f32) (s : Vec Ideal S63488x20x1 .f32) {R C : ℕ} (hR : R < 63488) (hC : C < 2560) :
    shapeCast S63488x2560 (rowQuoV (F := Ideal) (rowsV v) s) shapeCasts_S63488x20x128_S63488x2560 (ix2 ⟨R, hR⟩ ⟨C, hC⟩)
      = quo (nat2 v R C) (s (ix3 ⟨R, hR⟩ ⟨C / 128, by omega⟩ 0)) := by
  rw [nat2_apply v hR hC]
  pointwise [rowQuoV, rowsV]
  simp only [show C / 128 * 128 + C % 128 = C by omega]
  rfl

/-! ## By columns -/

theorem colOver_apply (w : Vec Ideal S496x2560 .f32) (g : Fin 496) (z : Fin 1) (C : Fin 2560) :
    mulf (F := Ideal) (φ := .f32) (broadcastInDim S496x1x2560 ![0, 2] bcast_S496x2560_S496x1x2560_0_2 w)
      (broadcastInDim S496x1x2560 ![] bcast_S_S496x1x2560 (constant S_ .f32 0x3B124925#32)) (ix3 g z C) = over (w (ix2 g C)) := by
  pointwise
  rfl

theorem colTop_apply (v : FVec Ideal S496x128x2560 .f32) (c : FVec Ideal S_ .f32) (g : Fin 496) (C : Fin 2560) :
    Host.reduce FloatOps.maximumf v c reducesTo_S496x128x2560_S496x2560_d1 h_S_ (ix2 g C)
      = (Finset.univ : Finset (Fin 128)).fold max (c (Shape.Idx.first h_S_)) fun k => v (ix3 g k C) := by
  simp only [pointwise]

theorem cols_apply (v : Vec Ideal S63488x2560 .f32) (g : Fin 496) (k : Fin 128) (C : Fin 2560) :
    colsV (F := Ideal) v (ix3 g k C) = nat2 v (128 * g.val + k.val) C.val := by
  have := g.isLt; have := k.isLt
  rw [nat2_apply v (by omega : 128 * g.val + k.val < 63488) C.isLt]
  pointwise [colsV]
  simp only [Nat.mul_comm]

theorem colMax_apply (v : Vec Ideal S63488x2560 .f32) (g : Fin 496) (z : Fin 1) (C : Fin 2560) :
    colMaxV (F := Ideal) (colsV v) (ix3 g z C) = over (top fun i => nat2 v (128 * g.val + i) C.val) := by
  unfold colMaxV
  refine (colOver_apply _ g z C).trans (congrArg over ?_)
  refine (colTop_apply _ _ g C).trans ?_
  unfold top
  have e : constant (F := Ideal) S_ .f32 0xFF800000#32 (Shape.Idx.first h_S_) = ⊥ := word_bot
  rw [e]
  refine congrArg (fun f => Finset.fold max ⊥ f Finset.univ) (funext fun k => ?_)
  show mag (colsV v (ix3 g k C)) = _
  rw [cols_apply]

theorem colScale_apply (mx : Vec Ideal S496x1x2560 .f32) (g : Fin 496) (z : Fin 1) (C : Fin 2560) :
    colScaleV (F := Ideal) mx (ix3 g z C) = scaleR (mx (ix3 g z C)) := by
  obtain rfl : z = 0 := Subsingleton.elim _ _
  pointwise [colScaleV, powersV]
  exact scale_read _

theorem colInv_apply (s : Vec Ideal S496x1x2560 .f32) (i) :
    colInvV (F := Ideal) s i = inverseR (s i) := by
  pointwise [colInvV]
  rw [word_P254, ← P_one]
  rfl

theorem colQuo_apply (v : Vec Ideal S63488x2560 .f32) (s : Vec Ideal S496x1x2560 .f32) {R C : ℕ} (hR : R < 63488) (hC : C < 2560) :
    transpose S2560x63488 [1, 0] (shapeCast S63488x2560 (colQuoV (F := Ideal) (colsV v) s) shapeCasts_S496x128x2560_S63488x2560)
        transposes_S63488x2560_S2560x63488_1_0 (ix2 ⟨C, hC⟩ ⟨R, hR⟩)
      = quo (nat2 v R C) (s (ix3 ⟨R / 128, by omega⟩ 0 ⟨C, hC⟩)) := by
  rw [nat2_apply v hR hC]
  pointwise [colQuoV, colsV]
  simp only [show R / 128 * 128 + R % 128 = R by omega]
  rfl

/-! ## The gradient -/

theorem gaS_eq (g u d : EReal) : gaS (F := Ideal) g u d
    = d * u * Ideal.div 1 (1 + Ideal.exp (-g)) * (1 + g * (1 - Ideal.div 1 (1 + Ideal.exp (-g)))) := by
  unfold gaS gradA sg
  pointwise
  rw [zero_sub]

theorem gbS_eq (g d : EReal) : gbS (F := Ideal) g d = d * g * Ideal.div 1 (1 + Ideal.exp (-g)) := by
  unfold gbS gradB sg
  pointwise
  rw [zero_sub]

theorem wd_eq (x : EReal) : wd (F := Ideal) x = x := rfl

/-- The gradient array is the kernel's gradient, element by element. -/
theorem grad_apply (X : Vec Ideal S31x2048x2560 .bf16) (Y : Vec Ideal S31x2048x1280 .bf16) {R C : ℕ} (hR : R < 63488) (hC : C < 2560) :
    gradV X Y (ix2 ⟨R, hR⟩ ⟨C, hC⟩) = G (glob X Y) R C := by
  have h1 : R / 2048 < 31 := by omega
  have h2 : R % 2048 < 2048 := by omega
  by_cases h : C % 256 < 128
  · have e : G (glob X Y) R C = gaS (nat3 X (R / 2048) (R % 2048) C) (nat3 X (R / 2048) (R % 2048) (C + 128))
        (nat3 Y (R / 2048) (R % 2048) (128 * (C / 256) + C % 256)) := by unfold G; rw [if_pos h]; rfl
    rw [e, gaS_eq, nat3_apply X h1 h2 hC, nat3_apply X h1 h2 (by omega : C + 128 < 2560),
      nat3_apply Y h1 h2 (by omega : 128 * (C / 256) + C % 256 < 1280)]
    pointwise [gradV, dxV, dgV, duV, sigV, oneV, gateV, upV, dyV]
    rw [dif_pos (by omega)]
    simp only [show C / 256 * 128 + C % 128 = 128 * (C / 256) + C % 256 by omega, show C / 256 * 256 + C % 128 = C by omega,
      show C / 256 * 256 + 128 + C % 128 = C + 128 by omega]
  · have e : G (glob X Y) R C = gbS (nat3 X (R / 2048) (R % 2048) (C - 128))
        (nat3 Y (R / 2048) (R % 2048) (128 * (C / 256) + (C % 256 - 128))) := by unfold G; rw [if_neg h]; rfl
    rw [e, gbS_eq, nat3_apply X h1 h2 (by omega : C - 128 < 2560),
      nat3_apply Y h1 h2 (by omega : 128 * (C / 256) + (C % 256 - 128) < 1280)]
    pointwise [gradV, dxV, dgV, duV, sigV, oneV, gateV, upV, dyV]
    rw [dif_neg (by omega)]
    simp only [show C / 256 * 128 + C % 128 = 128 * (C / 256) + (C % 256 - 128) by omega, show C / 256 * 256 + C % 128 = C - 128 by omega]

end Cert.ReferenceIdeal

end

end
-- ==== Proof.RefValue.lean ====
/- What the reference computes: its four results, element by element, over the extended reals. -/
module

public import proofs.«01_k».proof.Proof.RefRead
public import Idealize.ShloMosaic.Lib.Pipeline.Value

@[expose] public section

noncomputable section

namespace Cert.ReferenceIdeal

open Cert.ReferenceIdeal.Gen Dswiglu Idealize.ShloMosaic Idealize.ShloMosaic.TcCoe Idealize.ShloMosaic.Tactic Idealize.SL.Sem

variable (m : (ℓ : Loc nD τ sig) → Buf (Elt Ideal) ℓ)

/-- Core `c`'s inputs. -/
def inp (c : Dev nD) : Ins Ideal := glob (m ((c : Thread nD τ).loc main_arg0)) (m ((c : Thread nD τ).loc main_arg1))

theorem grad_nat (c : Dev nD) {R C : ℕ} (hR : R < 63488) (hC : C < 2560) : nat2 (gradOf m c) R C = G (inp m c) R C := by
  rw [nat2_apply _ hR hC]; exact grad_apply _ _ hR hC

/-- The row scales. -/
theorem rowScale_eq (c : Dev nD) (R : Fin 63488) (g : Fin 20) (z : Fin 1) :
    rowScaleV (rowMaxV (rowsV (gradOf m c))) (ix3 R g z) = scaleR (over (RM (inp m c) R.val g.val)) := by
  rw [rowScale_apply, rowMax_apply, RM_eq, top_congr fun i hi => grad_nat m c R.isLt (by have := g.isLt; omega)]

/-- The column scales. -/
theorem colScale_eq (c : Dev nD) (g : Fin 496) (z : Fin 1) (C : Fin 2560) :
    colScaleV (colMaxV (colsV (gradOf m c))) (ix3 g z C) = scaleR (over (CM (inp m c) g.val C.val)) := by
  rw [colScale_apply, colMax_apply, CM_eq, top_congr fun i hi => grad_nat m c (by have := g.isLt; omega) C.isLt]

theorem scales_eq (c : Dev nD) : V m c main_v82 = vec2 fun R g => sc (F := Ideal) (RM (inp m c) R g) := by
  rw [V_scales]
  funext i
  rw [eq_ix2 i]
  refine (show _ = rowScaleV (F := Ideal) (rowMaxV (rowsV (gradOf m c))) (ix3 (i 0) (i 1) 0) from ?_).trans
    ((rowScale_eq m c _ _ _).trans (sc_eq _).1.symm)
  generalize rowScaleV (F := Ideal) (rowMaxV (rowsV (gradOf m c))) = w
  pointwise

theorem scalesT_eq (c : Dev nD) : V m c main_v84 = vec2 fun C g => sc (F := Ideal) (CM (inp m c) g C) := by
  rw [V_scalesT]
  funext i
  rw [eq_ix2 i]
  refine (show _ = colScaleV (F := Ideal) (colMaxV (colsV (gradOf m c))) (ix3 (i 1) 0 (i 0)) from ?_).trans
    ((colScale_eq m c _ _ _).trans (sc_eq _).1.symm)
  generalize colScaleV (F := Ideal) (colMaxV (colsV (gradOf m c))) = w
  pointwise

/-- A code from its element and the group's greatest magnitude. -/
theorem quo_eq (v a : EReal) : quo v (inverseR (scaleR (over a))) = cd (F := Ideal) v (iv (F := Ideal) a) := by
  rw [(sc_eq a).2]; rfl

theorem quo_rows (c : Dev nD) : V m c main_v85 = vec2 fun R C => cd (F := Ideal) (G (inp m c) R C) (iv (F := Ideal) (RM (inp m c) R (C / 128))) := by
  rw [V_quo]
  funext i
  rw [eq_ix2 i]
  refine (rowQuo_apply _ _ (i 0).isLt (i 1).isLt).trans ?_
  rw [rowInv_apply, rowScale_eq, grad_nat m c (i 0).isLt (i 1).isLt, quo_eq]
  rfl

theorem quo_cols (c : Dev nD) : V m c main_v87 = vec2 fun C R => cd (F := Ideal) (G (inp m c) R C) (iv (F := Ideal) (CM (inp m c) (R / 128) C)) := by
  rw [V_quoT]
  funext i
  rw [eq_ix2 i]
  refine (colQuo_apply _ _ (i 1).isLt (i 0).isLt).trans ?_
  rw [colInv_apply, colScale_eq, grad_nat m c (i 1).isLt (i 0).isLt, quo_eq]
  rfl

/-! ## The two arrays the call returns -/

/-- The one point. -/
abbrev pt : Fin cfg0.N := ⟨0, by decide⟩

theorem hz : (![0, 0] : Fin 2 → Nat) = fun _ => 0 := funext fun a => by fin_cases a <;> rfl

/-- The call reads the whole array of quotients by rows, -/
theorem block0 (c : Dev nD) (t : Fin cfg0.N) : (iblk m c 0 t : S63488x2560.Idx → EReal) = V m c main_v85 := by
  have hz' : (fun a => win0_0.index t a * main_v85.ty.shape.size a) = fun _ => 0 := funext fun a => Nat.zero_mul _
  exact Memref.read_access_unit_zero (Elt Ideal) main_v85 hz' (fun a => by rw [congrFun hz' a]; simp) (V m c main_v85)

/-- writes it back whole, the cast being the identity over the extended reals, -/
theorem flushed2_eq (c : Dev nD) (t : Fin cfg0.N) :
    (dats m 0 c).flushed 2 t = ((cfg0.win 2).blk t).view.read (Elt Ideal) (V m c main_v85 : S63488x2560.Idx → EReal) := by
  rw [Value.flushed2]
  unfold out0_2
  rw [View.canon_unit_zero hz]
  have e : k0_pay1 (F := Ideal) (View.ld (iblk m c 0 t) r0_0) = (V m c main_v85 : S63488x2560.Idx → EReal) := by
    rw [block0, View.ld_unit_zero (S := S63488x2560) hz]
    unfold k0_pay1
    rw [shapeCast_self]
    rfl
  refine (congrArg ((cfg0.win 2).cut (grid0.coords t)) e).trans ?_
  have hz' : (fun a => win0_2.index t a * main_v88_0.ty.shape.size a) = fun _ => 0 := funext fun a => Nat.zero_mul _
  exact (Memref.read_access_unit_zero (Elt Ideal) main_v88_0 hz' (fun a => by rw [congrFun hz' a]; simp) (V m c main_v85)).symm

/-- and so returns it. -/
theorem final2 (c : Dev nD) : (dats m 0 c).arrAt 2 cfg0.N = (V m c main_v85 : S63488x2560.Idx → EReal) :=
  (dats m 0 c).arrAt_eq_of_cover 2 (V m c main_v85 : S63488x2560.Idx → EReal) (fun t _ => flushed2_eq m c t) fun i =>
    ⟨pt, by decide, by
      show i ∈ ((View.whole main_v88_0).slice (win0_2.rect pt)).set
      rw [View.set_slice_whole, Rect.mem_set_unit]
      intro a
      have h0 : (i 0 : Nat) < 63488 := (i 0).isLt
      have h1 : (i 1 : Nat) < 2560 := (i 1).isLt
      match a with
      | ⟨0, _⟩ => show 0 * 63488 ≤ (i 0 : Nat) ∧ (i 0 : Nat) < 0 * 63488 + 63488; omega
      | ⟨1, _⟩ => show 0 * 2560 ≤ (i 1 : Nat) ∧ (i 1 : Nat) < 0 * 2560 + 2560; omega⟩

/-- The call reads the whole array of quotients by columns, -/
theorem block1 (c : Dev nD) (t : Fin cfg0.N) : (iblk m c 1 t : S2560x63488.Idx → EReal) = V m c main_v87 := by
  have hz' : (fun a => win0_1.index t a * main_v87.ty.shape.size a) = fun _ => 0 := funext fun a => Nat.zero_mul _
  exact Memref.read_access_unit_zero (Elt Ideal) main_v87 hz' (fun a => by rw [congrFun hz' a]; simp) (V m c main_v87)

/-- writes it back whole, the cast being the identity over the extended reals, -/
theorem flushed3_eq (c : Dev nD) (t : Fin cfg0.N) :
    (dats m 0 c).flushed 3 t = ((cfg0.win 3).blk t).view.read (Elt Ideal) (V m c main_v87 : S2560x63488.Idx → EReal) := by
  rw [Value.flushed3]
  unfold out0_3
  rw [View.canon_unit_zero hz]
  have e : k0_pay2 (F := Ideal) (View.ld (iblk m c 1 t) r0_1) = (V m c main_v87 : S2560x63488.Idx → EReal) := by
    rw [block1, View.ld_unit_zero (S := S2560x63488) hz]
    unfold k0_pay2
    rw [shapeCast_self]
    rfl
  refine (congrArg ((cfg0.win 3).cut (grid0.coords t)) e).trans ?_
  have hz' : (fun a => win0_3.index t a * main_v88_1.ty.shape.size a) = fun _ => 0 := funext fun a => Nat.zero_mul _
  exact (Memref.read_access_unit_zero (Elt Ideal) main_v88_1 hz' (fun a => by rw [congrFun hz' a]; simp) (V m c main_v87)).symm

/-- and so returns it. -/
theorem final3 (c : Dev nD) : (dats m 0 c).arrAt 3 cfg0.N = (V m c main_v87 : S2560x63488.Idx → EReal) :=
  (dats m 0 c).arrAt_eq_of_cover 3 (V m c main_v87 : S2560x63488.Idx → EReal) (fun t _ => flushed3_eq m c t) fun i =>
    ⟨pt, by decide, by
      show i ∈ ((View.whole main_v88_1).slice (win0_3.rect pt)).set
      rw [View.set_slice_whole, Rect.mem_set_unit]
      intro a
      have h0 : (i 0 : Nat) < 2560 := (i 0).isLt
      have h1 : (i 1 : Nat) < 63488 := (i 1).isLt
      match a with
      | ⟨0, _⟩ => show 0 * 2560 ≤ (i 0 : Nat) ∧ (i 0 : Nat) < 0 * 2560 + 2560; omega
      | ⟨1, _⟩ => show 0 * 63488 ≤ (i 1 : Nat) ∧ (i 1 : Nat) < 0 * 63488 + 63488; omega⟩

/-- The reference's run: its four results by element, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v88_0) = (vec2 (fun R C => cd (F := Ideal) (G (inp m c) R C) (iv (F := Ideal) (RM (inp m c) R (C / 128)))) : S63488x2560.Idx → EReal)
      ∧ r.2.mem ((c : Thread nD τ).loc main_v82) = (vec2 (fun R g => sc (F := Ideal) (RM (inp m c) R g)) : S63488x20.Idx → EReal)
      ∧ r.2.mem ((c : Thread nD τ).loc main_v88_1) = (vec2 (fun C R => cd (F := Ideal) (G (inp m c) R C) (iv (F := Ideal) (CM (inp m c) (R / 128) C))) : S2560x63488.Idx → EReal)
      ∧ r.2.mem ((c : Thread nD τ).loc main_v84) = (vec2 (fun C g => sc (F := Ideal) (CM (inp m c) g C)) : S2560x496.Idx → EReal)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(Value.post2 m r h c).trans ((final2 m c).trans (quo_rows m c)),
      ((h c).2 main_v82 (Pipeline.mem_restRefs_of main_v82 (by decide) (by decide))).trans (scales_eq m c),
      (Value.post3 m r h c).trans ((final3 m c).trans (quo_cols m c)),
      ((h c).2 main_v84 (Pipeline.mem_restRefs_of main_v84 (by decide) (by decide))).trans (scalesT_eq m c),
      Value.kept_main_arg0 m r h c, Value.kept_main_arg1 m r h c⟩) (Gen.run_main m ρ)

end Cert.ReferenceIdeal

end

end
-- ==== Proof.lean ====
module

public import proofs.«01_k».proof.Defs
public import proofs.«01_k».proof.Proof.DataKernel
public import proofs.«01_k».proof.Proof.DataIdeal
public import proofs.«01_k».proof.Proof.Selector
public import proofs.«01_k».proof.Proof.KerRun
public import proofs.«01_k».proof.Proof.RefValue
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value

@[expose] public section

noncomputable section

namespace Cert.Proof

open Idealize.ShloMosaic Idealize.SL.Sem

/-- From the same arguments, the kernel and the reference end with the same four results over the extended reals. -/
theorem algebraic : algebraic_KernelIdeal_ReferenceIdeal (hKernelIdeal := Cert.KernelIdeal.Gen.facts) (hReferenceIdeal := Cert.ReferenceIdeal.Gen.facts) := by
  intro m ρ m' ρ' _ hm
  have hi : ∀ c : Dev Cert.KernelIdeal.nD, Cert.ReferenceIdeal.inp m' c = Cert.KernelIdeal.inp m c := fun c => by
    unfold Cert.ReferenceIdeal.inp Cert.KernelIdeal.inp
    exact congrArg₂ Dswiglu.glob (hm c).1 (hm c).2
  refine ⟨_, _, _, _, Cert.KernelIdeal.run m Dswiglu.lit0_eq ρ, ?_⟩
  refine (θ_run Cert.ReferenceIdeal.defs _ _).mono (fun r h c => ?_) (Cert.ReferenceIdeal.run m' ρ')
  have h := h c
  rw [hi c] at h
  exact h

/-- Everything claimed. -/
theorem claim : Cert.Claim := ⟨Cert.Kernel.Gen.facts, Cert.KernelIdeal.Gen.facts, Cert.ReferenceIdeal.Gen.facts,
  fun m ρ _ => Cert.Kernel.frame m ρ, fun m ρ _ => Cert.KernelIdeal.frame m ρ, fun m ρ _ => Cert.ReferenceIdeal.Gen.frame m ρ,
  trivial, algebraic⟩

end Cert.Proof

end
